-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sizes [hPre_sizes : Cert.Pre_sizes.Facts] (m : (ℓ : Loc Cert.KernelIdeal.nD Cert.KernelIdeal.τ Cert.KernelIdeal.sig) → Buf (Elt Ideal) ℓ) : Prop :=
  ∀ c : Dev Cert.KernelIdeal.nD,
    (Cert.Pre_sizes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes [hPre_sizes : Cert.Pre_sizes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_sizes [hKernelIdeal : Cert.KernelIdeal.Facts] [hPre_sizes : Cert.Pre_sizes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sizes m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_sizes [hReferenceIdeal : Cert.ReferenceIdeal.Facts] [hPre_sizes : Cert.Pre_sizes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_sizes [hKernelIdeal : Cert.KernelIdeal.Facts] [hReferenceIdeal : Cert.ReferenceIdeal.Facts] [hPre_sizes : Cert.Pre_sizes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sizes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_sizes : Cert.Pre_sizes.Facts),
    quiescent_Kernel (hKernel := hKernel)
    ∧ quiescent_KernelIdeal (hKernelIdeal := hKernelIdeal)
    ∧ quiescent_KernelIdeal_pre_sizes (hKernelIdeal := hKernelIdeal) (hPre_sizes := hPre_sizes)
    ∧ quiescent_ReferenceIdeal (hReferenceIdeal := hReferenceIdeal)
    ∧ quiescent_ReferenceIdeal_pre_sizes (hReferenceIdeal := hReferenceIdeal) (hPre_sizes := hPre_sizes)
    ∧ preserves_Kernel_KernelIdeal
    ∧ algebraic_KernelIdeal_ReferenceIdeal_pre_sizes (hKernelIdeal := hKernelIdeal) (hReferenceIdeal := hReferenceIdeal) (hPre_sizes := hPre_sizes)
-- ==== Pre_sizes.lean ====
abbrev S319600x128 : Shape := ⟨2, ![319600, 128]⟩
abbrev S800 : Shape := ⟨1, ![800]⟩
abbrev S319600 : Shape := ⟨1, ![319600]⟩
abbrev S_ : Shape := ⟨0, ![]⟩

class Facts : Prop where
  reducesTo_S800_S_d0 : S800.ReducesTo [0] S_
  h_S_ : 0 < S_.numel
  bcast_S_S319600 : S_.BroadcastsInDim S319600 (![] : Fin 0 → Fin S319600.rank)
  reducesTo_S319600_S_d0 : S319600.ReducesTo [0] S_

variable [Facts]

def fn {F : FTy → Type} [FloatOps F] (main_arg0 : FVec F S319600x128 .f32) (main_arg1 : IVec S800 32) (main_arg2 : IVec S319600 32) : IVec S_ 1 :=
  let main_v0 : IVec S800 32 := iotaInDim S800 32 0
  let main_v1 : IVec S800 1 := cmpi .eq main_arg1 main_v0
  let main_c : IVec S_ 1 := constantI S_ 1 1#1
  let main_v2 : IVec S_ 1 := (fun x v => Host.reduce IntOp.andi x v reducesTo_S800_S_d0 h_S_) main_v1 main_c
  let main_c_0 : IVec S_ 32 := constantI S_ 32 1#32
  let main_v3 : IVec S319600 32 := broadcastInDim S319600 ![] bcast_S_S319600 main_c_0
  let main_v4 : IVec S319600 1 := cmpi .eq main_arg2 main_v3
  let main_c_1 : IVec S_ 1 := constantI S_ 1 1#1
  let main_v5 : IVec S_ 1 := (fun x v => Host.reduce IntOp.andi x v reducesTo_S319600_S_d0 h_S_) main_v4 main_c_1
  let main_v6 : IVec S_ 1 := andi main_v2 main_v5
  main_v6
-- ==== Kernel.lean ====
abbrev S319600x128 : Shape := ⟨2, ![319600, 128]⟩
abbrev S800 : Shape := ⟨1, ![800]⟩
abbrev S319600 : Shape := ⟨1, ![319600]⟩
abbrev S32x25x16 : Shape := ⟨3, ![32, 25, 16]⟩
abbrev S20000x128 : Shape := ⟨2, ![20000, 128]⟩
abbrev S12800x128 : Shape := ⟨2, ![12800, 128]⟩
abbrev S800x128 : Shape := ⟨2, ![800, 128]⟩
abbrev S800x16x128 : Shape := ⟨3, ![800, 16, 128]⟩
abbrev S32x32x128 : Shape := ⟨3, ![32, 32, 128]⟩
abbrev S25x16 : Shape := ⟨2, ![25, 16]⟩
abbrev S32x128 : Shape := ⟨2, ![32, 128]⟩
abbrev S64x128 : Shape := ⟨2, ![64, 128]⟩
abbrev S16x128 : Shape := ⟨2, ![16, 128]⟩
abbrev S_ : Shape := ⟨0, ![]⟩
abbrev S1x25x16 : Shape := ⟨3, ![1, 25, 16]⟩
abbrev S1x16 : Shape := ⟨2, ![1, 16]⟩
abbrev S16 : Shape := ⟨1, ![16]⟩
abbrev S1 : Shape := ⟨1, ![1]⟩
abbrev S1x32x128 : Shape := ⟨3, ![1, 32, 128]⟩
abbrev S32x25x128 : Shape := ⟨3, ![32, 25, 128]⟩
abbrev S25x32x128 : Shape := ⟨3, ![25, 32, 128]⟩

abbrev nBuf : Table → Nat
  | .hbm => 9
  | .local .tc .vmem => 4
  | .local .scVector .vmem => 8
  | _ => 0

abbrev bufTy : (tb : Table) → Fin (nBuf tb) → BufTy
  | .hbm, ⟨0, _⟩ => ⟨S319600x128, .f32⟩
  | .hbm, ⟨1, _⟩ => ⟨S800, .i32⟩
  | .hbm, ⟨2, _⟩ => ⟨S319600, .i32⟩
  | .hbm, ⟨3, _⟩ => ⟨S32x25x16, .i32⟩
  | .hbm, ⟨4, _⟩ => ⟨S20000x128, .f32⟩
  | .hbm, ⟨5, _⟩ => ⟨S32x32x128, .f32⟩
  | .hbm, ⟨6, _⟩ => ⟨S32x25x128, .f32⟩
  | .hbm, ⟨7, _⟩ => ⟨S25x32x128, .f32⟩
  | .hbm, ⟨8, _⟩ => ⟨S800x128, .f32⟩
  | .local .tc .vmem, ⟨0, _⟩ => ⟨S12800x128, .f32⟩
  | .local .tc .vmem, ⟨1, _⟩ => ⟨S12800x128, .f32⟩
  | .local .tc .vmem, ⟨2, _⟩ => ⟨S800x128, .f32⟩
  | .local .tc .vmem, ⟨3, _⟩ => ⟨S800x128, .f32⟩
  | .local .scVector .vmem, ⟨0, _⟩ => ⟨S25x16, .i32⟩
  | .local .scVector .vmem, ⟨1, _⟩ => ⟨S32x128, .f32⟩
  | .local .scVector .vmem, ⟨2, _⟩ => ⟨S64x128, .f32⟩
  | .local .scVector .vmem, ⟨3, _⟩ => ⟨S64x128, .f32⟩
  | .local .scVector .vmem, ⟨4, _⟩ => ⟨S16x128, .f32⟩
  | .local .scVector .vmem, ⟨5, _⟩ => ⟨S16x128, .f32⟩
  | .local .scVector .vmem, ⟨6, _⟩ => ⟨S16x128, .f32⟩
  | .local .scVector .vmem, ⟨7, _⟩ => ⟨S16x128, .f32⟩
  | _, _ => ⟨S319600x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg0_scv : Ref sig .scVector := ⟨.hbm, 0, rfl⟩
abbrev main_v0_scv : Ref sig .scVector := ⟨.hbm, 4, rfl⟩
abbrev main_c_scv : Ref sig .scVector := ⟨.hbm, 3, rfl⟩
abbrev main_v1_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S800x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_24_r0 : BitVec 32 := 0#32
  let c0_i32_25_r0 : BitVec 32 := 0#32
  ![v1.toNat, 0, 0]
def k1_mult1 (v6 : BitVec 32) : BitVec 32 :=
  v6

def k1_mult2 (v9 : BitVec 32) : BitVec 32 :=
  v9

def k1_mult3 (v12 : BitVec 32) : BitVec 32 :=
  v12

def k1_off2 (v6 : BitVec 32) : Fin 2 → Nat :=
  let v7 : BitVec 32 := v6
  let c0_i32_0 : BitVec 32 := 0#32
  ![v7.toNat, 0]

def k1_chk1 (v6 : BitVec 32) : Prop :=
  (8 ∣ (k1_mult1 v6).toNat) ∧
  (∀ a, (k1_off2 v6) a + S64x128.size a ≤ S20000x128.size a)
theorem k1_mult1_dvd : ∀ (v6 : BitVec 32) (k1_hw1 : k1_chk1 v6), 8 ∣ (k1_mult1 v6).toNat := fun v6 k1_hw1 => k1_hw1.1
theorem k1_off2_inb : ∀ (v6 : BitVec 32) (k1_hw1 : k1_chk1 v6), ∀ a, (k1_off2 v6) a + S64x128.size a ≤ S20000x128.size a := fun v6 k1_hw1 => k1_hw1.2

def k1_off3 (v9 : BitVec 32) : Fin 2 → Nat :=
  let v10 : BitVec 32 := v9
  let c0_i32_2 : BitVec 32 := 0#32
  ![v10.toNat, 0]

def k1_chk2 (v9 : BitVec 32) : Prop :=
  (8 ∣ (k1_mult2 v9).toNat) ∧
  (∀ a, (k1_off3 v9) a + S16x128.size a ≤ S319600x128.size a)
theorem k1_mult2_dvd : ∀ (v9 : BitVec 32) (k1_hw2 : k1_chk2 v9), 8 ∣ (k1_mult2 v9).toNat := fun v9 k1_hw2 => k1_hw2.1
theorem k1_off3_inb : ∀ (v9 : BitVec 32) (k1_hw2 : k1_chk2 v9), ∀ a, (k1_off3 v9) a + S16x128.size a ≤ S319600x128.size a := fun v9 k1_hw2 => k1_hw2.2

def k1_off4 (v12 : BitVec 32) : Fin 2 → Nat :=
  let v13 : BitVec 32 := v12
  let c0_i32_4 : BitVec 32 := 0#32
  ![v13.toNat, 0]

def k1_chk3 (v12 : BitVec 32) : Prop :=
  (8 ∣ (k1_mult3 v12).toNat) ∧
  (∀ a, (k1_off4 v12) a + S16x128.size a ≤ S319600x128.size a)
theorem k1_mult3_dvd : ∀ (v12 : BitVec 32) (k1_hw3 : k1_chk3 v12), 8 ∣ (k1_mult3 v12).toNat := fun v12 k1_hw3 => k1_hw3.1
theorem k1_off4_inb : ∀ (v12 : BitVec 32) (k1_hw3 : k1_chk3 v12), ∀ a, (k1_off4 v12) a + S16x128.size a ≤ S319600x128.size a := fun v12 k1_hw3 => k1_hw3.2

def k1_mult4 (v24 : BitVec 32) : BitVec 32 :=
  v24

def k1_mult5 (v27 : BitVec 32) : BitVec 32 :=
  v27

def k1_mult6 (v30 : BitVec 32) : BitVec 32 :=
  v30

def k1_off5 (v24 : BitVec 32) : Fin 2 → Nat :=
  let v25 : BitVec 32 := v24
  let c0_i32_7 : BitVec 32 := 0#32
  ![v25.toNat, 0]

def k1_chk4 (v24 : BitVec 32) : Prop :=
  (8 ∣ (k1_mult4 v24).toNat) ∧
  (∀ a, (k1_off5 v24) a + S64x128.size a ≤ S20000x128.size a)
theorem k1_mult4_dvd : ∀ (v24 : BitVec 32) (k1_hw4 : k1_chk4 v24), 8 ∣ (k1_mult4 v24).toNat := fun v24 k1_hw4 => k1_hw4.1
theorem k1_off5_inb : ∀ (v24 : BitVec 32) (k1_hw4 : k1_chk4 v24), ∀ a, (k1_off5 v24) a + S64x128.size a ≤ S20000x128.size a := fun v24 k1_hw4 => k1_hw4.2

def k1_off6 (v27 : BitVec 32) : Fin 2 → Nat :=
  let v28 : BitVec 32 := v27
  let c0_i32_9 : BitVec 32 := 0#32
  ![v28.toNat, 0]

def k1_chk5 (v27 : BitVec 32) : Prop :=
  (8 ∣ (k1_mult5 v27).toNat) ∧
  (∀ a, (k1_off6 v27) a + S16x128.size a ≤ S319600x128.size a)
theorem k1_mult5_dvd : ∀ (v27 : BitVec 32) (k1_hw5 : k1_chk5 v27), 8 ∣ (k1_mult5 v27).toNat := fun v27 k1_hw5 => k1_hw5.1
theorem k1_off6_inb : ∀ (v27 : BitVec 32) (k1_hw5 : k1_chk5 v27), ∀ a, (k1_off6 v27) a + S16x128.size a ≤ S319600x128.size a := fun v27 k1_hw5 => k1_hw5.2

def k1_off7 (v30 : BitVec 32) : Fin 2 → Nat :=
  let v31 : BitVec 32 := v30
  let c0_i32_11 : BitVec 32 := 0#32
  ![v31.toNat, 0]

def k1_chk6 (v30 : BitVec 32) : Prop :=
  (8 ∣ (k1_mult6 v30).toNat) ∧
  (∀ a, (k1_off7 v30) a + S16x128.size a ≤ S319600x128.size a)
theorem k1_mult6_dvd : ∀ (v30 : BitVec 32) (k1_hw6 : k1_chk6 v30), 8 ∣ (k1_mult6 v30).toNat := fun v30 k1_hw6 => k1_hw6.1
theorem k1_off7_inb : ∀ (v30 : BitVec 32) (k1_hw6 : k1_chk6 v30), ∀ a, (k1_off7 v30) a + S16x128.size a ≤ S319600x128.size a := fun v30 k1_hw6 => k1_hw6.2

@[reducible] def k1_t1_loop : Scf.Loop 32 :=
  let c0_i32_13 : BitVec 32 := 0#32
  let c25_i32 : BitVec 32 := 25#32
  let v38 : BitVec 32 := Scalar.addi c0_i32_13 c25_i32
  let c1_i32_14 : BitVec 32 := 1#32
  ⟨c0_i32_13, v38, c1_i32_14⟩
def k1_cond1 (k1_t1 : Fin k1_t1_loop.trips) : BitVec 1 :=
  let c0_i32_25 : BitVec 32 := 0#32
  let c0_i32_13 : BitVec 32 := 0#32
  let c1_i32_14 : BitVec 32 := 1#32
  let arg21 : BitVec 32 := Scf.iv c0_i32_13 c1_i32_14 k1_t1
  let c1_i32_24 : BitVec 32 := 1#32
  let v47 : BitVec 32 := Scalar.muli arg21 c1_i32_24
  let v48 : BitVec 32 := Scalar.addi c0_i32_25 v47
  let c2_i32 : BitVec 32 := 2#32
  let c0_i32_26 : BitVec 32 := 0#32
  let v49 : BitVec 1 := Scalar.cmpi .eq c2_i32 c0_i32_26
  let c1_i32_27 : BitVec 32 := 1#32
  let v50 : BitVec 32 := Scalar.select v49 c1_i32_27 c2_i32
  let v51 : BitVec 32 := Scalar.remsi v48 v50
  let c0_i32_29 : BitVec 32 := 0#32
  let v53 : BitVec 1 := Scalar.cmpi .slt v51 c0_i32_29
  let c0_i32_30 : BitVec 32 := 0#32
  let v54 : BitVec 1 := Scalar.cmpi .slt v50 c0_i32_30
  let v55 : BitVec 1 := Scalar.xori v53 v54
  let c0_i32_28 : BitVec 32 := 0#32
  let v52 : BitVec 1 := Scalar.cmpi .ne v51 c0_i32_28
  let v56 : BitVec 1 := Scalar.andi v55 v52
  let v57 : BitVec 32 := Scalar.addi v51 v50
  let v58 : BitVec 32 := Scalar.select v56 v57 v51
  let c0_i32_31 : BitVec 32 := 0#32
  let v59 : BitVec 1 := Scalar.cmpi .eq v58 c0_i32_31
  let v60 : BitVec 32 := Scalar.extui v59
  let c0_i32_32 : BitVec 32 := 0#32
  let v61 : BitVec 1 := Scalar.cmpi .ne v60 c0_i32_32
  v61

def k1_off8 (k1_t1 : Fin k1_t1_loop.trips) : Fin 2 → Nat :=
  let c0_i32_25 : BitVec 32 := 0#32
  let c0_i32_13 : BitVec 32 := 0#32
  let c1_i32_14 : BitVec 32 := 1#32
  let arg21 : BitVec 32 := Scf.iv c0_i32_13 c1_i32_14 k1_t1
  let c1_i32_24 : BitVec 32 := 1#32
  let v47 : BitVec 32 := Scalar.muli arg21 c1_i32_24
  let v48 : BitVec 32 := Scalar.addi c0_i32_25 v47
  let v81 : Index := Scalar.indexCast v48
  let c0_53 : Index := 0#32
  ![v81.toNat, 0]
@[reducible] def k1_t2_loop (v93 : BitVec 32) (v95 : BitVec 32) : Scf.Loop 32 :=
  let v96 : BitVec 32 := Scalar.subi v95 v93
  let c1_i32_61 : BitVec 32 := 1#32
  let v98 : BitVec 32 := Scalar.divsi v96 c1_i32_61
  let v99 : BitVec 32 := Scalar.muli v98 c1_i32_61
  let v100 : BitVec 32 := Scalar.addi v93 v99
  let c1_i32_62 : BitVec 32 := 1#32
  ⟨v93, v100, c1_i32_62⟩

def k1_off9 (v93 : BitVec 32) (v95 : BitVec 32) (k1_t2 : Fin (k1_t2_loop v93 v95).trips) : Fin 2 → Nat :=
  let c1_i32_62 : BitVec 32 := 1#32
  let arg22 : BitVec 32 := Scf.iv v93 c1_i32_62 k1_t2
  let v161 : Index := Scalar.indexCast arg22
  let c0_74 : Index := 0#32
  ![v161.toNat, 0]
def k1_off10 (v93 : BitVec 32) (v95 : BitVec 32) (k1_t2 : Fin (k1_t2_loop v93 v95).trips) : Fin 2 → Nat :=
  let c1_i32_62 : BitVec 32 := 1#32
  let arg22 : BitVec 32 := Scf.iv v93 c1_i32_62 k1_t2
  let v165 : Index := Scalar.indexCast arg22
  let c16_75 : Index := 16#32
  ![v165.toNat, 16]
def k1_off11 (v93 : BitVec 32) (v95 : BitVec 32) (k1_t2 : Fin (k1_t2_loop v93 v95).trips) : Fin 2 → Nat :=
  let c1_i32_62 : BitVec 32 := 1#32
  let arg22 : BitVec 32 := Scf.iv v93 c1_i32_62 k1_t2
  let v169 : Index := Scalar.indexCast arg22
  let c32_76 : Index := 32#32
  ![v169.toNat, 32]
def k1_off12 (v93 : BitVec 32) (v95 : BitVec 32) (k1_t2 : Fin (k1_t2_loop v93 v95).trips) : Fin 2 → Nat :=
  let c1_i32_62 : BitVec 32 := 1#32
  let arg22 : BitVec 32 := Scf.iv v93 c1_i32_62 k1_t2
  let v173 : Index := Scalar.indexCast arg22
  let c48_77 : Index := 48#32
  ![v173.toNat, 48]
def k1_off13 (v93 : BitVec 32) (v95 : BitVec 32) (k1_t2 : Fin (k1_t2_loop v93 v95).trips) : Fin 2 → Nat :=
  let c1_i32_62 : BitVec 32 := 1#32
  let arg22 : BitVec 32 := Scf.iv v93 c1_i32_62 k1_t2
  let v177 : Index := Scalar.indexCast arg22
  let c64_78 : Index := 64#32
  ![v177.toNat, 64]
def k1_off14 (v93 : BitVec 32) (v95 : BitVec 32) (k1_t2 : Fin (k1_t2_loop v93 v95).trips) : Fin 2 → Nat :=
  let c1_i32_62 : BitVec 32 := 1#32
  let arg22 : BitVec 32 := Scf.iv v93 c1_i32_62 k1_t2
  let v181 : Index := Scalar.indexCast arg22
  let c80_79 : Index := 80#32
  ![v181.toNat, 80]
def k1_off15 (v93 : BitVec 32) (v95 : BitVec 32) (k1_t2 : Fin (k1_t2_loop v93 v95).trips) : Fin 2 → Nat :=
  let c1_i32_62 : BitVec 32 := 1#32
  let arg22 : BitVec 32 := Scf.iv v93 c1_i32_62 k1_t2
  let v185 : Index := Scalar.indexCast arg22
  let c96_80 : Index := 96#32
  ![v185.toNat, 96]
def k1_off16 (v93 : BitVec 32) (v95 : BitVec 32) (k1_t2 : Fin (k1_t2_loop v93 v95).trips) : Fin 2 → Nat :=
  let c1_i32_62 : BitVec 32 := 1#32
  let arg22 : BitVec 32 := Scf.iv v93 c1_i32_62 k1_t2
  let v189 : Index := Scalar.indexCast arg22
  let c112_81 : Index := 112#32
  ![v189.toNat, 112]
@[reducible] def k1_t3_loop (v93 : BitVec 32) (v95 : BitVec 32) : Scf.Loop 32 :=
  let v96 : BitVec 32 := Scalar.subi v95 v93
  let c1_i32_61 : BitVec 32 := 1#32
  let v98 : BitVec 32 := Scalar.divsi v96 c1_i32_61
  let v99 : BitVec 32 := Scalar.muli v98 c1_i32_61
  let v100 : BitVec 32 := Scalar.addi v93 v99
  let v97 : BitVec 32 := Scalar.addi v93 v96
  let c1_i32_63 : BitVec 32 := 1#32
  ⟨v100, v97, c1_i32_63⟩
def k1_off17 (v93 : BitVec 32) (v95 : BitVec 32) (k1_t3 : Fin (k1_t3_loop v93 v95).trips) : Fin 2 → Nat :=
  let v96 : BitVec 32 := Scalar.subi v95 v93
  let c1_i32_61 : BitVec 32 := 1#32
  let v98 : BitVec 32 := Scalar.divsi v96 c1_i32_61
  let v99 : BitVec 32 := Scalar.muli v98 c1_i32_61
  let v100 : BitVec 32 := Scalar.addi v93 v99
  let c1_i32_63 : BitVec 32 := 1#32
  let arg22 : BitVec 32 := Scf.iv v100 c1_i32_63 k1_t3
  let v161 : Index := Scalar.indexCast arg22
  let c0_74 : Index := 0#32
  ![v161.toNat, 0]
def k1_off18 (v93 : BitVec 32) (v95 : BitVec 32) (k1_t3 : Fin (k1_t3_loop v93 v95).trips) : Fin 2 → Nat :=
  let v96 : BitVec 32 := Scalar.subi v95 v93
  let c1_i32_61 : BitVec 32 := 1#32
  let v98 : BitVec 32 := Scalar.divsi v96 c1_i32_61
  let v99 : BitVec 32 := Scalar.muli v98 c1_i32_61
  let v100 : BitVec 32 := Scalar.addi v93 v99
  let c1_i32_63 : BitVec 32 := 1#32
  let arg22 : BitVec 32 := Scf.iv v100 c1_i32_63 k1_t3
  let v165 : Index := Scalar.indexCast arg22
  let c16_75 : Index := 16#32
  ![v165.toNat, 16]
def k1_off19 (v93 : BitVec 32) (v95 : BitVec 32) (k1_t3 : Fin (k1_t3_loop v93 v95).trips) : Fin 2 → Nat :=
  let v96 : BitVec 32 := Scalar.subi v95 v93
  let c1_i32_61 : BitVec 32 := 1#32
  let v98 : BitVec 32 := Scalar.divsi v96 c1_i32_61
  let v99 : BitVec 32 := Scalar.muli v98 c1_i32_61
  let v100 : BitVec 32 := Scalar.addi v93 v99
  let c1_i32_63 : BitVec 32 := 1#32
  let arg22 : BitVec 32 := Scf.iv v100 c1_i32_63 k1_t3
  let v169 : Index := Scalar.indexCast arg22
  let c32_76 : Index := 32#32
  ![v169.toNat, 32]
def k1_off20 (v93 : BitVec 32) (v95 : BitVec 32) (k1_t3 : Fin (k1_t3_loop v93 v95).trips) : Fin 2 → Nat :=
  let v96 : BitVec 32 := Scalar.subi v95 v93
  let c1_i32_61 : BitVec 32 := 1#32
  let v98 : BitVec 32 := Scalar.divsi v96 c1_i32_61
  let v99 : BitVec 32 := Scalar.muli v98 c1_i32_61
  let v100 : BitVec 32 := Scalar.addi v93 v99
  let c1_i32_63 : BitVec 32 := 1#32
  let arg22 : BitVec 32 := Scf.iv v100 c1_i32_63 k1_t3
  let v173 : Index := Scalar.indexCast arg22
  let c48_77 : Index := 48#32
  ![v173.toNat, 48]
def k1_off21 (v93 : BitVec 32) (v95 : BitVec 32) (k1_t3 : Fin (k1_t3_loop v93 v95).trips) : Fin 2 → Nat :=
  let v96 : BitVec 32 := Scalar.subi v95 v93
  let c1_i32_61 : BitVec 32 := 1#32
  let v98 : BitVec 32 := Scalar.divsi v96 c1_i32_61
  let v99 : BitVec 32 := Scalar.muli v98 c1_i32_61
  let v100 : BitVec 32 := Scalar.addi v93 v99
  let c1_i32_63 : BitVec 32 := 1#32
  let arg22 : BitVec 32 := Scf.iv v100 c1_i32_63 k1_t3
  let v177 : Index := Scalar.indexCast arg22
  let c64_78 : Index := 64#32
  ![v177.toNat, 64]
def k1_off22 (v93 : BitVec 32) (v95 : BitVec 32) (k1_t3 : Fin (k1_t3_loop v93 v95).trips) : Fin 2 → Nat :=
  let v96 : BitVec 32 := Scalar.subi v95 v93
  let c1_i32_61 : BitVec 32 := 1#32
  let v98 : BitVec 32 := Scalar.divsi v96 c1_i32_61
  let v99 : BitVec 32 := Scalar.muli v98 c1_i32_61
  let v100 : BitVec 32 := Scalar.addi v93 v99
  let c1_i32_63 : BitVec 32 := 1#32
  let arg22 : BitVec 32 := Scf.iv v100 c1_i32_63 k1_t3
  let v181 : Index := Scalar.indexCast arg22
  let c80_79 : Index := 80#32
  ![v181.toNat, 80]
def k1_off23 (v93 : BitVec 32) (v95 : BitVec 32) (k1_t3 : Fin (k1_t3_loop v93 v95).trips) : Fin 2 → Nat :=
  let v96 : BitVec 32 := Scalar.subi v95 v93
  let c1_i32_61 : BitVec 32 := 1#32
  let v98 : BitVec 32 := Scalar.divsi v96 c1_i32_61
  let v99 : BitVec 32 := Scalar.muli v98 c1_i32_61
  let v100 : BitVec 32 := Scalar.addi v93 v99
  let c1_i32_63 : BitVec 32 := 1#32
  let arg22 : BitVec 32 := Scf.iv v100 c1_i32_63 k1_t3
  let v185 : Index := Scalar.indexCast arg22
  let c96_80 : Index := 96#32
  ![v185.toNat, 96]
def k1_off24 (v93 : BitVec 32) (v95 : BitVec 32) (k1_t3 : Fin (k1_t3_loop v93 v95).trips) : Fin 2 → Nat :=
  let v96 : BitVec 32 := Scalar.subi v95 v93
  let c1_i32_61 : BitVec 32 := 1#32
  let v98 : BitVec 32 := Scalar.divsi v96 c1_i32_61
  let v99 : BitVec 32 := Scalar.muli v98 c1_i32_61
  let v100 : BitVec 32 := Scalar.addi v93 v99
  let c1_i32_63 : BitVec 32 := 1#32
  let arg22 : BitVec 32 := Scf.iv v100 c1_i32_63 k1_t3
  let v189 : Index := Scalar.indexCast arg22
  let c112_81 : Index := 112#32
  ![v189.toNat, 112]

def k1_chk7 (k1_t1 : Fin k1_t1_loop.trips) (v93 : BitVec 32) (v95 : BitVec 32) : Prop :=
  (∀ (k1_h1 : k1_cond1 k1_t1 = 1#1), (k1_t2_loop v93 v95).OK) ∧
  (∀ k1_t2 : Fin (k1_t2_loop v93 v95).trips, ∀ (k1_h1 : k1_cond1 k1_t1 = 1#1), ∀ a, (k1_off9 v93 v95 k1_t2) a + S1x16.size a ≤ S64x128.size a) ∧
  (∀ k1_t2 : Fin (k1_t2_loop v93 v95).trips, ∀ (k1_h1 : k1_cond1 k1_t1 = 1#1), ∀ a, (k1_off10 v93 v95 k1_t2) a + S1x16.size a ≤ S64x128.size a) ∧
  (∀ k1_t2 : Fin (k1_t2_loop v93 v95).trips, ∀ (k1_h1 : k1_cond1 k1_t1 = 1#1), ∀ a, (k1_off11 v93 v95 k1_t2) a + S1x16.size a ≤ S64x128.size a) ∧
  (∀ k1_t2 : Fin (k1_t2_loop v93 v95).trips, ∀ (k1_h1 : k1_cond1 k1_t1 = 1#1), ∀ a, (k1_off12 v93 v95 k1_t2) a + S1x16.size a ≤ S64x128.size a) ∧
  (∀ k1_t2 : Fin (k1_t2_loop v93 v95).trips, ∀ (k1_h1 : k1_cond1 k1_t1 = 1#1), ∀ a, (k1_off13 v93 v95 k1_t2) a + S1x16.size a ≤ S64x128.size a) ∧
  (∀ k1_t2 : Fin (k1_t2_loop v93 v95).trips, ∀ (k1_h1 : k1_cond1 k1_t1 = 1#1), ∀ a, (k1_off14 v93 v95 k1_t2) a + S1x16.size a ≤ S64x128.size a) ∧
  (∀ k1_t2 : Fin (k1_t2_loop v93 v95).trips, ∀ (k1_h1 : k1_cond1 k1_t1 = 1#1), ∀ a, (k1_off15 v93 v95 k1_t2) a + S1x16.size a ≤ S64x128.size a) ∧
  (∀ k1_t2 : Fin (k1_t2_loop v93 v95).trips, ∀ (k1_h1 : k1_cond1 k1_t1 = 1#1), ∀ a, (k1_off16 v93 v95 k1_t2) a + S1x16.size a ≤ S64x128.size a) ∧
  (∀ (k1_h1 : k1_cond1 k1_t1 = 1#1), (k1_t3_loop v93 v95).OK) ∧
  (∀ k1_t3 : Fin (k1_t3_loop v93 v95).trips, ∀ (k1_h1 : k1_cond1 k1_t1 = 1#1), ∀ a, (k1_off17 v93 v95 k1_t3) a + S1x16.size a ≤ S64x128.size a) ∧
  (∀ k1_t3 : Fin (k1_t3_loop v93 v95).trips, ∀ (k1_h1 : k1_cond1 k1_t1 = 1#1), ∀ a, (k1_off18 v93 v95 k1_t3) a + S1x16.size a ≤ S64x128.size a) ∧
  (∀ k1_t3 : Fin (k1_t3_loop v93 v95).trips, ∀ (k1_h1 : k1_cond1 k1_t1 = 1#1), ∀ a, (k1_off19 v93 v95 k1_t3) a + S1x16.size a ≤ S64x128.size a) ∧
  (∀ k1_t3 : Fin (k1_t3_loop v93 v95).trips, ∀ (k1_h1 : k1_cond1 k1_t1 = 1#1), ∀ a, (k1_off20 v93 v95 k1_t3) a + S1x16.size a ≤ S64x128.size a) ∧
  (∀ k1_t3 : Fin (k1_t3_loop v93 v95).trips, ∀ (k1_h1 : k1_cond1 k1_t1 = 1#1), ∀ a, (k1_off21 v93 v95 k1_t3) a + S1x16.size a ≤ S64x128.size a) ∧
  (∀ k1_t3 : Fin (k1_t3_loop v93 v95).trips, ∀ (k1_h1 : k1_cond1 k1_t1 = 1#1), ∀ a, (k1_off22 v93 v95 k1_t3) a + S1x16.size a ≤ S64x128.size a) ∧
  (∀ k1_t3 : Fin (k1_t3_loop v93 v95).trips, ∀ (k1_h1 : k1_cond1 k1_t1 = 1#1), ∀ a, (k1_off23 v93 v95 k1_t3) a + S1x16.size a ≤ S64x128.size a) ∧
  (∀ k1_t3 : Fin (k1_t3_loop v93 v95).trips, ∀ (k1_h1 : k1_cond1 k1_t1 = 1#1), ∀ a, (k1_off24 v93 v95 k1_t3) a + S1x16.size a ≤ S64x128.size a)
theorem k1_t2_ok : ∀ (k1_t1 : Fin k1_t1_loop.trips) (v93 : BitVec 32) (v95 : BitVec 32) (k1_hw7 : k1_chk7 k1_t1 v93 v95), ∀ (k1_h1 : k1_cond1 k1_t1 = 1#1), (k1_t2_loop v93 v95).OK := fun k1_t1 v93 v95 k1_hw7 k1_h1 => k1_hw7.1 k1_h1
theorem k1_off9_inb : ∀ (k1_t1 : Fin k1_t1_loop.trips) (v93 : BitVec 32) (v95 : BitVec 32) (k1_hw7 : k1_chk7 k1_t1 v93 v95) (k1_t2 : Fin (k1_t2_loop v93 v95).trips), ∀ (k1_h1 : k1_cond1 k1_t1 = 1#1), ∀ a, (k1_off9 v93 v95 k1_t2) a + S1x16.size a ≤ S64x128.size a := fun k1_t1 v93 v95 k1_hw7 k1_t2 k1_h1 => k1_hw7.2.1 k1_t2 k1_h1
theorem k1_off10_inb : ∀ (k1_t1 : Fin k1_t1_loop.trips) (v93 : BitVec 32) (v95 : BitVec 32) (k1_hw7 : k1_chk7 k1_t1 v93 v95) (k1_t2 : Fin (k1_t2_loop v93 v95).trips), ∀ (k1_h1 : k1_cond1 k1_t1 = 1#1), ∀ a, (k1_off10 v93 v95 k1_t2) a + S1x16.size a ≤ S64x128.size a := fun k1_t1 v93 v95 k1_hw7 k1_t2 k1_h1 => k1_hw7.2.2.1 k1_t2 k1_h1
theorem k1_off11_inb : ∀ (k1_t1 : Fin k1_t1_loop.trips) (v93 : BitVec 32) (v95 : BitVec 32) (k1_hw7 : k1_chk7 k1_t1 v93 v95) (k1_t2 : Fin (k1_t2_loop v93 v95).trips), ∀ (k1_h1 : k1_cond1 k1_t1 = 1#1), ∀ a, (k1_off11 v93 v95 k1_t2) a + S1x16.size a ≤ S64x128.size a := fun k1_t1 v93 v95 k1_hw7 k1_t2 k1_h1 => k1_hw7.2.2.2.1 k1_t2 k1_h1
theorem k1_off12_inb : ∀ (k1_t1 : Fin k1_t1_loop.trips) (v93 : BitVec 32) (v95 : BitVec 32) (k1_hw7 : k1_chk7 k1_t1 v93 v95) (k1_t2 : Fin (k1_t2_loop v93 v95).trips), ∀ (k1_h1 : k1_cond1 k1_t1 = 1#1), ∀ a, (k1_off12 v93 v95 k1_t2) a + S1x16.size a ≤ S64x128.size a := fun k1_t1 v93 v95 k1_hw7 k1_t2 k1_h1 => k1_hw7.2.2.2.2.1 k1_t2 k1_h1
theorem k1_off13_inb : ∀ (k1_t1 : Fin k1_t1_loop.trips) (v93 : BitVec 32) (v95 : BitVec 32) (k1_hw7 : k1_chk7 k1_t1 v93 v95) (k1_t2 : Fin (k1_t2_loop v93 v95).trips), ∀ (k1_h1 : k1_cond1 k1_t1 = 1#1), ∀ a, (k1_off13 v93 v95 k1_t2) a + S1x16.size a ≤ S64x128.size a := fun k1_t1 v93 v95 k1_hw7 k1_t2 k1_h1 => k1_hw7.2.2.2.2.2.1 k1_t2 k1_h1
theorem k1_off14_inb : ∀ (k1_t1 : Fin k1_t1_loop.trips) (v93 : BitVec 32) (v95 : BitVec 32) (k1_hw7 : k1_chk7 k1_t1 v93 v95) (k1_t2 : Fin (k1_t2_loop v93 v95).trips), ∀ (k1_h1 : k1_cond1 k1_t1 = 1#1), ∀ a, (k1_off14 v93 v95 k1_t2) a + S1x16.size a ≤ S64x128.size a := fun k1_t1 v93 v95 k1_hw7 k1_t2 k1_h1 => k1_hw7.2.2.2.2.2.2.1 k1_t2 k1_h1
theorem k1_off15_inb : ∀ (k1_t1 : Fin k1_t1_loop.trips) (v93 : BitVec 32) (v95 : BitVec 32) (k1_hw7 : k1_chk7 k1_t1 v93 v95) (k1_t2 : Fin (k1_t2_loop v93 v95).trips), ∀ (k1_h1 : k1_cond1 k1_t1 = 1#1), ∀ a, (k1_off15 v93 v95 k1_t2) a + S1x16.size a ≤ S64x128.size a := fun k1_t1 v93 v95 k1_hw7 k1_t2 k1_h1 => k1_hw7.2.2.2.2.2.2.2.1 k1_t2 k1_h1
theorem k1_off16_inb : ∀ (k1_t1 : Fin k1_t1_loop.trips) (v93 : BitVec 32) (v95 : BitVec 32) (k1_hw7 : k1_chk7 k1_t1 v93 v95) (k1_t2 : Fin (k1_t2_loop v93 v95).trips), ∀ (k1_h1 : k1_cond1 k1_t1 = 1#1), ∀ a, (k1_off16 v93 v95 k1_t2) a + S1x16.size a ≤ S64x128.size a := fun k1_t1 v93 v95 k1_hw7 k1_t2 k1_h1 => k1_hw7.2.2.2.2.2.2.2.2.1 k1_t2 k1_h1
theorem k1_t3_ok : ∀ (k1_t1 : Fin k1_t1_loop.trips) (v93 : BitVec 32) (v95 : BitVec 32) (k1_hw7 : k1_chk7 k1_t1 v93 v95), ∀ (k1_h1 : k1_cond1 k1_t1 = 1#1), (k1_t3_loop v93 v95).OK := fun k1_t1 v93 v95 k1_hw7 k1_h1 => k1_hw7.2.2.2.2.2.2.2.2.2.1 k1_h1
theorem k1_off17_inb : ∀ (k1_t1 : Fin k1_t1_loop.trips) (v93 : BitVec 32) (v95 : BitVec 32) (k1_hw7 : k1_chk7 k1_t1 v93 v95) (k1_t3 : Fin (k1_t3_loop v93 v95).trips), ∀ (k1_h1 : k1_cond1 k1_t1 = 1#1), ∀ a, (k1_off17 v93 v95 k1_t3) a + S1x16.size a ≤ S64x128.size a := fun k1_t1 v93 v95 k1_hw7 k1_t3 k1_h1 => k1_hw7.2.2.2.2.2.2.2.2.2.2.1 k1_t3 k1_h1
theorem k1_off18_inb : ∀ (k1_t1 : Fin k1_t1_loop.trips) (v93 : BitVec 32) (v95 : BitVec 32) (k1_hw7 : k1_chk7 k1_t1 v93 v95) (k1_t3 : Fin (k1_t3_loop v93 v95).trips), ∀ (k1_h1 : k1_cond1 k1_t1 = 1#1), ∀ a, (k1_off18 v93 v95 k1_t3) a + S1x16.size a ≤ S64x128.size a := fun k1_t1 v93 v95 k1_hw7 k1_t3 k1_h1 => k1_hw7.2.2.2.2.2.2.2.2.2.2.2.1 k1_t3 k1_h1
theorem k1_off19_inb : ∀ (k1_t1 : Fin k1_t1_loop.trips) (v93 : BitVec 32) (v95 : BitVec 32) (k1_hw7 : k1_chk7 k1_t1 v93 v95) (k1_t3 : Fin (k1_t3_loop v93 v95).trips), ∀ (k1_h1 : k1_cond1 k1_t1 = 1#1), ∀ a, (k1_off19 v93 v95 k1_t3) a + S1x16.size a ≤ S64x128.size a := fun k1_t1 v93 v95 k1_hw7 k1_t3 k1_h1 => k1_hw7.2.2.2.2.2.2.2.2.2.2.2.2.1 k1_t3 k1_h1
theorem k1_off20_inb : ∀ (k1_t1 : Fin k1_t1_loop.trips) (v93 : BitVec 32) (v95 : BitVec 32) (k1_hw7 : k1_chk7 k1_t1 v93 v95) (k1_t3 : Fin (k1_t3_loop v93 v95).trips), ∀ (k1_h1 : k1_cond1 k1_t1 = 1#1), ∀ a, (k1_off20 v93 v95 k1_t3) a + S1x16.size a ≤ S64x128.size a := fun k1_t1 v93 v95 k1_hw7 k1_t3 k1_h1 => k1_hw7.2.2.2.2.2.2.2.2.2.2.2.2.2.1 k1_t3 k1_h1
theorem k1_off21_inb : ∀ (k1_t1 : Fin k1_t1_loop.trips) (v93 : BitVec 32) (v95 : BitVec 32) (k1_hw7 : k1_chk7 k1_t1 v93 v95) (k1_t3 : Fin (k1_t3_loop v93 v95).trips), ∀ (k1_h1 : k1_cond1 k1_t1 = 1#1), ∀ a, (k1_off21 v93 v95 k1_t3) a + S1x16.size a ≤ S64x128.size a := fun k1_t1 v93 v95 k1_hw7 k1_t3 k1_h1 => k1_hw7.2.2.2.2.2.2.2.2.2.2.2.2.2.2.1 k1_t3 k1_h1
theorem k1_off22_inb : ∀ (k1_t1 : Fin k1_t1_loop.trips) (v93 : BitVec 32) (v95 : BitVec 32) (k1_hw7 : k1_chk7 k1_t1 v93 v95) (k1_t3 : Fin (k1_t3_loop v93 v95).trips), ∀ (k1_h1 : k1_cond1 k1_t1 = 1#1), ∀ a, (k1_off22 v93 v95 k1_t3) a + S1x16.size a ≤ S64x128.size a := fun k1_t1 v93 v95 k1_hw7 k1_t3 k1_h1 => k1_hw7.2.2.2.2.2.2.2.2.2.2.2.2.2.2.2.1 k1_t3 k1_h1
theorem k1_off23_inb : ∀ (k1_t1 : Fin k1_t1_loop.trips) (v93 : BitVec 32) (v95 : BitVec 32) (k1_hw7 : k1_chk7 k1_t1 v93 v95) (k1_t3 : Fin (k1_t3_loop v93 v95).trips), ∀ (k1_h1 : k1_cond1 k1_t1 = 1#1), ∀ a, (k1_off23 v93 v95 k1_t3) a + S1x16.size a ≤ S64x128.size a := fun k1_t1 v93 v95 k1_hw7 k1_t3 k1_h1 => k1_hw7.2.2.2.2.2.2.2.2.2.2.2.2.2.2.2.2.1 k1_t3 k1_h1
theorem k1_off24_inb : ∀ (k1_t1 : Fin k1_t1_loop.trips) (v93 : BitVec 32) (v95 : BitVec 32) (k1_hw7 : k1_chk7 k1_t1 v93 v95) (k1_t3 : Fin (k1_t3_loop v93 v95).trips), ∀ (k1_h1 : k1_cond1 k1_t1 = 1#1), ∀ a, (k1_off24 v93 v95 k1_t3) a + S1x16.size a ≤ S64x128.size a := fun k1_t1 v93 v95 k1_hw7 k1_t3 k1_h1 => k1_hw7.2.2.2.2.2.2.2.2.2.2.2.2.2.2.2.2.2 k1_t3 k1_h1

@[reducible] def k1_t4_loop (v104 : BitVec 32) (v106 : BitVec 32) : Scf.Loop 32 :=
  let v107 : BitVec 32 := Scalar.subi v106 v104
  let c1_i32_64 : BitVec 32 := 1#32
  let v109 : BitVec 32 := Scalar.divsi v107 c1_i32_64
  let v110 : BitVec 32 := Scalar.muli v109 c1_i32_64
  let v111 : BitVec 32 := Scalar.addi v104 v110
  let c1_i32_65 : BitVec 32 := 1#32
  ⟨v104, v111, c1_i32_65⟩

def k1_off25 (v104 : BitVec 32) (v106 : BitVec 32) (k1_t4 : Fin (k1_t4_loop v104 v106).trips) : Fin 2 → Nat :=
  let c1_i32_65 : BitVec 32 := 1#32
  let arg22 : BitVec 32 := Scf.iv v104 c1_i32_65 k1_t4
  let v161 : Index := Scalar.indexCast arg22
  let c0_74 : Index := 0#32
  ![v161.toNat, 0]
def k1_off26 (v104 : BitVec 32) (v106 : BitVec 32) (k1_t4 : Fin (k1_t4_loop v104 v106).trips) : Fin 2 → Nat :=
  let c1_i32_65 : BitVec 32 := 1#32
  let arg22 : BitVec 32 := Scf.iv v104 c1_i32_65 k1_t4
  let v165 : Index := Scalar.indexCast arg22
  let c16_75 : Index := 16#32
  ![v165.toNat, 16]
def k1_off27 (v104 : BitVec 32) (v106 : BitVec 32) (k1_t4 : Fin (k1_t4_loop v104 v106).trips) : Fin 2 → Nat :=
  let c1_i32_65 : BitVec 32 := 1#32
  let arg22 : BitVec 32 := Scf.iv v104 c1_i32_65 k1_t4
  let v169 : Index := Scalar.indexCast arg22
  let c32_76 : Index := 32#32
  ![v169.toNat, 32]
def k1_off28 (v104 : BitVec 32) (v106 : BitVec 32) (k1_t4 : Fin (k1_t4_loop v104 v106).trips) : Fin 2 → Nat :=
  let c1_i32_65 : BitVec 32 := 1#32
  let arg22 : BitVec 32 := Scf.iv v104 c1_i32_65 k1_t4
  let v173 : Index := Scalar.indexCast arg22
  let c48_77 : Index := 48#32
  ![v173.toNat, 48]
def k1_off29 (v104 : BitVec 32) (v106 : BitVec 32) (k1_t4 : Fin (k1_t4_loop v104 v106).trips) : Fin 2 → Nat :=
  let c1_i32_65 : BitVec 32 := 1#32
  let arg22 : BitVec 32 := Scf.iv v104 c1_i32_65 k1_t4
  let v177 : Index := Scalar.indexCast arg22
  let c64_78 : Index := 64#32
  ![v177.toNat, 64]
def k1_off30 (v104 : BitVec 32) (v106 : BitVec 32) (k1_t4 : Fin (k1_t4_loop v104 v106).trips) : Fin 2 → Nat :=
  let c1_i32_65 : BitVec 32 := 1#32
  let arg22 : BitVec 32 := Scf.iv v104 c1_i32_65 k1_t4
  let v181 : Index := Scalar.indexCast arg22
  let c80_79 : Index := 80#32
  ![v181.toNat, 80]
def k1_off31 (v104 : BitVec 32) (v106 : BitVec 32) (k1_t4 : Fin (k1_t4_loop v104 v106).trips) : Fin 2 → Nat :=
  let c1_i32_65 : BitVec 32 := 1#32
  let arg22 : BitVec 32 := Scf.iv v104 c1_i32_65 k1_t4
  let v185 : Index := Scalar.indexCast arg22
  let c96_80 : Index := 96#32
  ![v185.toNat, 96]
def k1_off32 (v104 : BitVec 32) (v106 : BitVec 32) (k1_t4 : Fin (k1_t4_loop v104 v106).trips) : Fin 2 → Nat :=
  let c1_i32_65 : BitVec 32 := 1#32
  let arg22 : BitVec 32 := Scf.iv v104 c1_i32_65 k1_t4
  let v189 : Index := Scalar.indexCast arg22
  let c112_81 : Index := 112#32
  ![v189.toNat, 112]
@[reducible] def k1_t5_loop (v104 : BitVec 32) (v106 : BitVec 32) : Scf.Loop 32 :=
  let v107 : BitVec 32 := Scalar.subi v106 v104
  let c1_i32_64 : BitVec 32 := 1#32
  let v109 : BitVec 32 := Scalar.divsi v107 c1_i32_64
  let v110 : BitVec 32 := Scalar.muli v109 c1_i32_64
  let v111 : BitVec 32 := Scalar.addi v104 v110
  let v108 : BitVec 32 := Scalar.addi v104 v107
  let c1_i32_66 : BitVec 32 := 1#32
  ⟨v111, v108, c1_i32_66⟩
def k1_off33 (v104 : BitVec 32) (v106 : BitVec 32) (k1_t5 : Fin (k1_t5_loop v104 v106).trips) : Fin 2 → Nat :=
  let v107 : BitVec 32 := Scalar.subi v106 v104
  let c1_i32_64 : BitVec 32 := 1#32
  let v109 : BitVec 32 := Scalar.divsi v107 c1_i32_64
  let v110 : BitVec 32 := Scalar.muli v109 c1_i32_64
  let v111 : BitVec 32 := Scalar.addi v104 v110
  let c1_i32_66 : BitVec 32 := 1#32
  let arg22 : BitVec 32 := Scf.iv v111 c1_i32_66 k1_t5
  let v161 : Index := Scalar.indexCast arg22
  let c0_74 : Index := 0#32
  ![v161.toNat, 0]
def k1_off34 (v104 : BitVec 32) (v106 : BitVec 32) (k1_t5 : Fin (k1_t5_loop v104 v106).trips) : Fin 2 → Nat :=
  let v107 : BitVec 32 := Scalar.subi v106 v104
  let c1_i32_64 : BitVec 32 := 1#32
  let v109 : BitVec 32 := Scalar.divsi v107 c1_i32_64
  let v110 : BitVec 32 := Scalar.muli v109 c1_i32_64
  let v111 : BitVec 32 := Scalar.addi v104 v110
  let c1_i32_66 : BitVec 32 := 1#32
  let arg22 : BitVec 32 := Scf.iv v111 c1_i32_66 k1_t5
  let v165 : Index := Scalar.indexCast arg22
  let c16_75 : Index := 16#32
  ![v165.toNat, 16]
def k1_off35 (v104 : BitVec 32) (v106 : BitVec 32) (k1_t5 : Fin (k1_t5_loop v104 v106).trips) : Fin 2 → Nat :=
  let v107 : BitVec 32 := Scalar.subi v106 v104
  let c1_i32_64 : BitVec 32 := 1#32
  let v109 : BitVec 32 := Scalar.divsi v107 c1_i32_64
  let v110 : BitVec 32 := Scalar.muli v109 c1_i32_64
  let v111 : BitVec 32 := Scalar.addi v104 v110
  let c1_i32_66 : BitVec 32 := 1#32
  let arg22 : BitVec 32 := Scf.iv v111 c1_i32_66 k1_t5
  let v169 : Index := Scalar.indexCast arg22
  let c32_76 : Index := 32#32
  ![v169.toNat, 32]
def k1_off36 (v104 : BitVec 32) (v106 : BitVec 32) (k1_t5 : Fin (k1_t5_loop v104 v106).trips) : Fin 2 → Nat :=
  let v107 : BitVec 32 := Scalar.subi v106 v104
  let c1_i32_64 : BitVec 32 := 1#32
  let v109 : BitVec 32 := Scalar.divsi v107 c1_i32_64
  let v110 : BitVec 32 := Scalar.muli v109 c1_i32_64
  let v111 : BitVec 32 := Scalar.addi v104 v110
  let c1_i32_66 : BitVec 32 := 1#32
  let arg22 : BitVec 32 := Scf.iv v111 c1_i32_66 k1_t5
  let v173 : Index := Scalar.indexCast arg22
  let c48_77 : Index := 48#32
  ![v173.toNat, 48]
def k1_off37 (v104 : BitVec 32) (v106 : BitVec 32) (k1_t5 : Fin (k1_t5_loop v104 v106).trips) : Fin 2 → Nat :=
  let v107 : BitVec 32 := Scalar.subi v106 v104
  let c1_i32_64 : BitVec 32 := 1#32
  let v109 : BitVec 32 := Scalar.divsi v107 c1_i32_64
  let v110 : BitVec 32 := Scalar.muli v109 c1_i32_64
  let v111 : BitVec 32 := Scalar.addi v104 v110
  let c1_i32_66 : BitVec 32 := 1#32
  let arg22 : BitVec 32 := Scf.iv v111 c1_i32_66 k1_t5
  let v177 : Index := Scalar.indexCast arg22
  let c64_78 : Index := 64#32
  ![v177.toNat, 64]
def k1_off38 (v104 : BitVec 32) (v106 : BitVec 32) (k1_t5 : Fin (k1_t5_loop v104 v106).trips) : Fin 2 → Nat :=
  let v107 : BitVec 32 := Scalar.subi v106 v104
  let c1_i32_64 : BitVec 32 := 1#32
  let v109 : BitVec 32 := Scalar.divsi v107 c1_i32_64
  let v110 : BitVec 32 := Scalar.muli v109 c1_i32_64
  let v111 : BitVec 32 := Scalar.addi v104 v110
  let c1_i32_66 : BitVec 32 := 1#32
  let arg22 : BitVec 32 := Scf.iv v111 c1_i32_66 k1_t5
  let v181 : Index := Scalar.indexCast arg22
  let c80_79 : Index := 80#32
  ![v181.toNat, 80]
def k1_off39 (v104 : BitVec 32) (v106 : BitVec 32) (k1_t5 : Fin (k1_t5_loop v104 v106).trips) : Fin 2 → Nat :=
  let v107 : BitVec 32 := Scalar.subi v106 v104
  let c1_i32_64 : BitVec 32 := 1#32
  let v109 : BitVec 32 := Scalar.divsi v107 c1_i32_64
  let v110 : BitVec 32 := Scalar.muli v109 c1_i32_64
  let v111 : BitVec 32 := Scalar.addi v104 v110
  let c1_i32_66 : BitVec 32 := 1#32
  let arg22 : BitVec 32 := Scf.iv v111 c1_i32_66 k1_t5
  let v185 : Index := Scalar.indexCast arg22
  let c96_80 : Index := 96#32
  ![v185.toNat, 96]
def k1_off40 (v104 : BitVec 32) (v106 : BitVec 32) (k1_t5 : Fin (k1_t5_loop v104 v106).trips) : Fin 2 → Nat :=
  let v107 : BitVec 32 := Scalar.subi v106 v104
  let c1_i32_64 : BitVec 32 := 1#32
  let v109 : BitVec 32 := Scalar.divsi v107 c1_i32_64
  let v110 : BitVec 32 := Scalar.muli v109 c1_i32_64
  let v111 : BitVec 32 := Scalar.addi v104 v110
  let c1_i32_66 : BitVec 32 := 1#32
  let arg22 : BitVec 32 := Scf.iv v111 c1_i32_66 k1_t5
  let v189 : Index := Scalar.indexCast arg22
  let c112_81 : Index := 112#32
  ![v189.toNat, 112]

def k1_chk8 (k1_t1 : Fin k1_t1_loop.trips) (v104 : BitVec 32) (v106 : BitVec 32) : Prop :=
  (∀ (k1_h1 : k1_cond1 k1_t1 = 1#1), (k1_t4_loop v104 v106).OK) ∧
  (∀ k1_t4 : Fin (k1_t4_loop v104 v106).trips, ∀ (k1_h1 : k1_cond1 k1_t1 = 1#1), ∀ a, (k1_off25 v104 v106 k1_t4) a + S1x16.size a ≤ S16x128.size a) ∧
  (∀ k1_t4 : Fin (k1_t4_loop v104 v106).trips, ∀ (k1_h1 : k1_cond1 k1_t1 = 1#1), ∀ a, (k1_off26 v104 v106 k1_t4) a + S1x16.size a ≤ S16x128.size a) ∧
  (∀ k1_t4 : Fin (k1_t4_loop v104 v106).trips, ∀ (k1_h1 : k1_cond1 k1_t1 = 1#1), ∀ a, (k1_off27 v104 v106 k1_t4) a + S1x16.size a ≤ S16x128.size a) ∧
  (∀ k1_t4 : Fin (k1_t4_loop v104 v106).trips, ∀ (k1_h1 : k1_cond1 k1_t1 = 1#1), ∀ a, (k1_off28 v104 v106 k1_t4) a + S1x16.size a ≤ S16x128.size a) ∧
  (∀ k1_t4 : Fin (k1_t4_loop v104 v106).trips, ∀ (k1_h1 : k1_cond1 k1_t1 = 1#1), ∀ a, (k1_off29 v104 v106 k1_t4) a + S1x16.size a ≤ S16x128.size a) ∧
  (∀ k1_t4 : Fin (k1_t4_loop v104 v106).trips, ∀ (k1_h1 : k1_cond1 k1_t1 = 1#1), ∀ a, (k1_off30 v104 v106 k1_t4) a + S1x16.size a ≤ S16x128.size a) ∧
  (∀ k1_t4 : Fin (k1_t4_loop v104 v106).trips, ∀ (k1_h1 : k1_cond1 k1_t1 = 1#1), ∀ a, (k1_off31 v104 v106 k1_t4) a + S1x16.size a ≤ S16x128.size a) ∧
  (∀ k1_t4 : Fin (k1_t4_loop v104 v106).trips, ∀ (k1_h1 : k1_cond1 k1_t1 = 1#1), ∀ a, (k1_off32 v104 v106 k1_t4) a + S1x16.size a ≤ S16x128.size a) ∧
  (∀ (k1_h1 : k1_cond1 k1_t1 = 1#1), (k1_t5_loop v104 v106).OK) ∧
  (∀ k1_t5 : Fin (k1_t5_loop v104 v106).trips, ∀ (k1_h1 : k1_cond1 k1_t1 = 1#1), ∀ a, (k1_off33 v104 v106 k1_t5) a + S1x16.size a ≤ S16x128.size a) ∧
  (∀ k1_t5 : Fin (k1_t5_loop v104 v106).trips, ∀ (k1_h1 : k1_cond1 k1_t1 = 1#1), ∀ a, (k1_off34 v104 v106 k1_t5) a + S1x16.size a ≤ S16x128.size a) ∧
  (∀ k1_t5 : Fin (k1_t5_loop v104 v106).trips, ∀ (k1_h1 : k1_cond1 k1_t1 = 1#1), ∀ a, (k1_off35 v104 v106 k1_t5) a + S1x16.size a ≤ S16x128.size a) ∧
  (∀ k1_t5 : Fin (k1_t5_loop v104 v106).trips, ∀ (k1_h1 : k1_cond1 k1_t1 = 1#1), ∀ a, (k1_off36 v104 v106 k1_t5) a + S1x16.size a ≤ S16x128.size a) ∧
  (∀ k1_t5 : Fin (k1_t5_loop v104 v106).trips, ∀ (k1_h1 : k1_cond1 k1_t1 = 1#1), ∀ a, (k1_off37 v104 v106 k1_t5) a + S1x16.size a ≤ S16x128.size a) ∧
  (∀ k1_t5 : Fin (k1_t5_loop v104 v106).trips, ∀ (k1_h1 : k1_cond1 k1_t1 = 1#1), ∀ a, (k1_off38 v104 v106 k1_t5) a + S1x16.size a ≤ S16x128.size a) ∧
  (∀ k1_t5 : Fin (k1_t5_loop v104 v106).trips, ∀ (k1_h1 : k1_cond1 k1_t1 = 1#1), ∀ a, (k1_off39 v104 v106 k1_t5) a + S1x16.size a ≤ S16x128.size a) ∧
  (∀ k1_t5 : Fin (k1_t5_loop v104 v106).trips, ∀ (k1_h1 : k1_cond1 k1_t1 = 1#1), ∀ a, (k1_off40 v104 v106 k1_t5) a + S1x16.size a ≤ S16x128.size a)
theorem k1_t4_ok : ∀ (k1_t1 : Fin k1_t1_loop.trips) (v104 : BitVec 32) (v106 : BitVec 32) (k1_hw8 : k1_chk8 k1_t1 v104 v106), ∀ (k1_h1 : k1_cond1 k1_t1 = 1#1), (k1_t4_loop v104 v106).OK := fun k1_t1 v104 v106 k1_hw8 k1_h1 => k1_hw8.1 k1_h1
theorem k1_off25_inb : ∀ (k1_t1 : Fin k1_t1_loop.trips) (v104 : BitVec 32) (v106 : BitVec 32) (k1_hw8 : k1_chk8 k1_t1 v104 v106) (k1_t4 : Fin (k1_t4_loop v104 v106).trips), ∀ (k1_h1 : k1_cond1 k1_t1 = 1#1), ∀ a, (k1_off25 v104 v106 k1_t4) a + S1x16.size a ≤ S16x128.size a := fun k1_t1 v104 v106 k1_hw8 k1_t4 k1_h1 => k1_hw8.2.1 k1_t4 k1_h1
theorem k1_off26_inb : ∀ (k1_t1 : Fin k1_t1_loop.trips) (v104 : BitVec 32) (v106 : BitVec 32) (k1_hw8 : k1_chk8 k1_t1 v104 v106) (k1_t4 : Fin (k1_t4_loop v104 v106).trips), ∀ (k1_h1 : k1_cond1 k1_t1 = 1#1), ∀ a, (k1_off26 v104 v106 k1_t4) a + S1x16.size a ≤ S16x128.size a := fun k1_t1 v104 v106 k1_hw8 k1_t4 k1_h1 => k1_hw8.2.2.1 k1_t4 k1_h1
theorem k1_off27_inb : ∀ (k1_t1 : Fin k1_t1_loop.trips) (v104 : BitVec 32) (v106 : BitVec 32) (k1_hw8 : k1_chk8 k1_t1 v104 v106) (k1_t4 : Fin (k1_t4_loop v104 v106).trips), ∀ (k1_h1 : k1_cond1 k1_t1 = 1#1), ∀ a, (k1_off27 v104 v106 k1_t4) a + S1x16.size a ≤ S16x128.size a := fun k1_t1 v104 v106 k1_hw8 k1_t4 k1_h1 => k1_hw8.2.2.2.1 k1_t4 k1_h1
theorem k1_off28_inb : ∀ (k1_t1 : Fin k1_t1_loop.trips) (v104 : BitVec 32) (v106 : BitVec 32) (k1_hw8 : k1_chk8 k1_t1 v104 v106) (k1_t4 : Fin (k1_t4_loop v104 v106).trips), ∀ (k1_h1 : k1_cond1 k1_t1 = 1#1), ∀ a, (k1_off28 v104 v106 k1_t4) a + S1x16.size a ≤ S16x128.size a := fun k1_t1 v104 v106 k1_hw8 k1_t4 k1_h1 => k1_hw8.2.2.2.2.1 k1_t4 k1_h1
theorem k1_off29_inb : ∀ (k1_t1 : Fin k1_t1_loop.trips) (v104 : BitVec 32) (v106 : BitVec 32) (k1_hw8 : k1_chk8 k1_t1 v104 v106) (k1_t4 : Fin (k1_t4_loop v104 v106).trips), ∀ (k1_h1 : k1_cond1 k1_t1 = 1#1), ∀ a, (k1_off29 v104 v106 k1_t4) a + S1x16.size a ≤ S16x128.size a := fun k1_t1 v104 v106 k1_hw8 k1_t4 k1_h1 => k1_hw8.2.2.2.2.2.1 k1_t4 k1_h1
theorem k1_off30_inb : ∀ (k1_t1 : Fin k1_t1_loop.trips) (v104 : BitVec 32) (v106 : BitVec 32) (k1_hw8 : k1_chk8 k1_t1 v104 v106) (k1_t4 : Fin (k1_t4_loop v104 v106).trips), ∀ (k1_h1 : k1_cond1 k1_t1 = 1#1), ∀ a, (k1_off30 v104 v106 k1_t4) a + S1x16.size a ≤ S16x128.size a := fun k1_t1 v104 v106 k1_hw8 k1_t4 k1_h1 => k1_hw8.2.2.2.2.2.2.1 k1_t4 k1_h1
theorem k1_off31_inb : ∀ (k1_t1 : Fin k1_t1_loop.trips) (v104 : BitVec 32) (v106 : BitVec 32) (k1_hw8 : k1_chk8 k1_t1 v104 v106) (k1_t4 : Fin (k1_t4_loop v104 v106).trips), ∀ (k1_h1 : k1_cond1 k1_t1 = 1#1), ∀ a, (k1_off31 v104 v106 k1_t4) a + S1x16.size a ≤ S16x128.size a := fun k1_t1 v104 v106 k1_hw8 k1_t4 k1_h1 => k1_hw8.2.2.2.2.2.2.2.1 k1_t4 k1_h1
theorem k1_off32_inb : ∀ (k1_t1 : Fin k1_t1_loop.trips) (v104 : BitVec 32) (v106 : BitVec 32) (k1_hw8 : k1_chk8 k1_t1 v104 v106) (k1_t4 : Fin (k1_t4_loop v104 v106).trips), ∀ (k1_h1 : k1_cond1 k1_t1 = 1#1), ∀ a, (k1_off32 v104 v106 k1_t4) a + S1x16.size a ≤ S16x128.size a := fun k1_t1 v104 v106 k1_hw8 k1_t4 k1_h1 => k1_hw8.2.2.2.2.2.2.2.2.1 k1_t4 k1_h1
theorem k1_t5_ok : ∀ (k1_t1 : Fin k1_t1_loop.trips) (v104 : BitVec 32) (v106 : BitVec 32) (k1_hw8 : k1_chk8 k1_t1 v104 v106), ∀ (k1_h1 : k1_cond1 k1_t1 = 1#1), (k1_t5_loop v104 v106).OK := fun k1_t1 v104 v106 k1_hw8 k1_h1 => k1_hw8.2.2.2.2.2.2.2.2.2.1 k1_h1
theorem k1_off33_inb : ∀ (k1_t1 : Fin k1_t1_loop.trips) (v104 : BitVec 32) (v106 : BitVec 32) (k1_hw8 : k1_chk8 k1_t1 v104 v106) (k1_t5 : Fin (k1_t5_loop v104 v106).trips), ∀ (k1_h1 : k1_cond1 k1_t1 = 1#1), ∀ a, (k1_off33 v104 v106 k1_t5) a + S1x16.size a ≤ S16x128.size a := fun k1_t1 v104 v106 k1_hw8 k1_t5 k1_h1 => k1_hw8.2.2.2.2.2.2.2.2.2.2.1 k1_t5 k1_h1
theorem k1_off34_inb : ∀ (k1_t1 : Fin k1_t1_loop.trips) (v104 : BitVec 32) (v106 : BitVec 32) (k1_hw8 : k1_chk8 k1_t1 v104 v106) (k1_t5 : Fin (k1_t5_loop v104 v106).trips), ∀ (k1_h1 : k1_cond1 k1_t1 = 1#1), ∀ a, (k1_off34 v104 v106 k1_t5) a + S1x16.size a ≤ S16x128.size a := fun k1_t1 v104 v106 k1_hw8 k1_t5 k1_h1 => k1_hw8.2.2.2.2.2.2.2.2.2.2.2.1 k1_t5 k1_h1
theorem k1_off35_inb : ∀ (k1_t1 : Fin k1_t1_loop.trips) (v104 : BitVec 32) (v106 : BitVec 32) (k1_hw8 : k1_chk8 k1_t1 v104 v106) (k1_t5 : Fin (k1_t5_loop v104 v106).trips), ∀ (k1_h1 : k1_cond1 k1_t1 = 1#1), ∀ a, (k1_off35 v104 v106 k1_t5) a + S1x16.size a ≤ S16x128.size a := fun k1_t1 v104 v106 k1_hw8 k1_t5 k1_h1 => k1_hw8.2.2.2.2.2.2.2.2.2.2.2.2.1 k1_t5 k1_h1
theorem k1_off36_inb : ∀ (k1_t1 : Fin k1_t1_loop.trips) (v104 : BitVec 32) (v106 : BitVec 32) (k1_hw8 : k1_chk8 k1_t1 v104 v106) (k1_t5 : Fin (k1_t5_loop v104 v106).trips), ∀ (k1_h1 : k1_cond1 k1_t1 = 1#1), ∀ a, (k1_off36 v104 v106 k1_t5) a + S1x16.size a ≤ S16x128.size a := fun k1_t1 v104 v106 k1_hw8 k1_t5 k1_h1 => k1_hw8.2.2.2.2.2.2.2.2.2.2.2.2.2.1 k1_t5 k1_h1
theorem k1_off37_inb : ∀ (k1_t1 : Fin k1_t1_loop.trips) (v104 : BitVec 32) (v106 : BitVec 32) (k1_hw8 : k1_chk8 k1_t1 v104 v106) (k1_t5 : Fin (k1_t5_loop v104 v106).trips), ∀ (k1_h1 : k1_cond1 k1_t1 = 1#1), ∀ a, (k1_off37 v104 v106 k1_t5) a + S1x16.size a ≤ S16x128.size a := fun k1_t1 v104 v106 k1_hw8 k1_t5 k1_h1 => k1_hw8.2.2.2.2.2.2.2.2.2.2.2.2.2.2.1 k1_t5 k1_h1
theorem k1_off38_inb : ∀ (k1_t1 : Fin k1_t1_loop.trips) (v104 : BitVec 32) (v106 : BitVec 32) (k1_hw8 : k1_chk8 k1_t1 v104 v106) (k1_t5 : Fin (k1_t5_loop v104 v106).trips), ∀ (k1_h1 : k1_cond1 k1_t1 = 1#1), ∀ a, (k1_off38 v104 v106 k1_t5) a + S1x16.size a ≤ S16x128.size a := fun k1_t1 v104 v106 k1_hw8 k1_t5 k1_h1 => k1_hw8.2.2.2.2.2.2.2.2.2.2.2.2.2.2.2.1 k1_t5 k1_h1
theorem k1_off39_inb : ∀ (k1_t1 : Fin k1_t1_loop.trips) (v104 : BitVec 32) (v106 : BitVec 32) (k1_hw8 : k1_chk8 k1_t1 v104 v106) (k1_t5 : Fin (k1_t5_loop v104 v106).trips), ∀ (k1_h1 : k1_cond1 k1_t1 = 1#1), ∀ a, (k1_off39 v104 v106 k1_t5) a + S1x16.size a ≤ S16x128.size a := fun k1_t1 v104 v106 k1_hw8 k1_t5 k1_h1 => k1_hw8.2.2.2.2.2.2.2.2.2.2.2.2.2.2.2.2.1 k1_t5 k1_h1
theorem k1_off40_inb : ∀ (k1_t1 : Fin k1_t1_loop.trips) (v104 : BitVec 32) (v106 : BitVec 32) (k1_hw8 : k1_chk8 k1_t1 v104 v106) (k1_t5 : Fin (k1_t5_loop v104 v106).trips), ∀ (k1_h1 : k1_cond1 k1_t1 = 1#1), ∀ a, (k1_off40 v104 v106 k1_t5) a + S1x16.size a ≤ S16x128.size a := fun k1_t1 v104 v106 k1_hw8 k1_t5 k1_h1 => k1_hw8.2.2.2.2.2.2.2.2.2.2.2.2.2.2.2.2.2 k1_t5 k1_h1

@[reducible] def k1_t6_loop (v115 : BitVec 32) (v117 : BitVec 32) : Scf.Loop 32 :=
  let v118 : BitVec 32 := Scalar.subi v117 v115
  let c1_i32_67 : BitVec 32 := 1#32
  let v120 : BitVec 32 := Scalar.divsi v118 c1_i32_67
  let v121 : BitVec 32 := Scalar.muli v120 c1_i32_67
  let v122 : BitVec 32 := Scalar.addi v115 v121
  let c1_i32_68 : BitVec 32 := 1#32
  ⟨v115, v122, c1_i32_68⟩

def k1_off41 (v115 : BitVec 32) (v117 : BitVec 32) (k1_t6 : Fin (k1_t6_loop v115 v117).trips) : Fin 2 → Nat :=
  let c1_i32_68 : BitVec 32 := 1#32
  let arg22 : BitVec 32 := Scf.iv v115 c1_i32_68 k1_t6
  let v161 : Index := Scalar.indexCast arg22
  let c0_74 : Index := 0#32
  ![v161.toNat, 0]
def k1_off42 (v115 : BitVec 32) (v117 : BitVec 32) (k1_t6 : Fin (k1_t6_loop v115 v117).trips) : Fin 2 → Nat :=
  let c1_i32_68 : BitVec 32 := 1#32
  let arg22 : BitVec 32 := Scf.iv v115 c1_i32_68 k1_t6
  let v165 : Index := Scalar.indexCast arg22
  let c16_75 : Index := 16#32
  ![v165.toNat, 16]
def k1_off43 (v115 : BitVec 32) (v117 : BitVec 32) (k1_t6 : Fin (k1_t6_loop v115 v117).trips) : Fin 2 → Nat :=
  let c1_i32_68 : BitVec 32 := 1#32
  let arg22 : BitVec 32 := Scf.iv v115 c1_i32_68 k1_t6
  let v169 : Index := Scalar.indexCast arg22
  let c32_76 : Index := 32#32
  ![v169.toNat, 32]
def k1_off44 (v115 : BitVec 32) (v117 : BitVec 32) (k1_t6 : Fin (k1_t6_loop v115 v117).trips) : Fin 2 → Nat :=
  let c1_i32_68 : BitVec 32 := 1#32
  let arg22 : BitVec 32 := Scf.iv v115 c1_i32_68 k1_t6
  let v173 : Index := Scalar.indexCast arg22
  let c48_77 : Index := 48#32
  ![v173.toNat, 48]
def k1_off45 (v115 : BitVec 32) (v117 : BitVec 32) (k1_t6 : Fin (k1_t6_loop v115 v117).trips) : Fin 2 → Nat :=
  let c1_i32_68 : BitVec 32 := 1#32
  let arg22 : BitVec 32 := Scf.iv v115 c1_i32_68 k1_t6
  let v177 : Index := Scalar.indexCast arg22
  let c64_78 : Index := 64#32
  ![v177.toNat, 64]
def k1_off46 (v115 : BitVec 32) (v117 : BitVec 32) (k1_t6 : Fin (k1_t6_loop v115 v117).trips) : Fin 2 → Nat :=
  let c1_i32_68 : BitVec 32 := 1#32
  let arg22 : BitVec 32 := Scf.iv v115 c1_i32_68 k1_t6
  let v181 : Index := Scalar.indexCast arg22
  let c80_79 : Index := 80#32
  ![v181.toNat, 80]
def k1_off47 (v115 : BitVec 32) (v117 : BitVec 32) (k1_t6 : Fin (k1_t6_loop v115 v117).trips) : Fin 2 → Nat :=
  let c1_i32_68 : BitVec 32 := 1#32
  let arg22 : BitVec 32 := Scf.iv v115 c1_i32_68 k1_t6
  let v185 : Index := Scalar.indexCast arg22
  let c96_80 : Index := 96#32
  ![v185.toNat, 96]
def k1_off48 (v115 : BitVec 32) (v117 : BitVec 32) (k1_t6 : Fin (k1_t6_loop v115 v117).trips) : Fin 2 → Nat :=
  let c1_i32_68 : BitVec 32 := 1#32
  let arg22 : BitVec 32 := Scf.iv v115 c1_i32_68 k1_t6
  let v189 : Index := Scalar.indexCast arg22
  let c112_81 : Index := 112#32
  ![v189.toNat, 112]
@[reducible] def k1_t7_loop (v115 : BitVec 32) (v117 : BitVec 32) : Scf.Loop 32 :=
  let v118 : BitVec 32 := Scalar.subi v117 v115
  let c1_i32_67 : BitVec 32 := 1#32
  let v120 : BitVec 32 := Scalar.divsi v118 c1_i32_67
  let v121 : BitVec 32 := Scalar.muli v120 c1_i32_67
  let v122 : BitVec 32 := Scalar.addi v115 v121
  let v119 : BitVec 32 := Scalar.addi v115 v118
  let c1_i32_69 : BitVec 32 := 1#32
  ⟨v122, v119, c1_i32_69⟩
def k1_off49 (v115 : BitVec 32) (v117 : BitVec 32) (k1_t7 : Fin (k1_t7_loop v115 v117).trips) : Fin 2 → Nat :=
  let v118 : BitVec 32 := Scalar.subi v117 v115
  let c1_i32_67 : BitVec 32 := 1#32
  let v120 : BitVec 32 := Scalar.divsi v118 c1_i32_67
  let v121 : BitVec 32 := Scalar.muli v120 c1_i32_67
  let v122 : BitVec 32 := Scalar.addi v115 v121
  let c1_i32_69 : BitVec 32 := 1#32
  let arg22 : BitVec 32 := Scf.iv v122 c1_i32_69 k1_t7
  let v161 : Index := Scalar.indexCast arg22
  let c0_74 : Index := 0#32
  ![v161.toNat, 0]
def k1_off50 (v115 : BitVec 32) (v117 : BitVec 32) (k1_t7 : Fin (k1_t7_loop v115 v117).trips) : Fin 2 → Nat :=
  let v118 : BitVec 32 := Scalar.subi v117 v115
  let c1_i32_67 : BitVec 32 := 1#32
  let v120 : BitVec 32 := Scalar.divsi v118 c1_i32_67
  let v121 : BitVec 32 := Scalar.muli v120 c1_i32_67
  let v122 : BitVec 32 := Scalar.addi v115 v121
  let c1_i32_69 : BitVec 32 := 1#32
  let arg22 : BitVec 32 := Scf.iv v122 c1_i32_69 k1_t7
  let v165 : Index := Scalar.indexCast arg22
  let c16_75 : Index := 16#32
  ![v165.toNat, 16]
def k1_off51 (v115 : BitVec 32) (v117 : BitVec 32) (k1_t7 : Fin (k1_t7_loop v115 v117).trips) : Fin 2 → Nat :=
  let v118 : BitVec 32 := Scalar.subi v117 v115
  let c1_i32_67 : BitVec 32 := 1#32
  let v120 : BitVec 32 := Scalar.divsi v118 c1_i32_67
  let v121 : BitVec 32 := Scalar.muli v120 c1_i32_67
  let v122 : BitVec 32 := Scalar.addi v115 v121
  let c1_i32_69 : BitVec 32 := 1#32
  let arg22 : BitVec 32 := Scf.iv v122 c1_i32_69 k1_t7
  let v169 : Index := Scalar.indexCast arg22
  let c32_76 : Index := 32#32
  ![v169.toNat, 32]
def k1_off52 (v115 : BitVec 32) (v117 : BitVec 32) (k1_t7 : Fin (k1_t7_loop v115 v117).trips) : Fin 2 → Nat :=
  let v118 : BitVec 32 := Scalar.subi v117 v115
  let c1_i32_67 : BitVec 32 := 1#32
  let v120 : BitVec 32 := Scalar.divsi v118 c1_i32_67
  let v121 : BitVec 32 := Scalar.muli v120 c1_i32_67
  let v122 : BitVec 32 := Scalar.addi v115 v121
  let c1_i32_69 : BitVec 32 := 1#32
  let arg22 : BitVec 32 := Scf.iv v122 c1_i32_69 k1_t7
  let v173 : Index := Scalar.indexCast arg22
  let c48_77 : Index := 48#32
  ![v173.toNat, 48]
def k1_off53 (v115 : BitVec 32) (v117 : BitVec 32) (k1_t7 : Fin (k1_t7_loop v115 v117).trips) : Fin 2 → Nat :=
  let v118 : BitVec 32 := Scalar.subi v117 v115
  let c1_i32_67 : BitVec 32 := 1#32
  let v120 : BitVec 32 := Scalar.divsi v118 c1_i32_67
  let v121 : BitVec 32 := Scalar.muli v120 c1_i32_67
  let v122 : BitVec 32 := Scalar.addi v115 v121
  let c1_i32_69 : BitVec 32 := 1#32
  let arg22 : BitVec 32 := Scf.iv v122 c1_i32_69 k1_t7
  let v177 : Index := Scalar.indexCast arg22
  let c64_78 : Index := 64#32
  ![v177.toNat, 64]
def k1_off54 (v115 : BitVec 32) (v117 : BitVec 32) (k1_t7 : Fin (k1_t7_loop v115 v117).trips) : Fin 2 → Nat :=
  let v118 : BitVec 32 := Scalar.subi v117 v115
  let c1_i32_67 : BitVec 32 := 1#32
  let v120 : BitVec 32 := Scalar.divsi v118 c1_i32_67
  let v121 : BitVec 32 := Scalar.muli v120 c1_i32_67
  let v122 : BitVec 32 := Scalar.addi v115 v121
  let c1_i32_69 : BitVec 32 := 1#32
  let arg22 : BitVec 32 := Scf.iv v122 c1_i32_69 k1_t7
  let v181 : Index := Scalar.indexCast arg22
  let c80_79 : Index := 80#32
  ![v181.toNat, 80]
def k1_off55 (v115 : BitVec 32) (v117 : BitVec 32) (k1_t7 : Fin (k1_t7_loop v115 v117).trips) : Fin 2 → Nat :=
  let v118 : BitVec 32 := Scalar.subi v117 v115
  let c1_i32_67 : BitVec 32 := 1#32
  let v120 : BitVec 32 := Scalar.divsi v118 c1_i32_67
  let v121 : BitVec 32 := Scalar.muli v120 c1_i32_67
  let v122 : BitVec 32 := Scalar.addi v115 v121
  let c1_i32_69 : BitVec 32 := 1#32
  let arg22 : BitVec 32 := Scf.iv v122 c1_i32_69 k1_t7
  let v185 : Index := Scalar.indexCast arg22
  let c96_80 : Index := 96#32
  ![v185.toNat, 96]
def k1_off56 (v115 : BitVec 32) (v117 : BitVec 32) (k1_t7 : Fin (k1_t7_loop v115 v117).trips) : Fin 2 → Nat :=
  let v118 : BitVec 32 := Scalar.subi v117 v115
  let c1_i32_67 : BitVec 32 := 1#32
  let v120 : BitVec 32 := Scalar.divsi v118 c1_i32_67
  let v121 : BitVec 32 := Scalar.muli v120 c1_i32_67
  let v122 : BitVec 32 := Scalar.addi v115 v121
  let c1_i32_69 : BitVec 32 := 1#32
  let arg22 : BitVec 32 := Scf.iv v122 c1_i32_69 k1_t7
  let v189 : Index := Scalar.indexCast arg22
  let c112_81 : Index := 112#32
  ![v189.toNat, 112]

def k1_chk9 (k1_t1 : Fin k1_t1_loop.trips) (v115 : BitVec 32) (v117 : BitVec 32) : Prop :=
  (∀ (k1_h1 : k1_cond1 k1_t1 = 1#1), (k1_t6_loop v115 v117).OK) ∧
  (∀ k1_t6 : Fin (k1_t6_loop v115 v117).trips, ∀ (k1_h1 : k1_cond1 k1_t1 = 1#1), ∀ a, (k1_off41 v115 v117 k1_t6) a + S1x16.size a ≤ S16x128.size a) ∧
  (∀ k1_t6 : Fin (k1_t6_loop v115 v117).trips, ∀ (k1_h1 : k1_cond1 k1_t1 = 1#1), ∀ a, (k1_off42 v115 v117 k1_t6) a + S1x16.size a ≤ S16x128.size a) ∧
  (∀ k1_t6 : Fin (k1_t6_loop v115 v117).trips, ∀ (k1_h1 : k1_cond1 k1_t1 = 1#1), ∀ a, (k1_off43 v115 v117 k1_t6) a + S1x16.size a ≤ S16x128.size a) ∧
  (∀ k1_t6 : Fin (k1_t6_loop v115 v117).trips, ∀ (k1_h1 : k1_cond1 k1_t1 = 1#1), ∀ a, (k1_off44 v115 v117 k1_t6) a + S1x16.size a ≤ S16x128.size a) ∧
  (∀ k1_t6 : Fin (k1_t6_loop v115 v117).trips, ∀ (k1_h1 : k1_cond1 k1_t1 = 1#1), ∀ a, (k1_off45 v115 v117 k1_t6) a + S1x16.size a ≤ S16x128.size a) ∧
  (∀ k1_t6 : Fin (k1_t6_loop v115 v117).trips, ∀ (k1_h1 : k1_cond1 k1_t1 = 1#1), ∀ a, (k1_off46 v115 v117 k1_t6) a + S1x16.size a ≤ S16x128.size a) ∧
  (∀ k1_t6 : Fin (k1_t6_loop v115 v117).trips, ∀ (k1_h1 : k1_cond1 k1_t1 = 1#1), ∀ a, (k1_off47 v115 v117 k1_t6) a + S1x16.size a ≤ S16x128.size a) ∧
  (∀ k1_t6 : Fin (k1_t6_loop v115 v117).trips, ∀ (k1_h1 : k1_cond1 k1_t1 = 1#1), ∀ a, (k1_off48 v115 v117 k1_t6) a + S1x16.size a ≤ S16x128.size a) ∧
  (∀ (k1_h1 : k1_cond1 k1_t1 = 1#1), (k1_t7_loop v115 v117).OK) ∧
  (∀ k1_t7 : Fin (k1_t7_loop v115 v117).trips, ∀ (k1_h1 : k1_cond1 k1_t1 = 1#1), ∀ a, (k1_off49 v115 v117 k1_t7) a + S1x16.size a ≤ S16x128.size a) ∧
  (∀ k1_t7 : Fin (k1_t7_loop v115 v117).trips, ∀ (k1_h1 : k1_cond1 k1_t1 = 1#1), ∀ a, (k1_off50 v115 v117 k1_t7) a + S1x16.size a ≤ S16x128.size a) ∧
  (∀ k1_t7 : Fin (k1_t7_loop v115 v117).trips, ∀ (k1_h1 : k1_cond1 k1_t1 = 1#1), ∀ a, (k1_off51 v115 v117 k1_t7) a + S1x16.size a ≤ S16x128.size a) ∧
  (∀ k1_t7 : Fin (k1_t7_loop v115 v117).trips, ∀ (k1_h1 : k1_cond1 k1_t1 = 1#1), ∀ a, (k1_off52 v115 v117 k1_t7) a + S1x16.size a ≤ S16x128.size a) ∧
  (∀ k1_t7 : Fin (k1_t7_loop v115 v117).trips, ∀ (k1_h1 : k1_cond1 k1_t1 = 1#1), ∀ a, (k1_off53 v115 v117 k1_t7) a + S1x16.size a ≤ S16x128.size a) ∧
  (∀ k1_t7 : Fin (k1_t7_loop v115 v117).trips, ∀ (k1_h1 : k1_cond1 k1_t1 = 1#1), ∀ a, (k1_off54 v115 v117 k1_t7) a + S1x16.size a ≤ S16x128.size a) ∧
  (∀ k1_t7 : Fin (k1_t7_loop v115 v117).trips, ∀ (k1_h1 : k1_cond1 k1_t1 = 1#1), ∀ a, (k1_off55 v115 v117 k1_t7) a + S1x16.size a ≤ S16x128.size a) ∧
  (∀ k1_t7 : Fin (k1_t7_loop v115 v117).trips, ∀ (k1_h1 : k1_cond1 k1_t1 = 1#1), ∀ a, (k1_off56 v115 v117 k1_t7) a + S1x16.size a ≤ S16x128.size a)
theorem k1_t6_ok : ∀ (k1_t1 : Fin k1_t1_loop.trips) (v115 : BitVec 32) (v117 : BitVec 32) (k1_hw9 : k1_chk9 k1_t1 v115 v117), ∀ (k1_h1 : k1_cond1 k1_t1 = 1#1), (k1_t6_loop v115 v117).OK := fun k1_t1 v115 v117 k1_hw9 k1_h1 => k1_hw9.1 k1_h1
theorem k1_off41_inb : ∀ (k1_t1 : Fin k1_t1_loop.trips) (v115 : BitVec 32) (v117 : BitVec 32) (k1_hw9 : k1_chk9 k1_t1 v115 v117) (k1_t6 : Fin (k1_t6_loop v115 v117).trips), ∀ (k1_h1 : k1_cond1 k1_t1 = 1#1), ∀ a, (k1_off41 v115 v117 k1_t6) a + S1x16.size a ≤ S16x128.size a := fun k1_t1 v115 v117 k1_hw9 k1_t6 k1_h1 => k1_hw9.2.1 k1_t6 k1_h1
theorem k1_off42_inb : ∀ (k1_t1 : Fin k1_t1_loop.trips) (v115 : BitVec 32) (v117 : BitVec 32) (k1_hw9 : k1_chk9 k1_t1 v115 v117) (k1_t6 : Fin (k1_t6_loop v115 v117).trips), ∀ (k1_h1 : k1_cond1 k1_t1 = 1#1), ∀ a, (k1_off42 v115 v117 k1_t6) a + S1x16.size a ≤ S16x128.size a := fun k1_t1 v115 v117 k1_hw9 k1_t6 k1_h1 => k1_hw9.2.2.1 k1_t6 k1_h1
theorem k1_off43_inb : ∀ (k1_t1 : Fin k1_t1_loop.trips) (v115 : BitVec 32) (v117 : BitVec 32) (k1_hw9 : k1_chk9 k1_t1 v115 v117) (k1_t6 : Fin (k1_t6_loop v115 v117).trips), ∀ (k1_h1 : k1_cond1 k1_t1 = 1#1), ∀ a, (k1_off43 v115 v117 k1_t6) a + S1x16.size a ≤ S16x128.size a := fun k1_t1 v115 v117 k1_hw9 k1_t6 k1_h1 => k1_hw9.2.2.2.1 k1_t6 k1_h1
theorem k1_off44_inb : ∀ (k1_t1 : Fin k1_t1_loop.trips) (v115 : BitVec 32) (v117 : BitVec 32) (k1_hw9 : k1_chk9 k1_t1 v115 v117) (k1_t6 : Fin (k1_t6_loop v115 v117).trips), ∀ (k1_h1 : k1_cond1 k1_t1 = 1#1), ∀ a, (k1_off44 v115 v117 k1_t6) a + S1x16.size a ≤ S16x128.size a := fun k1_t1 v115 v117 k1_hw9 k1_t6 k1_h1 => k1_hw9.2.2.2.2.1 k1_t6 k1_h1
theorem k1_off45_inb : ∀ (k1_t1 : Fin k1_t1_loop.trips) (v115 : BitVec 32) (v117 : BitVec 32) (k1_hw9 : k1_chk9 k1_t1 v115 v117) (k1_t6 : Fin (k1_t6_loop v115 v117).trips), ∀ (k1_h1 : k1_cond1 k1_t1 = 1#1), ∀ a, (k1_off45 v115 v117 k1_t6) a + S1x16.size a ≤ S16x128.size a := fun k1_t1 v115 v117 k1_hw9 k1_t6 k1_h1 => k1_hw9.2.2.2.2.2.1 k1_t6 k1_h1
theorem k1_off46_inb : ∀ (k1_t1 : Fin k1_t1_loop.trips) (v115 : BitVec 32) (v117 : BitVec 32) (k1_hw9 : k1_chk9 k1_t1 v115 v117) (k1_t6 : Fin (k1_t6_loop v115 v117).trips), ∀ (k1_h1 : k1_cond1 k1_t1 = 1#1), ∀ a, (k1_off46 v115 v117 k1_t6) a + S1x16.size a ≤ S16x128.size a := fun k1_t1 v115 v117 k1_hw9 k1_t6 k1_h1 => k1_hw9.2.2.2.2.2.2.1 k1_t6 k1_h1
theorem k1_off47_inb : ∀ (k1_t1 : Fin k1_t1_loop.trips) (v115 : BitVec 32) (v117 : BitVec 32) (k1_hw9 : k1_chk9 k1_t1 v115 v117) (k1_t6 : Fin (k1_t6_loop v115 v117).trips), ∀ (k1_h1 : k1_cond1 k1_t1 = 1#1), ∀ a, (k1_off47 v115 v117 k1_t6) a + S1x16.size a ≤ S16x128.size a := fun k1_t1 v115 v117 k1_hw9 k1_t6 k1_h1 => k1_hw9.2.2.2.2.2.2.2.1 k1_t6 k1_h1
theorem k1_off48_inb : ∀ (k1_t1 : Fin k1_t1_loop.trips) (v115 : BitVec 32) (v117 : BitVec 32) (k1_hw9 : k1_chk9 k1_t1 v115 v117) (k1_t6 : Fin (k1_t6_loop v115 v117).trips), ∀ (k1_h1 : k1_cond1 k1_t1 = 1#1), ∀ a, (k1_off48 v115 v117 k1_t6) a + S1x16.size a ≤ S16x128.size a := fun k1_t1 v115 v117 k1_hw9 k1_t6 k1_h1 => k1_hw9.2.2.2.2.2.2.2.2.1 k1_t6 k1_h1
theorem k1_t7_ok : ∀ (k1_t1 : Fin k1_t1_loop.trips) (v115 : BitVec 32) (v117 : BitVec 32) (k1_hw9 : k1_chk9 k1_t1 v115 v117), ∀ (k1_h1 : k1_cond1 k1_t1 = 1#1), (k1_t7_loop v115 v117).OK := fun k1_t1 v115 v117 k1_hw9 k1_h1 => k1_hw9.2.2.2.2.2.2.2.2.2.1 k1_h1
theorem k1_off49_inb : ∀ (k1_t1 : Fin k1_t1_loop.trips) (v115 : BitVec 32) (v117 : BitVec 32) (k1_hw9 : k1_chk9 k1_t1 v115 v117) (k1_t7 : Fin (k1_t7_loop v115 v117).trips), ∀ (k1_h1 : k1_cond1 k1_t1 = 1#1), ∀ a, (k1_off49 v115 v117 k1_t7) a + S1x16.size a ≤ S16x128.size a := fun k1_t1 v115 v117 k1_hw9 k1_t7 k1_h1 => k1_hw9.2.2.2.2.2.2.2.2.2.2.1 k1_t7 k1_h1
theorem k1_off50_inb : ∀ (k1_t1 : Fin k1_t1_loop.trips) (v115 : BitVec 32) (v117 : BitVec 32) (k1_hw9 : k1_chk9 k1_t1 v115 v117) (k1_t7 : Fin (k1_t7_loop v115 v117).trips), ∀ (k1_h1 : k1_cond1 k1_t1 = 1#1), ∀ a, (k1_off50 v115 v117 k1_t7) a + S1x16.size a ≤ S16x128.size a := fun k1_t1 v115 v117 k1_hw9 k1_t7 k1_h1 => k1_hw9.2.2.2.2.2.2.2.2.2.2.2.1 k1_t7 k1_h1
theorem k1_off51_inb : ∀ (k1_t1 : Fin k1_t1_loop.trips) (v115 : BitVec 32) (v117 : BitVec 32) (k1_hw9 : k1_chk9 k1_t1 v115 v117) (k1_t7 : Fin (k1_t7_loop v115 v117).trips), ∀ (k1_h1 : k1_cond1 k1_t1 = 1#1), ∀ a, (k1_off51 v115 v117 k1_t7) a + S1x16.size a ≤ S16x128.size a := fun k1_t1 v115 v117 k1_hw9 k1_t7 k1_h1 => k1_hw9.2.2.2.2.2.2.2.2.2.2.2.2.1 k1_t7 k1_h1
theorem k1_off52_inb : ∀ (k1_t1 : Fin k1_t1_loop.trips) (v115 : BitVec 32) (v117 : BitVec 32) (k1_hw9 : k1_chk9 k1_t1 v115 v117) (k1_t7 : Fin (k1_t7_loop v115 v117).trips), ∀ (k1_h1 : k1_cond1 k1_t1 = 1#1), ∀ a, (k1_off52 v115 v117 k1_t7) a + S1x16.size a ≤ S16x128.size a := fun k1_t1 v115 v117 k1_hw9 k1_t7 k1_h1 => k1_hw9.2.2.2.2.2.2.2.2.2.2.2.2.2.1 k1_t7 k1_h1
theorem k1_off53_inb : ∀ (k1_t1 : Fin k1_t1_loop.trips) (v115 : BitVec 32) (v117 : BitVec 32) (k1_hw9 : k1_chk9 k1_t1 v115 v117) (k1_t7 : Fin (k1_t7_loop v115 v117).trips), ∀ (k1_h1 : k1_cond1 k1_t1 = 1#1), ∀ a, (k1_off53 v115 v117 k1_t7) a + S1x16.size a ≤ S16x128.size a := fun k1_t1 v115 v117 k1_hw9 k1_t7 k1_h1 => k1_hw9.2.2.2.2.2.2.2.2.2.2.2.2.2.2.1 k1_t7 k1_h1
theorem k1_off54_inb : ∀ (k1_t1 : Fin k1_t1_loop.trips) (v115 : BitVec 32) (v117 : BitVec 32) (k1_hw9 : k1_chk9 k1_t1 v115 v117) (k1_t7 : Fin (k1_t7_loop v115 v117).trips), ∀ (k1_h1 : k1_cond1 k1_t1 = 1#1), ∀ a, (k1_off54 v115 v117 k1_t7) a + S1x16.size a ≤ S16x128.size a := fun k1_t1 v115 v117 k1_hw9 k1_t7 k1_h1 => k1_hw9.2.2.2.2.2.2.2.2.2.2.2.2.2.2.2.1 k1_t7 k1_h1
theorem k1_off55_inb : ∀ (k1_t1 : Fin k1_t1_loop.trips) (v115 : BitVec 32) (v117 : BitVec 32) (k1_hw9 : k1_chk9 k1_t1 v115 v117) (k1_t7 : Fin (k1_t7_loop v115 v117).trips), ∀ (k1_h1 : k1_cond1 k1_t1 = 1#1), ∀ a, (k1_off55 v115 v117 k1_t7) a + S1x16.size a ≤ S16x128.size a := fun k1_t1 v115 v117 k1_hw9 k1_t7 k1_h1 => k1_hw9.2.2.2.2.2.2.2.2.2.2.2.2.2.2.2.2.1 k1_t7 k1_h1
theorem k1_off56_inb : ∀ (k1_t1 : Fin k1_t1_loop.trips) (v115 : BitVec 32) (v117 : BitVec 32) (k1_hw9 : k1_chk9 k1_t1 v115 v117) (k1_t7 : Fin (k1_t7_loop v115 v117).trips), ∀ (k1_h1 : k1_cond1 k1_t1 = 1#1), ∀ a, (k1_off56 v115 v117 k1_t7) a + S1x16.size a ≤ S16x128.size a := fun k1_t1 v115 v117 k1_hw9 k1_t7 k1_h1 => k1_hw9.2.2.2.2.2.2.2.2.2.2.2.2.2.2.2.2.2 k1_t7 k1_h1

def k1_off57 (k1_t1 : Fin k1_t1_loop.trips) : Fin 2 → Nat :=
  let c0_i32_25 : BitVec 32 := 0#32
  let c0_i32_13 : BitVec 32 := 0#32
  let c1_i32_14 : BitVec 32 := 1#32
  let arg21 : BitVec 32 := Scf.iv c0_i32_13 c1_i32_14 k1_t1
  let c1_i32_24 : BitVec 32 := 1#32
  let v47 : BitVec 32 := Scalar.muli arg21 c1_i32_24
  let v48 : BitVec 32 := Scalar.addi c0_i32_25 v47
  let v125 : Index := Scalar.indexCast v48
  let c0_70 : Index := 0#32
  ![v125.toNat, 0]
def k1_off58 (k1_t1 : Fin k1_t1_loop.trips) : Fin 2 → Nat :=
  let c0_i32_25 : BitVec 32 := 0#32
  let c0_i32_13 : BitVec 32 := 0#32
  let c1_i32_14 : BitVec 32 := 1#32
  let arg21 : BitVec 32 := Scf.iv c0_i32_13 c1_i32_14 k1_t1
  let c1_i32_24 : BitVec 32 := 1#32
  let v47 : BitVec 32 := Scalar.muli arg21 c1_i32_24
  let v48 : BitVec 32 := Scalar.addi c0_i32_25 v47
  let v129 : Index := Scalar.indexCast v48
  let c16 : Index := 16#32
  ![v129.toNat, 16]
def k1_off59 (k1_t1 : Fin k1_t1_loop.trips) : Fin 2 → Nat :=
  let c0_i32_25 : BitVec 32 := 0#32
  let c0_i32_13 : BitVec 32 := 0#32
  let c1_i32_14 : BitVec 32 := 1#32
  let arg21 : BitVec 32 := Scf.iv c0_i32_13 c1_i32_14 k1_t1
  let c1_i32_24 : BitVec 32 := 1#32
  let v47 : BitVec 32 := Scalar.muli arg21 c1_i32_24
  let v48 : BitVec 32 := Scalar.addi c0_i32_25 v47
  let v133 : Index := Scalar.indexCast v48
  let c32 : Index := 32#32
  ![v133.toNat, 32]
def k1_off60 (k1_t1 : Fin k1_t1_loop.trips) : Fin 2 → Nat :=
  let c0_i32_25 : BitVec 32 := 0#32
  let c0_i32_13 : BitVec 32 := 0#32
  let c1_i32_14 : BitVec 32 := 1#32
  let arg21 : BitVec 32 := Scf.iv c0_i32_13 c1_i32_14 k1_t1
  let c1_i32_24 : BitVec 32 := 1#32
  let v47 : BitVec 32 := Scalar.muli arg21 c1_i32_24
  let v48 : BitVec 32 := Scalar.addi c0_i32_25 v47
  let v137 : Index := Scalar.indexCast v48
  let c48 : Index := 48#32
  ![v137.toNat, 48]
def k1_off61 (k1_t1 : Fin k1_t1_loop.trips) : Fin 2 → Nat :=
  let c0_i32_25 : BitVec 32 := 0#32
  let c0_i32_13 : BitVec 32 := 0#32
  let c1_i32_14 : BitVec 32 := 1#32
  let arg21 : BitVec 32 := Scf.iv c0_i32_13 c1_i32_14 k1_t1
  let c1_i32_24 : BitVec 32 := 1#32
  let v47 : BitVec 32 := Scalar.muli arg21 c1_i32_24
  let v48 : BitVec 32 := Scalar.addi c0_i32_25 v47
  let v141 : Index := Scalar.indexCast v48
  let c64 : Index := 64#32
  ![v141.toNat, 64]
def k1_off62 (k1_t1 : Fin k1_t1_loop.trips) : Fin 2 → Nat :=
  let c0_i32_25 : BitVec 32 := 0#32
  let c0_i32_13 : BitVec 32 := 0#32
  let c1_i32_14 : BitVec 32 := 1#32
  let arg21 : BitVec 32 := Scf.iv c0_i32_13 c1_i32_14 k1_t1
  let c1_i32_24 : BitVec 32 := 1#32
  let v47 : BitVec 32 := Scalar.muli arg21 c1_i32_24
  let v48 : BitVec 32 := Scalar.addi c0_i32_25 v47
  let v145 : Index := Scalar.indexCast v48
  let c80 : Index := 80#32
  ![v145.toNat, 80]
def k1_off63 (k1_t1 : Fin k1_t1_loop.trips) : Fin 2 → Nat :=
  let c0_i32_25 : BitVec 32 := 0#32
  let c0_i32_13 : BitVec 32 := 0#32
  let c1_i32_14 : BitVec 32 := 1#32
  let arg21 : BitVec 32 := Scf.iv c0_i32_13 c1_i32_14 k1_t1
  let c1_i32_24 : BitVec 32 := 1#32
  let v47 : BitVec 32 := Scalar.muli arg21 c1_i32_24
  let v48 : BitVec 32 := Scalar.addi c0_i32_25 v47
  let v149 : Index := Scalar.indexCast v48
  let c96 : Index := 96#32
  ![v149.toNat, 96]
def k1_off64 (k1_t1 : Fin k1_t1_loop.trips) : Fin 2 → Nat :=
  let c0_i32_25 : BitVec 32 := 0#32
  let c0_i32_13 : BitVec 32 := 0#32
  let c1_i32_14 : BitVec 32 := 1#32
  let arg21 : BitVec 32 := Scf.iv c0_i32_13 c1_i32_14 k1_t1
  let c1_i32_24 : BitVec 32 := 1#32
  let v47 : BitVec 32 := Scalar.muli arg21 c1_i32_24
  let v48 : BitVec 32 := Scalar.addi c0_i32_25 v47
  let v153 : Index := Scalar.indexCast v48
  let c112 : Index := 112#32
  ![v153.toNat, 112]
def k1_cond2 (k1_t1 : Fin k1_t1_loop.trips) : BitVec 1 :=
  let c0_i32_25 : BitVec 32 := 0#32
  let c0_i32_13 : BitVec 32 := 0#32
  let c1_i32_14 : BitVec 32 := 1#32
  let arg21 : BitVec 32 := Scf.iv c0_i32_13 c1_i32_14 k1_t1
  let c1_i32_24 : BitVec 32 := 1#32
  let v47 : BitVec 32 := Scalar.muli arg21 c1_i32_24
  let v48 : BitVec 32 := Scalar.addi c0_i32_25 v47
  let c2_i32_71 : BitVec 32 := 2#32
  let v157 : BitVec 32 := Scalar.addi v48 c2_i32_71
  let c25_i32_72 : BitVec 32 := 25#32
  let v158 : BitVec 1 := Scalar.cmpi .slt v157 c25_i32_72
  let v159 : BitVec 32 := Scalar.extui v158
  let c0_i32_73 : BitVec 32 := 0#32
  let v160 : BitVec 1 := Scalar.cmpi .ne v159 c0_i32_73
  v160

def k1_off65 (k1_t1 : Fin k1_t1_loop.trips) : Fin 2 → Nat :=
  let c0_i32_25 : BitVec 32 := 0#32
  let c0_i32_13 : BitVec 32 := 0#32
  let c1_i32_14 : BitVec 32 := 1#32
  let arg21 : BitVec 32 := Scf.iv c0_i32_13 c1_i32_14 k1_t1
  let c1_i32_24 : BitVec 32 := 1#32
  let v47 : BitVec 32 := Scalar.muli arg21 c1_i32_24
  let v48 : BitVec 32 := Scalar.addi c0_i32_25 v47
  let c2_i32_74 : BitVec 32 := 2#32
  let v161 : BitVec 32 := Scalar.addi v48 c2_i32_74
  let v162 : Index := Scalar.indexCast v161
  let c0_75 : Index := 0#32
  ![v162.toNat, 0]
def k1_mult7 (v166 : BitVec 32) : BitVec 32 :=
  v166

def k1_mult8 (v169 : BitVec 32) : BitVec 32 :=
  v169

def k1_mult9 (v172 : BitVec 32) : BitVec 32 :=
  v172

def k1_off66 (v166 : BitVec 32) : Fin 2 → Nat :=
  let v167 : BitVec 32 := v166
  let c0_i32_76 : BitVec 32 := 0#32
  ![v167.toNat, 0]

def k1_chk10 (k1_t1 : Fin k1_t1_loop.trips) (v166 : BitVec 32) : Prop :=
  (∀ (k1_h1 : k1_cond1 k1_t1 = 1#1), ∀ (k1_h2 : k1_cond2 k1_t1 = 1#1), 8 ∣ (k1_mult7 v166).toNat) ∧
  (∀ (k1_h1 : k1_cond1 k1_t1 = 1#1), ∀ (k1_h2 : k1_cond2 k1_t1 = 1#1), ∀ a, (k1_off66 v166) a + S64x128.size a ≤ S20000x128.size a)
theorem k1_mult7_dvd : ∀ (k1_t1 : Fin k1_t1_loop.trips) (v166 : BitVec 32) (k1_hw10 : k1_chk10 k1_t1 v166), ∀ (k1_h1 : k1_cond1 k1_t1 = 1#1), ∀ (k1_h2 : k1_cond2 k1_t1 = 1#1), 8 ∣ (k1_mult7 v166).toNat := fun k1_t1 v166 k1_hw10 k1_h1 k1_h2 => k1_hw10.1 k1_h1 k1_h2
theorem k1_off66_inb : ∀ (k1_t1 : Fin k1_t1_loop.trips) (v166 : BitVec 32) (k1_hw10 : k1_chk10 k1_t1 v166), ∀ (k1_h1 : k1_cond1 k1_t1 = 1#1), ∀ (k1_h2 : k1_cond2 k1_t1 = 1#1), ∀ a, (k1_off66 v166) a + S64x128.size a ≤ S20000x128.size a := fun k1_t1 v166 k1_hw10 k1_h1 k1_h2 => k1_hw10.2 k1_h1 k1_h2

def k1_off67 (v169 : BitVec 32) : Fin 2 → Nat :=
  let v170 : BitVec 32 := v169
  let c0_i32_78 : BitVec 32 := 0#32
  ![v170.toNat, 0]

def k1_chk11 (k1_t1 : Fin k1_t1_loop.trips) (v169 : BitVec 32) : Prop :=
  (∀ (k1_h1 : k1_cond1 k1_t1 = 1#1), ∀ (k1_h2 : k1_cond2 k1_t1 = 1#1), 8 ∣ (k1_mult8 v169).toNat) ∧
  (∀ (k1_h1 : k1_cond1 k1_t1 = 1#1), ∀ (k1_h2 : k1_cond2 k1_t1 = 1#1), ∀ a, (k1_off67 v169) a + S16x128.size a ≤ S319600x128.size a)
theorem k1_mult8_dvd : ∀ (k1_t1 : Fin k1_t1_loop.trips) (v169 : BitVec 32) (k1_hw11 : k1_chk11 k1_t1 v169), ∀ (k1_h1 : k1_cond1 k1_t1 = 1#1), ∀ (k1_h2 : k1_cond2 k1_t1 = 1#1), 8 ∣ (k1_mult8 v169).toNat := fun k1_t1 v169 k1_hw11 k1_h1 k1_h2 => k1_hw11.1 k1_h1 k1_h2
theorem k1_off67_inb : ∀ (k1_t1 : Fin k1_t1_loop.trips) (v169 : BitVec 32) (k1_hw11 : k1_chk11 k1_t1 v169), ∀ (k1_h1 : k1_cond1 k1_t1 = 1#1), ∀ (k1_h2 : k1_cond2 k1_t1 = 1#1), ∀ a, (k1_off67 v169) a + S16x128.size a ≤ S319600x128.size a := fun k1_t1 v169 k1_hw11 k1_h1 k1_h2 => k1_hw11.2 k1_h1 k1_h2

def k1_off68 (v172 : BitVec 32) : Fin 2 → Nat :=
  let v173 : BitVec 32 := v172
  let c0_i32_80 : BitVec 32 := 0#32
  ![v173.toNat, 0]

def k1_chk12 (k1_t1 : Fin k1_t1_loop.trips) (v172 : BitVec 32) : Prop :=
  (∀ (k1_h1 : k1_cond1 k1_t1 = 1#1), ∀ (k1_h2 : k1_cond2 k1_t1 = 1#1), 8 ∣ (k1_mult9 v172).toNat) ∧
  (∀ (k1_h1 : k1_cond1 k1_t1 = 1#1), ∀ (k1_h2 : k1_cond2 k1_t1 = 1#1), ∀ a, (k1_off68 v172) a + S16x128.size a ≤ S319600x128.size a)
theorem k1_mult9_dvd : ∀ (k1_t1 : Fin k1_t1_loop.trips) (v172 : BitVec 32) (k1_hw12 : k1_chk12 k1_t1 v172), ∀ (k1_h1 : k1_cond1 k1_t1 = 1#1), ∀ (k1_h2 : k1_cond2 k1_t1 = 1#1), 8 ∣ (k1_mult9 v172).toNat := fun k1_t1 v172 k1_hw12 k1_h1 k1_h2 => k1_hw12.1 k1_h1 k1_h2
theorem k1_off68_inb : ∀ (k1_t1 : Fin k1_t1_loop.trips) (v172 : BitVec 32) (k1_hw12 : k1_chk12 k1_t1 v172), ∀ (k1_h1 : k1_cond1 k1_t1 = 1#1), ∀ (k1_h2 : k1_cond2 k1_t1 = 1#1), ∀ a, (k1_off68 v172) a + S16x128.size a ≤ S319600x128.size a := fun k1_t1 v172 k1_hw12 k1_h1 k1_h2 => k1_hw12.2 k1_h1 k1_h2

def k1_cond3 (k1_t1 : Fin k1_t1_loop.trips) : BitVec 1 :=
  let c0_i32_25 : BitVec 32 := 0#32
  let c0_i32_13 : BitVec 32 := 0#32
  let c1_i32_14 : BitVec 32 := 1#32
  let arg21 : BitVec 32 := Scf.iv c0_i32_13 c1_i32_14 k1_t1
  let c1_i32_24 : BitVec 32 := 1#32
  let v47 : BitVec 32 := Scalar.muli arg21 c1_i32_24
  let v48 : BitVec 32 := Scalar.addi c0_i32_25 v47
  let c2_i32_33 : BitVec 32 := 2#32
  let c0_i32_34 : BitVec 32 := 0#32
  let v62 : BitVec 1 := Scalar.cmpi .eq c2_i32_33 c0_i32_34
  let c1_i32_35 : BitVec 32 := 1#32
  let v63 : BitVec 32 := Scalar.select v62 c1_i32_35 c2_i32_33
  let v64 : BitVec 32 := Scalar.remsi v48 v63
  let c0_i32_37 : BitVec 32 := 0#32
  let v66 : BitVec 1 := Scalar.cmpi .slt v64 c0_i32_37
  let c0_i32_38 : BitVec 32 := 0#32
  let v67 : BitVec 1 := Scalar.cmpi .slt v63 c0_i32_38
  let v68 : BitVec 1 := Scalar.xori v66 v67
  let c0_i32_36 : BitVec 32 := 0#32
  let v65 : BitVec 1 := Scalar.cmpi .ne v64 c0_i32_36
  let v69 : BitVec 1 := Scalar.andi v68 v65
  let v70 : BitVec 32 := Scalar.addi v64 v63
  let v71 : BitVec 32 := Scalar.select v69 v70 v64
  let c1_i32_39 : BitVec 32 := 1#32
  let v72 : BitVec 1 := Scalar.cmpi .eq v71 c1_i32_39
  let v73 : BitVec 32 := Scalar.extui v72
  let c0_i32_40 : BitVec 32 := 0#32
  let v74 : BitVec 1 := Scalar.cmpi .ne v73 c0_i32_40
  v74

def k1_off69 (k1_t1 : Fin k1_t1_loop.trips) : Fin 2 → Nat :=
  let c0_i32_25 : BitVec 32 := 0#32
  let c0_i32_13 : BitVec 32 := 0#32
  let c1_i32_14 : BitVec 32 := 1#32
  let arg21 : BitVec 32 := Scf.iv c0_i32_13 c1_i32_14 k1_t1
  let c1_i32_24 : BitVec 32 := 1#32
  let v47 : BitVec 32 := Scalar.muli arg21 c1_i32_24
  let v48 : BitVec 32 := Scalar.addi c0_i32_25 v47
  let v81 : Index := Scalar.indexCast v48
  let c0_53 : Index := 0#32
  ![v81.toNat, 0]
@[reducible] def k1_t8_loop (v93 : BitVec 32) (v95 : BitVec 32) : Scf.Loop 32 :=
  let v96 : BitVec 32 := Scalar.subi v95 v93
  let c1_i32_61 : BitVec 32 := 1#32
  let v98 : BitVec 32 := Scalar.divsi v96 c1_i32_61
  let v99 : BitVec 32 := Scalar.muli v98 c1_i32_61
  let v100 : BitVec 32 := Scalar.addi v93 v99
  let c1_i32_62 : BitVec 32 := 1#32
  ⟨v93, v100, c1_i32_62⟩

def k1_off70 (v93 : BitVec 32) (v95 : BitVec 32) (k1_t8 : Fin (k1_t8_loop v93 v95).trips) : Fin 2 → Nat :=
  let c1_i32_62 : BitVec 32 := 1#32
  let arg22 : BitVec 32 := Scf.iv v93 c1_i32_62 k1_t8
  let v161 : Index := Scalar.indexCast arg22
  let c0_74 : Index := 0#32
  ![v161.toNat, 0]
def k1_off71 (v93 : BitVec 32) (v95 : BitVec 32) (k1_t8 : Fin (k1_t8_loop v93 v95).trips) : Fin 2 → Nat :=
  let c1_i32_62 : BitVec 32 := 1#32
  let arg22 : BitVec 32 := Scf.iv v93 c1_i32_62 k1_t8
  let v165 : Index := Scalar.indexCast arg22
  let c16_75 : Index := 16#32
  ![v165.toNat, 16]
def k1_off72 (v93 : BitVec 32) (v95 : BitVec 32) (k1_t8 : Fin (k1_t8_loop v93 v95).trips) : Fin 2 → Nat :=
  let c1_i32_62 : BitVec 32 := 1#32
  let arg22 : BitVec 32 := Scf.iv v93 c1_i32_62 k1_t8
  let v169 : Index := Scalar.indexCast arg22
  let c32_76 : Index := 32#32
  ![v169.toNat, 32]
def k1_off73 (v93 : BitVec 32) (v95 : BitVec 32) (k1_t8 : Fin (k1_t8_loop v93 v95).trips) : Fin 2 → Nat :=
  let c1_i32_62 : BitVec 32 := 1#32
  let arg22 : BitVec 32 := Scf.iv v93 c1_i32_62 k1_t8
  let v173 : Index := Scalar.indexCast arg22
  let c48_77 : Index := 48#32
  ![v173.toNat, 48]
def k1_off74 (v93 : BitVec 32) (v95 : BitVec 32) (k1_t8 : Fin (k1_t8_loop v93 v95).trips) : Fin 2 → Nat :=
  let c1_i32_62 : BitVec 32 := 1#32
  let arg22 : BitVec 32 := Scf.iv v93 c1_i32_62 k1_t8
  let v177 : Index := Scalar.indexCast arg22
  let c64_78 : Index := 64#32
  ![v177.toNat, 64]
def k1_off75 (v93 : BitVec 32) (v95 : BitVec 32) (k1_t8 : Fin (k1_t8_loop v93 v95).trips) : Fin 2 → Nat :=
  let c1_i32_62 : BitVec 32 := 1#32
  let arg22 : BitVec 32 := Scf.iv v93 c1_i32_62 k1_t8
  let v181 : Index := Scalar.indexCast arg22
  let c80_79 : Index := 80#32
  ![v181.toNat, 80]
def k1_off76 (v93 : BitVec 32) (v95 : BitVec 32) (k1_t8 : Fin (k1_t8_loop v93 v95).trips) : Fin 2 → Nat :=
  let c1_i32_62 : BitVec 32 := 1#32
  let arg22 : BitVec 32 := Scf.iv v93 c1_i32_62 k1_t8
  let v185 : Index := Scalar.indexCast arg22
  let c96_80 : Index := 96#32
  ![v185.toNat, 96]
def k1_off77 (v93 : BitVec 32) (v95 : BitVec 32) (k1_t8 : Fin (k1_t8_loop v93 v95).trips) : Fin 2 → Nat :=
  let c1_i32_62 : BitVec 32 := 1#32
  let arg22 : BitVec 32 := Scf.iv v93 c1_i32_62 k1_t8
  let v189 : Index := Scalar.indexCast arg22
  let c112_81 : Index := 112#32
  ![v189.toNat, 112]
@[reducible] def k1_t9_loop (v93 : BitVec 32) (v95 : BitVec 32) : Scf.Loop 32 :=
  let v96 : BitVec 32 := Scalar.subi v95 v93
  let c1_i32_61 : BitVec 32 := 1#32
  let v98 : BitVec 32 := Scalar.divsi v96 c1_i32_61
  let v99 : BitVec 32 := Scalar.muli v98 c1_i32_61
  let v100 : BitVec 32 := Scalar.addi v93 v99
  let v97 : BitVec 32 := Scalar.addi v93 v96
  let c1_i32_63 : BitVec 32 := 1#32
  ⟨v100, v97, c1_i32_63⟩
def k1_off78 (v93 : BitVec 32) (v95 : BitVec 32) (k1_t9 : Fin (k1_t9_loop v93 v95).trips) : Fin 2 → Nat :=
  let v96 : BitVec 32 := Scalar.subi v95 v93
  let c1_i32_61 : BitVec 32 := 1#32
  let v98 : BitVec 32 := Scalar.divsi v96 c1_i32_61
  let v99 : BitVec 32 := Scalar.muli v98 c1_i32_61
  let v100 : BitVec 32 := Scalar.addi v93 v99
  let c1_i32_63 : BitVec 32 := 1#32
  let arg22 : BitVec 32 := Scf.iv v100 c1_i32_63 k1_t9
  let v161 : Index := Scalar.indexCast arg22
  let c0_74 : Index := 0#32
  ![v161.toNat, 0]
def k1_off79 (v93 : BitVec 32) (v95 : BitVec 32) (k1_t9 : Fin (k1_t9_loop v93 v95).trips) : Fin 2 → Nat :=
  let v96 : BitVec 32 := Scalar.subi v95 v93
  let c1_i32_61 : BitVec 32 := 1#32
  let v98 : BitVec 32 := Scalar.divsi v96 c1_i32_61
  let v99 : BitVec 32 := Scalar.muli v98 c1_i32_61
  let v100 : BitVec 32 := Scalar.addi v93 v99
  let c1_i32_63 : BitVec 32 := 1#32
  let arg22 : BitVec 32 := Scf.iv v100 c1_i32_63 k1_t9
  let v165 : Index := Scalar.indexCast arg22
  let c16_75 : Index := 16#32
  ![v165.toNat, 16]
def k1_off80 (v93 : BitVec 32) (v95 : BitVec 32) (k1_t9 : Fin (k1_t9_loop v93 v95).trips) : Fin 2 → Nat :=
  let v96 : BitVec 32 := Scalar.subi v95 v93
  let c1_i32_61 : BitVec 32 := 1#32
  let v98 : BitVec 32 := Scalar.divsi v96 c1_i32_61
  let v99 : BitVec 32 := Scalar.muli v98 c1_i32_61
  let v100 : BitVec 32 := Scalar.addi v93 v99
  let c1_i32_63 : BitVec 32 := 1#32
  let arg22 : BitVec 32 := Scf.iv v100 c1_i32_63 k1_t9
  let v169 : Index := Scalar.indexCast arg22
  let c32_76 : Index := 32#32
  ![v169.toNat, 32]
def k1_off81 (v93 : BitVec 32) (v95 : BitVec 32) (k1_t9 : Fin (k1_t9_loop v93 v95).trips) : Fin 2 → Nat :=
  let v96 : BitVec 32 := Scalar.subi v95 v93
  let c1_i32_61 : BitVec 32 := 1#32
  let v98 : BitVec 32 := Scalar.divsi v96 c1_i32_61
  let v99 : BitVec 32 := Scalar.muli v98 c1_i32_61
  let v100 : BitVec 32 := Scalar.addi v93 v99
  let c1_i32_63 : BitVec 32 := 1#32
  let arg22 : BitVec 32 := Scf.iv v100 c1_i32_63 k1_t9
  let v173 : Index := Scalar.indexCast arg22
  let c48_77 : Index := 48#32
  ![v173.toNat, 48]
def k1_off82 (v93 : BitVec 32) (v95 : BitVec 32) (k1_t9 : Fin (k1_t9_loop v93 v95).trips) : Fin 2 → Nat :=
  let v96 : BitVec 32 := Scalar.subi v95 v93
  let c1_i32_61 : BitVec 32 := 1#32
  let v98 : BitVec 32 := Scalar.divsi v96 c1_i32_61
  let v99 : BitVec 32 := Scalar.muli v98 c1_i32_61
  let v100 : BitVec 32 := Scalar.addi v93 v99
  let c1_i32_63 : BitVec 32 := 1#32
  let arg22 : BitVec 32 := Scf.iv v100 c1_i32_63 k1_t9
  let v177 : Index := Scalar.indexCast arg22
  let c64_78 : Index := 64#32
  ![v177.toNat, 64]
def k1_off83 (v93 : BitVec 32) (v95 : BitVec 32) (k1_t9 : Fin (k1_t9_loop v93 v95).trips) : Fin 2 → Nat :=
  let v96 : BitVec 32 := Scalar.subi v95 v93
  let c1_i32_61 : BitVec 32 := 1#32
  let v98 : BitVec 32 := Scalar.divsi v96 c1_i32_61
  let v99 : BitVec 32 := Scalar.muli v98 c1_i32_61
  let v100 : BitVec 32 := Scalar.addi v93 v99
  let c1_i32_63 : BitVec 32 := 1#32
  let arg22 : BitVec 32 := Scf.iv v100 c1_i32_63 k1_t9
  let v181 : Index := Scalar.indexCast arg22
  let c80_79 : Index := 80#32
  ![v181.toNat, 80]
def k1_off84 (v93 : BitVec 32) (v95 : BitVec 32) (k1_t9 : Fin (k1_t9_loop v93 v95).trips) : Fin 2 → Nat :=
  let v96 : BitVec 32 := Scalar.subi v95 v93
  let c1_i32_61 : BitVec 32 := 1#32
  let v98 : BitVec 32 := Scalar.divsi v96 c1_i32_61
  let v99 : BitVec 32 := Scalar.muli v98 c1_i32_61
  let v100 : BitVec 32 := Scalar.addi v93 v99
  let c1_i32_63 : BitVec 32 := 1#32
  let arg22 : BitVec 32 := Scf.iv v100 c1_i32_63 k1_t9
  let v185 : Index := Scalar.indexCast arg22
  let c96_80 : Index := 96#32
  ![v185.toNat, 96]
def k1_off85 (v93 : BitVec 32) (v95 : BitVec 32) (k1_t9 : Fin (k1_t9_loop v93 v95).trips) : Fin 2 → Nat :=
  let v96 : BitVec 32 := Scalar.subi v95 v93
  let c1_i32_61 : BitVec 32 := 1#32
  let v98 : BitVec 32 := Scalar.divsi v96 c1_i32_61
  let v99 : BitVec 32 := Scalar.muli v98 c1_i32_61
  let v100 : BitVec 32 := Scalar.addi v93 v99
  let c1_i32_63 : BitVec 32 := 1#32
  let arg22 : BitVec 32 := Scf.iv v100 c1_i32_63 k1_t9
  let v189 : Index := Scalar.indexCast arg22
  let c112_81 : Index := 112#32
  ![v189.toNat, 112]

def k1_chk13 (k1_t1 : Fin k1_t1_loop.trips) (v93 : BitVec 32) (v95 : BitVec 32) : Prop :=
  (∀ (k1_h3 : k1_cond3 k1_t1 = 1#1), (k1_t8_loop v93 v95).OK) ∧
  (∀ k1_t8 : Fin (k1_t8_loop v93 v95).trips, ∀ (k1_h3 : k1_cond3 k1_t1 = 1#1), ∀ a, (k1_off70 v93 v95 k1_t8) a + S1x16.size a ≤ S64x128.size a) ∧
  (∀ k1_t8 : Fin (k1_t8_loop v93 v95).trips, ∀ (k1_h3 : k1_cond3 k1_t1 = 1#1), ∀ a, (k1_off71 v93 v95 k1_t8) a + S1x16.size a ≤ S64x128.size a) ∧
  (∀ k1_t8 : Fin (k1_t8_loop v93 v95).trips, ∀ (k1_h3 : k1_cond3 k1_t1 = 1#1), ∀ a, (k1_off72 v93 v95 k1_t8) a + S1x16.size a ≤ S64x128.size a) ∧
  (∀ k1_t8 : Fin (k1_t8_loop v93 v95).trips, ∀ (k1_h3 : k1_cond3 k1_t1 = 1#1), ∀ a, (k1_off73 v93 v95 k1_t8) a + S1x16.size a ≤ S64x128.size a) ∧
  (∀ k1_t8 : Fin (k1_t8_loop v93 v95).trips, ∀ (k1_h3 : k1_cond3 k1_t1 = 1#1), ∀ a, (k1_off74 v93 v95 k1_t8) a + S1x16.size a ≤ S64x128.size a) ∧
  (∀ k1_t8 : Fin (k1_t8_loop v93 v95).trips, ∀ (k1_h3 : k1_cond3 k1_t1 = 1#1), ∀ a, (k1_off75 v93 v95 k1_t8) a + S1x16.size a ≤ S64x128.size a) ∧
  (∀ k1_t8 : Fin (k1_t8_loop v93 v95).trips, ∀ (k1_h3 : k1_cond3 k1_t1 = 1#1), ∀ a, (k1_off76 v93 v95 k1_t8) a + S1x16.size a ≤ S64x128.size a) ∧
  (∀ k1_t8 : Fin (k1_t8_loop v93 v95).trips, ∀ (k1_h3 : k1_cond3 k1_t1 = 1#1), ∀ a, (k1_off77 v93 v95 k1_t8) a + S1x16.size a ≤ S64x128.size a) ∧
  (∀ (k1_h3 : k1_cond3 k1_t1 = 1#1), (k1_t9_loop v93 v95).OK) ∧
  (∀ k1_t9 : Fin (k1_t9_loop v93 v95).trips, ∀ (k1_h3 : k1_cond3 k1_t1 = 1#1), ∀ a, (k1_off78 v93 v95 k1_t9) a + S1x16.size a ≤ S64x128.size a) ∧
  (∀ k1_t9 : Fin (k1_t9_loop v93 v95).trips, ∀ (k1_h3 : k1_cond3 k1_t1 = 1#1), ∀ a, (k1_off79 v93 v95 k1_t9) a + S1x16.size a ≤ S64x128.size a) ∧
  (∀ k1_t9 : Fin (k1_t9_loop v93 v95).trips, ∀ (k1_h3 : k1_cond3 k1_t1 = 1#1), ∀ a, (k1_off80 v93 v95 k1_t9) a + S1x16.size a ≤ S64x128.size a) ∧
  (∀ k1_t9 : Fin (k1_t9_loop v93 v95).trips, ∀ (k1_h3 : k1_cond3 k1_t1 = 1#1), ∀ a, (k1_off81 v93 v95 k1_t9) a + S1x16.size a ≤ S64x128.size a) ∧
  (∀ k1_t9 : Fin (k1_t9_loop v93 v95).trips, ∀ (k1_h3 : k1_cond3 k1_t1 = 1#1), ∀ a, (k1_off82 v93 v95 k1_t9) a + S1x16.size a ≤ S64x128.size a) ∧
  (∀ k1_t9 : Fin (k1_t9_loop v93 v95).trips, ∀ (k1_h3 : k1_cond3 k1_t1 = 1#1), ∀ a, (k1_off83 v93 v95 k1_t9) a + S1x16.size a ≤ S64x128.size a) ∧
  (∀ k1_t9 : Fin (k1_t9_loop v93 v95).trips, ∀ (k1_h3 : k1_cond3 k1_t1 = 1#1), ∀ a, (k1_off84 v93 v95 k1_t9) a + S1x16.size a ≤ S64x128.size a) ∧
  (∀ k1_t9 : Fin (k1_t9_loop v93 v95).trips, ∀ (k1_h3 : k1_cond3 k1_t1 = 1#1), ∀ a, (k1_off85 v93 v95 k1_t9) a + S1x16.size a ≤ S64x128.size a)
theorem k1_t8_ok : ∀ (k1_t1 : Fin k1_t1_loop.trips) (v93 : BitVec 32) (v95 : BitVec 32) (k1_hw13 : k1_chk13 k1_t1 v93 v95), ∀ (k1_h3 : k1_cond3 k1_t1 = 1#1), (k1_t8_loop v93 v95).OK := fun k1_t1 v93 v95 k1_hw13 k1_h3 => k1_hw13.1 k1_h3
theorem k1_off70_inb : ∀ (k1_t1 : Fin k1_t1_loop.trips) (v93 : BitVec 32) (v95 : BitVec 32) (k1_hw13 : k1_chk13 k1_t1 v93 v95) (k1_t8 : Fin (k1_t8_loop v93 v95).trips), ∀ (k1_h3 : k1_cond3 k1_t1 = 1#1), ∀ a, (k1_off70 v93 v95 k1_t8) a + S1x16.size a ≤ S64x128.size a := fun k1_t1 v93 v95 k1_hw13 k1_t8 k1_h3 => k1_hw13.2.1 k1_t8 k1_h3
theorem k1_off71_inb : ∀ (k1_t1 : Fin k1_t1_loop.trips) (v93 : BitVec 32) (v95 : BitVec 32) (k1_hw13 : k1_chk13 k1_t1 v93 v95) (k1_t8 : Fin (k1_t8_loop v93 v95).trips), ∀ (k1_h3 : k1_cond3 k1_t1 = 1#1), ∀ a, (k1_off71 v93 v95 k1_t8) a + S1x16.size a ≤ S64x128.size a := fun k1_t1 v93 v95 k1_hw13 k1_t8 k1_h3 => k1_hw13.2.2.1 k1_t8 k1_h3
theorem k1_off72_inb : ∀ (k1_t1 : Fin k1_t1_loop.trips) (v93 : BitVec 32) (v95 : BitVec 32) (k1_hw13 : k1_chk13 k1_t1 v93 v95) (k1_t8 : Fin (k1_t8_loop v93 v95).trips), ∀ (k1_h3 : k1_cond3 k1_t1 = 1#1), ∀ a, (k1_off72 v93 v95 k1_t8) a + S1x16.size a ≤ S64x128.size a := fun k1_t1 v93 v95 k1_hw13 k1_t8 k1_h3 => k1_hw13.2.2.2.1 k1_t8 k1_h3
theorem k1_off73_inb : ∀ (k1_t1 : Fin k1_t1_loop.trips) (v93 : BitVec 32) (v95 : BitVec 32) (k1_hw13 : k1_chk13 k1_t1 v93 v95) (k1_t8 : Fin (k1_t8_loop v93 v95).trips), ∀ (k1_h3 : k1_cond3 k1_t1 = 1#1), ∀ a, (k1_off73 v93 v95 k1_t8) a + S1x16.size a ≤ S64x128.size a := fun k1_t1 v93 v95 k1_hw13 k1_t8 k1_h3 => k1_hw13.2.2.2.2.1 k1_t8 k1_h3
theorem k1_off74_inb : ∀ (k1_t1 : Fin k1_t1_loop.trips) (v93 : BitVec 32) (v95 : BitVec 32) (k1_hw13 : k1_chk13 k1_t1 v93 v95) (k1_t8 : Fin (k1_t8_loop v93 v95).trips), ∀ (k1_h3 : k1_cond3 k1_t1 = 1#1), ∀ a, (k1_off74 v93 v95 k1_t8) a + S1x16.size a ≤ S64x128.size a := fun k1_t1 v93 v95 k1_hw13 k1_t8 k1_h3 => k1_hw13.2.2.2.2.2.1 k1_t8 k1_h3
theorem k1_off75_inb : ∀ (k1_t1 : Fin k1_t1_loop.trips) (v93 : BitVec 32) (v95 : BitVec 32) (k1_hw13 : k1_chk13 k1_t1 v93 v95) (k1_t8 : Fin (k1_t8_loop v93 v95).trips), ∀ (k1_h3 : k1_cond3 k1_t1 = 1#1), ∀ a, (k1_off75 v93 v95 k1_t8) a + S1x16.size a ≤ S64x128.size a := fun k1_t1 v93 v95 k1_hw13 k1_t8 k1_h3 => k1_hw13.2.2.2.2.2.2.1 k1_t8 k1_h3
theorem k1_off76_inb : ∀ (k1_t1 : Fin k1_t1_loop.trips) (v93 : BitVec 32) (v95 : BitVec 32) (k1_hw13 : k1_chk13 k1_t1 v93 v95) (k1_t8 : Fin (k1_t8_loop v93 v95).trips), ∀ (k1_h3 : k1_cond3 k1_t1 = 1#1), ∀ a, (k1_off76 v93 v95 k1_t8) a + S1x16.size a ≤ S64x128.size a := fun k1_t1 v93 v95 k1_hw13 k1_t8 k1_h3 => k1_hw13.2.2.2.2.2.2.2.1 k1_t8 k1_h3
theorem k1_off77_inb : ∀ (k1_t1 : Fin k1_t1_loop.trips) (v93 : BitVec 32) (v95 : BitVec 32) (k1_hw13 : k1_chk13 k1_t1 v93 v95) (k1_t8 : Fin (k1_t8_loop v93 v95).trips), ∀ (k1_h3 : k1_cond3 k1_t1 = 1#1), ∀ a, (k1_off77 v93 v95 k1_t8) a + S1x16.size a ≤ S64x128.size a := fun k1_t1 v93 v95 k1_hw13 k1_t8 k1_h3 => k1_hw13.2.2.2.2.2.2.2.2.1 k1_t8 k1_h3
theorem k1_t9_ok : ∀ (k1_t1 : Fin k1_t1_loop.trips) (v93 : BitVec 32) (v95 : BitVec 32) (k1_hw13 : k1_chk13 k1_t1 v93 v95), ∀ (k1_h3 : k1_cond3 k1_t1 = 1#1), (k1_t9_loop v93 v95).OK := fun k1_t1 v93 v95 k1_hw13 k1_h3 => k1_hw13.2.2.2.2.2.2.2.2.2.1 k1_h3
theorem k1_off78_inb : ∀ (k1_t1 : Fin k1_t1_loop.trips) (v93 : BitVec 32) (v95 : BitVec 32) (k1_hw13 : k1_chk13 k1_t1 v93 v95) (k1_t9 : Fin (k1_t9_loop v93 v95).trips), ∀ (k1_h3 : k1_cond3 k1_t1 = 1#1), ∀ a, (k1_off78 v93 v95 k1_t9) a + S1x16.size a ≤ S64x128.size a := fun k1_t1 v93 v95 k1_hw13 k1_t9 k1_h3 => k1_hw13.2.2.2.2.2.2.2.2.2.2.1 k1_t9 k1_h3
theorem k1_off79_inb : ∀ (k1_t1 : Fin k1_t1_loop.trips) (v93 : BitVec 32) (v95 : BitVec 32) (k1_hw13 : k1_chk13 k1_t1 v93 v95) (k1_t9 : Fin (k1_t9_loop v93 v95).trips), ∀ (k1_h3 : k1_cond3 k1_t1 = 1#1), ∀ a, (k1_off79 v93 v95 k1_t9) a + S1x16.size a ≤ S64x128.size a := fun k1_t1 v93 v95 k1_hw13 k1_t9 k1_h3 => k1_hw13.2.2.2.2.2.2.2.2.2.2.2.1 k1_t9 k1_h3
theorem k1_off80_inb : ∀ (k1_t1 : Fin k1_t1_loop.trips) (v93 : BitVec 32) (v95 : BitVec 32) (k1_hw13 : k1_chk13 k1_t1 v93 v95) (k1_t9 : Fin (k1_t9_loop v93 v95).trips), ∀ (k1_h3 : k1_cond3 k1_t1 = 1#1), ∀ a, (k1_off80 v93 v95 k1_t9) a + S1x16.size a ≤ S64x128.size a := fun k1_t1 v93 v95 k1_hw13 k1_t9 k1_h3 => k1_hw13.2.2.2.2.2.2.2.2.2.2.2.2.1 k1_t9 k1_h3
theorem k1_off81_inb : ∀ (k1_t1 : Fin k1_t1_loop.trips) (v93 : BitVec 32) (v95 : BitVec 32) (k1_hw13 : k1_chk13 k1_t1 v93 v95) (k1_t9 : Fin (k1_t9_loop v93 v95).trips), ∀ (k1_h3 : k1_cond3 k1_t1 = 1#1), ∀ a, (k1_off81 v93 v95 k1_t9) a + S1x16.size a ≤ S64x128.size a := fun k1_t1 v93 v95 k1_hw13 k1_t9 k1_h3 => k1_hw13.2.2.2.2.2.2.2.2.2.2.2.2.2.1 k1_t9 k1_h3
theorem k1_off82_inb : ∀ (k1_t1 : Fin k1_t1_loop.trips) (v93 : BitVec 32) (v95 : BitVec 32) (k1_hw13 : k1_chk13 k1_t1 v93 v95) (k1_t9 : Fin (k1_t9_loop v93 v95).trips), ∀ (k1_h3 : k1_cond3 k1_t1 = 1#1), ∀ a, (k1_off82 v93 v95 k1_t9) a + S1x16.size a ≤ S64x128.size a := fun k1_t1 v93 v95 k1_hw13 k1_t9 k1_h3 => k1_hw13.2.2.2.2.2.2.2.2.2.2.2.2.2.2.1 k1_t9 k1_h3
theorem k1_off83_inb : ∀ (k1_t1 : Fin k1_t1_loop.trips) (v93 : BitVec 32) (v95 : BitVec 32) (k1_hw13 : k1_chk13 k1_t1 v93 v95) (k1_t9 : Fin (k1_t9_loop v93 v95).trips), ∀ (k1_h3 : k1_cond3 k1_t1 = 1#1), ∀ a, (k1_off83 v93 v95 k1_t9) a + S1x16.size a ≤ S64x128.size a := fun k1_t1 v93 v95 k1_hw13 k1_t9 k1_h3 => k1_hw13.2.2.2.2.2.2.2.2.2.2.2.2.2.2.2.1 k1_t9 k1_h3
theorem k1_off84_inb : ∀ (k1_t1 : Fin k1_t1_loop.trips) (v93 : BitVec 32) (v95 : BitVec 32) (k1_hw13 : k1_chk13 k1_t1 v93 v95) (k1_t9 : Fin (k1_t9_loop v93 v95).trips), ∀ (k1_h3 : k1_cond3 k1_t1 = 1#1), ∀ a, (k1_off84 v93 v95 k1_t9) a + S1x16.size a ≤ S64x128.size a := fun k1_t1 v93 v95 k1_hw13 k1_t9 k1_h3 => k1_hw13.2.2.2.2.2.2.2.2.2.2.2.2.2.2.2.2.1 k1_t9 k1_h3
theorem k1_off85_inb : ∀ (k1_t1 : Fin k1_t1_loop.trips) (v93 : BitVec 32) (v95 : BitVec 32) (k1_hw13 : k1_chk13 k1_t1 v93 v95) (k1_t9 : Fin (k1_t9_loop v93 v95).trips), ∀ (k1_h3 : k1_cond3 k1_t1 = 1#1), ∀ a, (k1_off85 v93 v95 k1_t9) a + S1x16.size a ≤ S64x128.size a := fun k1_t1 v93 v95 k1_hw13 k1_t9 k1_h3 => k1_hw13.2.2.2.2.2.2.2.2.2.2.2.2.2.2.2.2.2 k1_t9 k1_h3

@[reducible] def k1_t10_loop (v104 : BitVec 32) (v106 : BitVec 32) : Scf.Loop 32 :=
  let v107 : BitVec 32 := Scalar.subi v106 v104
  let c1_i32_64 : BitVec 32 := 1#32
  let v109 : BitVec 32 := Scalar.divsi v107 c1_i32_64
  let v110 : BitVec 32 := Scalar.muli v109 c1_i32_64
  let v111 : BitVec 32 := Scalar.addi v104 v110
  let c1_i32_65 : BitVec 32 := 1#32
  ⟨v104, v111, c1_i32_65⟩

def k1_off86 (v104 : BitVec 32) (v106 : BitVec 32) (k1_t10 : Fin (k1_t10_loop v104 v106).trips) : Fin 2 → Nat :=
  let c1_i32_65 : BitVec 32 := 1#32
  let arg22 : BitVec 32 := Scf.iv v104 c1_i32_65 k1_t10
  let v161 : Index := Scalar.indexCast arg22
  let c0_74 : Index := 0#32
  ![v161.toNat, 0]
def k1_off87 (v104 : BitVec 32) (v106 : BitVec 32) (k1_t10 : Fin (k1_t10_loop v104 v106).trips) : Fin 2 → Nat :=
  let c1_i32_65 : BitVec 32 := 1#32
  let arg22 : BitVec 32 := Scf.iv v104 c1_i32_65 k1_t10
  let v165 : Index := Scalar.indexCast arg22
  let c16_75 : Index := 16#32
  ![v165.toNat, 16]
def k1_off88 (v104 : BitVec 32) (v106 : BitVec 32) (k1_t10 : Fin (k1_t10_loop v104 v106).trips) : Fin 2 → Nat :=
  let c1_i32_65 : BitVec 32 := 1#32
  let arg22 : BitVec 32 := Scf.iv v104 c1_i32_65 k1_t10
  let v169 : Index := Scalar.indexCast arg22
  let c32_76 : Index := 32#32
  ![v169.toNat, 32]
def k1_off89 (v104 : BitVec 32) (v106 : BitVec 32) (k1_t10 : Fin (k1_t10_loop v104 v106).trips) : Fin 2 → Nat :=
  let c1_i32_65 : BitVec 32 := 1#32
  let arg22 : BitVec 32 := Scf.iv v104 c1_i32_65 k1_t10
  let v173 : Index := Scalar.indexCast arg22
  let c48_77 : Index := 48#32
  ![v173.toNat, 48]
def k1_off90 (v104 : BitVec 32) (v106 : BitVec 32) (k1_t10 : Fin (k1_t10_loop v104 v106).trips) : Fin 2 → Nat :=
  let c1_i32_65 : BitVec 32 := 1#32
  let arg22 : BitVec 32 := Scf.iv v104 c1_i32_65 k1_t10
  let v177 : Index := Scalar.indexCast arg22
  let c64_78 : Index := 64#32
  ![v177.toNat, 64]
def k1_off91 (v104 : BitVec 32) (v106 : BitVec 32) (k1_t10 : Fin (k1_t10_loop v104 v106).trips) : Fin 2 → Nat :=
  let c1_i32_65 : BitVec 32 := 1#32
  let arg22 : BitVec 32 := Scf.iv v104 c1_i32_65 k1_t10
  let v181 : Index := Scalar.indexCast arg22
  let c80_79 : Index := 80#32
  ![v181.toNat, 80]
def k1_off92 (v104 : BitVec 32) (v106 : BitVec 32) (k1_t10 : Fin (k1_t10_loop v104 v106).trips) : Fin 2 → Nat :=
  let c1_i32_65 : BitVec 32 := 1#32
  let arg22 : BitVec 32 := Scf.iv v104 c1_i32_65 k1_t10
  let v185 : Index := Scalar.indexCast arg22
  let c96_80 : Index := 96#32
  ![v185.toNat, 96]
def k1_off93 (v104 : BitVec 32) (v106 : BitVec 32) (k1_t10 : Fin (k1_t10_loop v104 v106).trips) : Fin 2 → Nat :=
  let c1_i32_65 : BitVec 32 := 1#32
  let arg22 : BitVec 32 := Scf.iv v104 c1_i32_65 k1_t10
  let v189 : Index := Scalar.indexCast arg22
  let c112_81 : Index := 112#32
  ![v189.toNat, 112]
@[reducible] def k1_t11_loop (v104 : BitVec 32) (v106 : BitVec 32) : Scf.Loop 32 :=
  let v107 : BitVec 32 := Scalar.subi v106 v104
  let c1_i32_64 : BitVec 32 := 1#32
  let v109 : BitVec 32 := Scalar.divsi v107 c1_i32_64
  let v110 : BitVec 32 := Scalar.muli v109 c1_i32_64
  let v111 : BitVec 32 := Scalar.addi v104 v110
  let v108 : BitVec 32 := Scalar.addi v104 v107
  let c1_i32_66 : BitVec 32 := 1#32
  ⟨v111, v108, c1_i32_66⟩
def k1_off94 (v104 : BitVec 32) (v106 : BitVec 32) (k1_t11 : Fin (k1_t11_loop v104 v106).trips) : Fin 2 → Nat :=
  let v107 : BitVec 32 := Scalar.subi v106 v104
  let c1_i32_64 : BitVec 32 := 1#32
  let v109 : BitVec 32 := Scalar.divsi v107 c1_i32_64
  let v110 : BitVec 32 := Scalar.muli v109 c1_i32_64
  let v111 : BitVec 32 := Scalar.addi v104 v110
  let c1_i32_66 : BitVec 32 := 1#32
  let arg22 : BitVec 32 := Scf.iv v111 c1_i32_66 k1_t11
  let v161 : Index := Scalar.indexCast arg22
  let c0_74 : Index := 0#32
  ![v161.toNat, 0]
def k1_off95 (v104 : BitVec 32) (v106 : BitVec 32) (k1_t11 : Fin (k1_t11_loop v104 v106).trips) : Fin 2 → Nat :=
  let v107 : BitVec 32 := Scalar.subi v106 v104
  let c1_i32_64 : BitVec 32 := 1#32
  let v109 : BitVec 32 := Scalar.divsi v107 c1_i32_64
  let v110 : BitVec 32 := Scalar.muli v109 c1_i32_64
  let v111 : BitVec 32 := Scalar.addi v104 v110
  let c1_i32_66 : BitVec 32 := 1#32
  let arg22 : BitVec 32 := Scf.iv v111 c1_i32_66 k1_t11
  let v165 : Index := Scalar.indexCast arg22
  let c16_75 : Index := 16#32
  ![v165.toNat, 16]
def k1_off96 (v104 : BitVec 32) (v106 : BitVec 32) (k1_t11 : Fin (k1_t11_loop v104 v106).trips) : Fin 2 → Nat :=
  let v107 : BitVec 32 := Scalar.subi v106 v104
  let c1_i32_64 : BitVec 32 := 1#32
  let v109 : BitVec 32 := Scalar.divsi v107 c1_i32_64
  let v110 : BitVec 32 := Scalar.muli v109 c1_i32_64
  let v111 : BitVec 32 := Scalar.addi v104 v110
  let c1_i32_66 : BitVec 32 := 1#32
  let arg22 : BitVec 32 := Scf.iv v111 c1_i32_66 k1_t11
  let v169 : Index := Scalar.indexCast arg22
  let c32_76 : Index := 32#32
  ![v169.toNat, 32]
def k1_off97 (v104 : BitVec 32) (v106 : BitVec 32) (k1_t11 : Fin (k1_t11_loop v104 v106).trips) : Fin 2 → Nat :=
  let v107 : BitVec 32 := Scalar.subi v106 v104
  let c1_i32_64 : BitVec 32 := 1#32
  let v109 : BitVec 32 := Scalar.divsi v107 c1_i32_64
  let v110 : BitVec 32 := Scalar.muli v109 c1_i32_64
  let v111 : BitVec 32 := Scalar.addi v104 v110
  let c1_i32_66 : BitVec 32 := 1#32
  let arg22 : BitVec 32 := Scf.iv v111 c1_i32_66 k1_t11
  let v173 : Index := Scalar.indexCast arg22
  let c48_77 : Index := 48#32
  ![v173.toNat, 48]
def k1_off98 (v104 : BitVec 32) (v106 : BitVec 32) (k1_t11 : Fin (k1_t11_loop v104 v106).trips) : Fin 2 → Nat :=
  let v107 : BitVec 32 := Scalar.subi v106 v104
  let c1_i32_64 : BitVec 32 := 1#32
  let v109 : BitVec 32 := Scalar.divsi v107 c1_i32_64
  let v110 : BitVec 32 := Scalar.muli v109 c1_i32_64
  let v111 : BitVec 32 := Scalar.addi v104 v110
  let c1_i32_66 : BitVec 32 := 1#32
  let arg22 : BitVec 32 := Scf.iv v111 c1_i32_66 k1_t11
  let v177 : Index := Scalar.indexCast arg22
  let c64_78 : Index := 64#32
  ![v177.toNat, 64]
def k1_off99 (v104 : BitVec 32) (v106 : BitVec 32) (k1_t11 : Fin (k1_t11_loop v104 v106).trips) : Fin 2 → Nat :=
  let v107 : BitVec 32 := Scalar.subi v106 v104
  let c1_i32_64 : BitVec 32 := 1#32
  let v109 : BitVec 32 := Scalar.divsi v107 c1_i32_64
  let v110 : BitVec 32 := Scalar.muli v109 c1_i32_64
  let v111 : BitVec 32 := Scalar.addi v104 v110
  let c1_i32_66 : BitVec 32 := 1#32
  let arg22 : BitVec 32 := Scf.iv v111 c1_i32_66 k1_t11
  let v181 : Index := Scalar.indexCast arg22
  let c80_79 : Index := 80#32
  ![v181.toNat, 80]
def k1_off100 (v104 : BitVec 32) (v106 : BitVec 32) (k1_t11 : Fin (k1_t11_loop v104 v106).trips) : Fin 2 → Nat :=
  let v107 : BitVec 32 := Scalar.subi v106 v104
  let c1_i32_64 : BitVec 32 := 1#32
  let v109 : BitVec 32 := Scalar.divsi v107 c1_i32_64
  let v110 : BitVec 32 := Scalar.muli v109 c1_i32_64
  let v111 : BitVec 32 := Scalar.addi v104 v110
  let c1_i32_66 : BitVec 32 := 1#32
  let arg22 : BitVec 32 := Scf.iv v111 c1_i32_66 k1_t11
  let v185 : Index := Scalar.indexCast arg22
  let c96_80 : Index := 96#32
  ![v185.toNat, 96]
def k1_off101 (v104 : BitVec 32) (v106 : BitVec 32) (k1_t11 : Fin (k1_t11_loop v104 v106).trips) : Fin 2 → Nat :=
  let v107 : BitVec 32 := Scalar.subi v106 v104
  let c1_i32_64 : BitVec 32 := 1#32
  let v109 : BitVec 32 := Scalar.divsi v107 c1_i32_64
  let v110 : BitVec 32 := Scalar.muli v109 c1_i32_64
  let v111 : BitVec 32 := Scalar.addi v104 v110
  let c1_i32_66 : BitVec 32 := 1#32
  let arg22 : BitVec 32 := Scf.iv v111 c1_i32_66 k1_t11
  let v189 : Index := Scalar.indexCast arg22
  let c112_81 : Index := 112#32
  ![v189.toNat, 112]

def k1_chk14 (k1_t1 : Fin k1_t1_loop.trips) (v104 : BitVec 32) (v106 : BitVec 32) : Prop :=
  (∀ (k1_h3 : k1_cond3 k1_t1 = 1#1), (k1_t10_loop v104 v106).OK) ∧
  (∀ k1_t10 : Fin (k1_t10_loop v104 v106).trips, ∀ (k1_h3 : k1_cond3 k1_t1 = 1#1), ∀ a, (k1_off86 v104 v106 k1_t10) a + S1x16.size a ≤ S16x128.size a) ∧
  (∀ k1_t10 : Fin (k1_t10_loop v104 v106).trips, ∀ (k1_h3 : k1_cond3 k1_t1 = 1#1), ∀ a, (k1_off87 v104 v106 k1_t10) a + S1x16.size a ≤ S16x128.size a) ∧
  (∀ k1_t10 : Fin (k1_t10_loop v104 v106).trips, ∀ (k1_h3 : k1_cond3 k1_t1 = 1#1), ∀ a, (k1_off88 v104 v106 k1_t10) a + S1x16.size a ≤ S16x128.size a) ∧
  (∀ k1_t10 : Fin (k1_t10_loop v104 v106).trips, ∀ (k1_h3 : k1_cond3 k1_t1 = 1#1), ∀ a, (k1_off89 v104 v106 k1_t10) a + S1x16.size a ≤ S16x128.size a) ∧
  (∀ k1_t10 : Fin (k1_t10_loop v104 v106).trips, ∀ (k1_h3 : k1_cond3 k1_t1 = 1#1), ∀ a, (k1_off90 v104 v106 k1_t10) a + S1x16.size a ≤ S16x128.size a) ∧
  (∀ k1_t10 : Fin (k1_t10_loop v104 v106).trips, ∀ (k1_h3 : k1_cond3 k1_t1 = 1#1), ∀ a, (k1_off91 v104 v106 k1_t10) a + S1x16.size a ≤ S16x128.size a) ∧
  (∀ k1_t10 : Fin (k1_t10_loop v104 v106).trips, ∀ (k1_h3 : k1_cond3 k1_t1 = 1#1), ∀ a, (k1_off92 v104 v106 k1_t10) a + S1x16.size a ≤ S16x128.size a) ∧
  (∀ k1_t10 : Fin (k1_t10_loop v104 v106).trips, ∀ (k1_h3 : k1_cond3 k1_t1 = 1#1), ∀ a, (k1_off93 v104 v106 k1_t10) a + S1x16.size a ≤ S16x128.size a) ∧
  (∀ (k1_h3 : k1_cond3 k1_t1 = 1#1), (k1_t11_loop v104 v106).OK) ∧
  (∀ k1_t11 : Fin (k1_t11_loop v104 v106).trips, ∀ (k1_h3 : k1_cond3 k1_t1 = 1#1), ∀ a, (k1_off94 v104 v106 k1_t11) a + S1x16.size a ≤ S16x128.size a) ∧
  (∀ k1_t11 : Fin (k1_t11_loop v104 v106).trips, ∀ (k1_h3 : k1_cond3 k1_t1 = 1#1), ∀ a, (k1_off95 v104 v106 k1_t11) a + S1x16.size a ≤ S16x128.size a) ∧
  (∀ k1_t11 : Fin (k1_t11_loop v104 v106).trips, ∀ (k1_h3 : k1_cond3 k1_t1 = 1#1), ∀ a, (k1_off96 v104 v106 k1_t11) a + S1x16.size a ≤ S16x128.size a) ∧
  (∀ k1_t11 : Fin (k1_t11_loop v104 v106).trips, ∀ (k1_h3 : k1_cond3 k1_t1 = 1#1), ∀ a, (k1_off97 v104 v106 k1_t11) a + S1x16.size a ≤ S16x128.size a) ∧
  (∀ k1_t11 : Fin (k1_t11_loop v104 v106).trips, ∀ (k1_h3 : k1_cond3 k1_t1 = 1#1), ∀ a, (k1_off98 v104 v106 k1_t11) a + S1x16.size a ≤ S16x128.size a) ∧
  (∀ k1_t11 : Fin (k1_t11_loop v104 v106).trips, ∀ (k1_h3 : k1_cond3 k1_t1 = 1#1), ∀ a, (k1_off99 v104 v106 k1_t11) a + S1x16.size a ≤ S16x128.size a) ∧
  (∀ k1_t11 : Fin (k1_t11_loop v104 v106).trips, ∀ (k1_h3 : k1_cond3 k1_t1 = 1#1), ∀ a, (k1_off100 v104 v106 k1_t11) a + S1x16.size a ≤ S16x128.size a) ∧
  (∀ k1_t11 : Fin (k1_t11_loop v104 v106).trips, ∀ (k1_h3 : k1_cond3 k1_t1 = 1#1), ∀ a, (k1_off101 v104 v106 k1_t11) a + S1x16.size a ≤ S16x128.size a)
theorem k1_t10_ok : ∀ (k1_t1 : Fin k1_t1_loop.trips) (v104 : BitVec 32) (v106 : BitVec 32) (k1_hw14 : k1_chk14 k1_t1 v104 v106), ∀ (k1_h3 : k1_cond3 k1_t1 = 1#1), (k1_t10_loop v104 v106).OK := fun k1_t1 v104 v106 k1_hw14 k1_h3 => k1_hw14.1 k1_h3
theorem k1_off86_inb : ∀ (k1_t1 : Fin k1_t1_loop.trips) (v104 : BitVec 32) (v106 : BitVec 32) (k1_hw14 : k1_chk14 k1_t1 v104 v106) (k1_t10 : Fin (k1_t10_loop v104 v106).trips), ∀ (k1_h3 : k1_cond3 k1_t1 = 1#1), ∀ a, (k1_off86 v104 v106 k1_t10) a + S1x16.size a ≤ S16x128.size a := fun k1_t1 v104 v106 k1_hw14 k1_t10 k1_h3 => k1_hw14.2.1 k1_t10 k1_h3
theorem k1_off87_inb : ∀ (k1_t1 : Fin k1_t1_loop.trips) (v104 : BitVec 32) (v106 : BitVec 32) (k1_hw14 : k1_chk14 k1_t1 v104 v106) (k1_t10 : Fin (k1_t10_loop v104 v106).trips), ∀ (k1_h3 : k1_cond3 k1_t1 = 1#1), ∀ a, (k1_off87 v104 v106 k1_t10) a + S1x16.size a ≤ S16x128.size a := fun k1_t1 v104 v106 k1_hw14 k1_t10 k1_h3 => k1_hw14.2.2.1 k1_t10 k1_h3
theorem k1_off88_inb : ∀ (k1_t1 : Fin k1_t1_loop.trips) (v104 : BitVec 32) (v106 : BitVec 32) (k1_hw14 : k1_chk14 k1_t1 v104 v106) (k1_t10 : Fin (k1_t10_loop v104 v106).trips), ∀ (k1_h3 : k1_cond3 k1_t1 = 1#1), ∀ a, (k1_off88 v104 v106 k1_t10) a + S1x16.size a ≤ S16x128.size a := fun k1_t1 v104 v106 k1_hw14 k1_t10 k1_h3 => k1_hw14.2.2.2.1 k1_t10 k1_h3
theorem k1_off89_inb : ∀ (k1_t1 : Fin k1_t1_loop.trips) (v104 : BitVec 32) (v106 : BitVec 32) (k1_hw14 : k1_chk14 k1_t1 v104 v106) (k1_t10 : Fin (k1_t10_loop v104 v106).trips), ∀ (k1_h3 : k1_cond3 k1_t1 = 1#1), ∀ a, (k1_off89 v104 v106 k1_t10) a + S1x16.size a ≤ S16x128.size a := fun k1_t1 v104 v106 k1_hw14 k1_t10 k1_h3 => k1_hw14.2.2.2.2.1 k1_t10 k1_h3
theorem k1_off90_inb : ∀ (k1_t1 : Fin k1_t1_loop.trips) (v104 : BitVec 32) (v106 : BitVec 32) (k1_hw14 : k1_chk14 k1_t1 v104 v106) (k1_t10 : Fin (k1_t10_loop v104 v106).trips), ∀ (k1_h3 : k1_cond3 k1_t1 = 1#1), ∀ a, (k1_off90 v104 v106 k1_t10) a + S1x16.size a ≤ S16x128.size a := fun k1_t1 v104 v106 k1_hw14 k1_t10 k1_h3 => k1_hw14.2.2.2.2.2.1 k1_t10 k1_h3
theorem k1_off91_inb : ∀ (k1_t1 : Fin k1_t1_loop.trips) (v104 : BitVec 32) (v106 : BitVec 32) (k1_hw14 : k1_chk14 k1_t1 v104 v106) (k1_t10 : Fin (k1_t10_loop v104 v106).trips), ∀ (k1_h3 : k1_cond3 k1_t1 = 1#1), ∀ a, (k1_off91 v104 v106 k1_t10) a + S1x16.size a ≤ S16x128.size a := fun k1_t1 v104 v106 k1_hw14 k1_t10 k1_h3 => k1_hw14.2.2.2.2.2.2.1 k1_t10 k1_h3
theorem k1_off92_inb : ∀ (k1_t1 : Fin k1_t1_loop.trips) (v104 : BitVec 32) (v106 : BitVec 32) (k1_hw14 : k1_chk14 k1_t1 v104 v106) (k1_t10 : Fin (k1_t10_loop v104 v106).trips), ∀ (k1_h3 : k1_cond3 k1_t1 = 1#1), ∀ a, (k1_off92 v104 v106 k1_t10) a + S1x16.size a ≤ S16x128.size a := fun k1_t1 v104 v106 k1_hw14 k1_t10 k1_h3 => k1_hw14.2.2.2.2.2.2.2.1 k1_t10 k1_h3
theorem k1_off93_inb : ∀ (k1_t1 : Fin k1_t1_loop.trips) (v104 : BitVec 32) (v106 : BitVec 32) (k1_hw14 : k1_chk14 k1_t1 v104 v106) (k1_t10 : Fin (k1_t10_loop v104 v106).trips), ∀ (k1_h3 : k1_cond3 k1_t1 = 1#1), ∀ a, (k1_off93 v104 v106 k1_t10) a + S1x16.size a ≤ S16x128.size a := fun k1_t1 v104 v106 k1_hw14 k1_t10 k1_h3 => k1_hw14.2.2.2.2.2.2.2.2.1 k1_t10 k1_h3
theorem k1_t11_ok : ∀ (k1_t1 : Fin k1_t1_loop.trips) (v104 : BitVec 32) (v106 : BitVec 32) (k1_hw14 : k1_chk14 k1_t1 v104 v106), ∀ (k1_h3 : k1_cond3 k1_t1 = 1#1), (k1_t11_loop v104 v106).OK := fun k1_t1 v104 v106 k1_hw14 k1_h3 => k1_hw14.2.2.2.2.2.2.2.2.2.1 k1_h3
theorem k1_off94_inb : ∀ (k1_t1 : Fin k1_t1_loop.trips) (v104 : BitVec 32) (v106 : BitVec 32) (k1_hw14 : k1_chk14 k1_t1 v104 v106) (k1_t11 : Fin (k1_t11_loop v104 v106).trips), ∀ (k1_h3 : k1_cond3 k1_t1 = 1#1), ∀ a, (k1_off94 v104 v106 k1_t11) a + S1x16.size a ≤ S16x128.size a := fun k1_t1 v104 v106 k1_hw14 k1_t11 k1_h3 => k1_hw14.2.2.2.2.2.2.2.2.2.2.1 k1_t11 k1_h3
theorem k1_off95_inb : ∀ (k1_t1 : Fin k1_t1_loop.trips) (v104 : BitVec 32) (v106 : BitVec 32) (k1_hw14 : k1_chk14 k1_t1 v104 v106) (k1_t11 : Fin (k1_t11_loop v104 v106).trips), ∀ (k1_h3 : k1_cond3 k1_t1 = 1#1), ∀ a, (k1_off95 v104 v106 k1_t11) a + S1x16.size a ≤ S16x128.size a := fun k1_t1 v104 v106 k1_hw14 k1_t11 k1_h3 => k1_hw14.2.2.2.2.2.2.2.2.2.2.2.1 k1_t11 k1_h3
theorem k1_off96_inb : ∀ (k1_t1 : Fin k1_t1_loop.trips) (v104 : BitVec 32) (v106 : BitVec 32) (k1_hw14 : k1_chk14 k1_t1 v104 v106) (k1_t11 : Fin (k1_t11_loop v104 v106).trips), ∀ (k1_h3 : k1_cond3 k1_t1 = 1#1), ∀ a, (k1_off96 v104 v106 k1_t11) a + S1x16.size a ≤ S16x128.size a := fun k1_t1 v104 v106 k1_hw14 k1_t11 k1_h3 => k1_hw14.2.2.2.2.2.2.2.2.2.2.2.2.1 k1_t11 k1_h3
theorem k1_off97_inb : ∀ (k1_t1 : Fin k1_t1_loop.trips) (v104 : BitVec 32) (v106 : BitVec 32) (k1_hw14 : k1_chk14 k1_t1 v104 v106) (k1_t11 : Fin (k1_t11_loop v104 v106).trips), ∀ (k1_h3 : k1_cond3 k1_t1 = 1#1), ∀ a, (k1_off97 v104 v106 k1_t11) a + S1x16.size a ≤ S16x128.size a := fun k1_t1 v104 v106 k1_hw14 k1_t11 k1_h3 => k1_hw14.2.2.2.2.2.2.2.2.2.2.2.2.2.1 k1_t11 k1_h3
theorem k1_off98_inb : ∀ (k1_t1 : Fin k1_t1_loop.trips) (v104 : BitVec 32) (v106 : BitVec 32) (k1_hw14 : k1_chk14 k1_t1 v104 v106) (k1_t11 : Fin (k1_t11_loop v104 v106).trips), ∀ (k1_h3 : k1_cond3 k1_t1 = 1#1), ∀ a, (k1_off98 v104 v106 k1_t11) a + S1x16.size a ≤ S16x128.size a := fun k1_t1 v104 v106 k1_hw14 k1_t11 k1_h3 => k1_hw14.2.2.2.2.2.2.2.2.2.2.2.2.2.2.1 k1_t11 k1_h3
theorem k1_off99_inb : ∀ (k1_t1 : Fin k1_t1_loop.trips) (v104 : BitVec 32) (v106 : BitVec 32) (k1_hw14 : k1_chk14 k1_t1 v104 v106) (k1_t11 : Fin (k1_t11_loop v104 v106).trips), ∀ (k1_h3 : k1_cond3 k1_t1 = 1#1), ∀ a, (k1_off99 v104 v106 k1_t11) a + S1x16.size a ≤ S16x128.size a := fun k1_t1 v104 v106 k1_hw14 k1_t11 k1_h3 => k1_hw14.2.2.2.2.2.2.2.2.2.2.2.2.2.2.2.1 k1_t11 k1_h3
theorem k1_off100_inb : ∀ (k1_t1 : Fin k1_t1_loop.trips) (v104 : BitVec 32) (v106 : BitVec 32) (k1_hw14 : k1_chk14 k1_t1 v104 v106) (k1_t11 : Fin (k1_t11_loop v104 v106).trips), ∀ (k1_h3 : k1_cond3 k1_t1 = 1#1), ∀ a, (k1_off100 v104 v106 k1_t11) a + S1x16.size a ≤ S16x128.size a := fun k1_t1 v104 v106 k1_hw14 k1_t11 k1_h3 => k1_hw14.2.2.2.2.2.2.2.2.2.2.2.2.2.2.2.2.1 k1_t11 k1_h3
theorem k1_off101_inb : ∀ (k1_t1 : Fin k1_t1_loop.trips) (v104 : BitVec 32) (v106 : BitVec 32) (k1_hw14 : k1_chk14 k1_t1 v104 v106) (k1_t11 : Fin (k1_t11_loop v104 v106).trips), ∀ (k1_h3 : k1_cond3 k1_t1 = 1#1), ∀ a, (k1_off101 v104 v106 k1_t11) a + S1x16.size a ≤ S16x128.size a := fun k1_t1 v104 v106 k1_hw14 k1_t11 k1_h3 => k1_hw14.2.2.2.2.2.2.2.2.2.2.2.2.2.2.2.2.2 k1_t11 k1_h3

@[reducible] def k1_t12_loop (v115 : BitVec 32) (v117 : BitVec 32) : Scf.Loop 32 :=
  let v118 : BitVec 32 := Scalar.subi v117 v115
  let c1_i32_67 : BitVec 32 := 1#32
  let v120 : BitVec 32 := Scalar.divsi v118 c1_i32_67
  let v121 : BitVec 32 := Scalar.muli v120 c1_i32_67
  let v122 : BitVec 32 := Scalar.addi v115 v121
  let c1_i32_68 : BitVec 32 := 1#32
  ⟨v115, v122, c1_i32_68⟩

def k1_off102 (v115 : BitVec 32) (v117 : BitVec 32) (k1_t12 : Fin (k1_t12_loop v115 v117).trips) : Fin 2 → Nat :=
  let c1_i32_68 : BitVec 32 := 1#32
  let arg22 : BitVec 32 := Scf.iv v115 c1_i32_68 k1_t12
  let v161 : Index := Scalar.indexCast arg22
  let c0_74 : Index := 0#32
  ![v161.toNat, 0]
def k1_off103 (v115 : BitVec 32) (v117 : BitVec 32) (k1_t12 : Fin (k1_t12_loop v115 v117).trips) : Fin 2 → Nat :=
  let c1_i32_68 : BitVec 32 := 1#32
  let arg22 : BitVec 32 := Scf.iv v115 c1_i32_68 k1_t12
  let v165 : Index := Scalar.indexCast arg22
  let c16_75 : Index := 16#32
  ![v165.toNat, 16]
def k1_off104 (v115 : BitVec 32) (v117 : BitVec 32) (k1_t12 : Fin (k1_t12_loop v115 v117).trips) : Fin 2 → Nat :=
  let c1_i32_68 : BitVec 32 := 1#32
  let arg22 : BitVec 32 := Scf.iv v115 c1_i32_68 k1_t12
  let v169 : Index := Scalar.indexCast arg22
  let c32_76 : Index := 32#32
  ![v169.toNat, 32]
def k1_off105 (v115 : BitVec 32) (v117 : BitVec 32) (k1_t12 : Fin (k1_t12_loop v115 v117).trips) : Fin 2 → Nat :=
  let c1_i32_68 : BitVec 32 := 1#32
  let arg22 : BitVec 32 := Scf.iv v115 c1_i32_68 k1_t12
  let v173 : Index := Scalar.indexCast arg22
  let c48_77 : Index := 48#32
  ![v173.toNat, 48]
def k1_off106 (v115 : BitVec 32) (v117 : BitVec 32) (k1_t12 : Fin (k1_t12_loop v115 v117).trips) : Fin 2 → Nat :=
  let c1_i32_68 : BitVec 32 := 1#32
  let arg22 : BitVec 32 := Scf.iv v115 c1_i32_68 k1_t12
  let v177 : Index := Scalar.indexCast arg22
  let c64_78 : Index := 64#32
  ![v177.toNat, 64]
def k1_off107 (v115 : BitVec 32) (v117 : BitVec 32) (k1_t12 : Fin (k1_t12_loop v115 v117).trips) : Fin 2 → Nat :=
  let c1_i32_68 : BitVec 32 := 1#32
  let arg22 : BitVec 32 := Scf.iv v115 c1_i32_68 k1_t12
  let v181 : Index := Scalar.indexCast arg22
  let c80_79 : Index := 80#32
  ![v181.toNat, 80]
def k1_off108 (v115 : BitVec 32) (v117 : BitVec 32) (k1_t12 : Fin (k1_t12_loop v115 v117).trips) : Fin 2 → Nat :=
  let c1_i32_68 : BitVec 32 := 1#32
  let arg22 : BitVec 32 := Scf.iv v115 c1_i32_68 k1_t12
  let v185 : Index := Scalar.indexCast arg22
  let c96_80 : Index := 96#32
  ![v185.toNat, 96]
def k1_off109 (v115 : BitVec 32) (v117 : BitVec 32) (k1_t12 : Fin (k1_t12_loop v115 v117).trips) : Fin 2 → Nat :=
  let c1_i32_68 : BitVec 32 := 1#32
  let arg22 : BitVec 32 := Scf.iv v115 c1_i32_68 k1_t12
  let v189 : Index := Scalar.indexCast arg22
  let c112_81 : Index := 112#32
  ![v189.toNat, 112]
@[reducible] def k1_t13_loop (v115 : BitVec 32) (v117 : BitVec 32) : Scf.Loop 32 :=
  let v118 : BitVec 32 := Scalar.subi v117 v115
  let c1_i32_67 : BitVec 32 := 1#32
  let v120 : BitVec 32 := Scalar.divsi v118 c1_i32_67
  let v121 : BitVec 32 := Scalar.muli v120 c1_i32_67
  let v122 : BitVec 32 := Scalar.addi v115 v121
  let v119 : BitVec 32 := Scalar.addi v115 v118
  let c1_i32_69 : BitVec 32 := 1#32
  ⟨v122, v119, c1_i32_69⟩
def k1_off110 (v115 : BitVec 32) (v117 : BitVec 32) (k1_t13 : Fin (k1_t13_loop v115 v117).trips) : Fin 2 → Nat :=
  let v118 : BitVec 32 := Scalar.subi v117 v115
  let c1_i32_67 : BitVec 32 := 1#32
  let v120 : BitVec 32 := Scalar.divsi v118 c1_i32_67
  let v121 : BitVec 32 := Scalar.muli v120 c1_i32_67
  let v122 : BitVec 32 := Scalar.addi v115 v121
  let c1_i32_69 : BitVec 32 := 1#32
  let arg22 : BitVec 32 := Scf.iv v122 c1_i32_69 k1_t13
  let v161 : Index := Scalar.indexCast arg22
  let c0_74 : Index := 0#32
  ![v161.toNat, 0]
def k1_off111 (v115 : BitVec 32) (v117 : BitVec 32) (k1_t13 : Fin (k1_t13_loop v115 v117).trips) : Fin 2 → Nat :=
  let v118 : BitVec 32 := Scalar.subi v117 v115
  let c1_i32_67 : BitVec 32 := 1#32
  let v120 : BitVec 32 := Scalar.divsi v118 c1_i32_67
  let v121 : BitVec 32 := Scalar.muli v120 c1_i32_67
  let v122 : BitVec 32 := Scalar.addi v115 v121
  let c1_i32_69 : BitVec 32 := 1#32
  let arg22 : BitVec 32 := Scf.iv v122 c1_i32_69 k1_t13
  let v165 : Index := Scalar.indexCast arg22
  let c16_75 : Index := 16#32
  ![v165.toNat, 16]
def k1_off112 (v115 : BitVec 32) (v117 : BitVec 32) (k1_t13 : Fin (k1_t13_loop v115 v117).trips) : Fin 2 → Nat :=
  let v118 : BitVec 32 := Scalar.subi v117 v115
  let c1_i32_67 : BitVec 32 := 1#32
  let v120 : BitVec 32 := Scalar.divsi v118 c1_i32_67
  let v121 : BitVec 32 := Scalar.muli v120 c1_i32_67
  let v122 : BitVec 32 := Scalar.addi v115 v121
  let c1_i32_69 : BitVec 32 := 1#32
  let arg22 : BitVec 32 := Scf.iv v122 c1_i32_69 k1_t13
  let v169 : Index := Scalar.indexCast arg22
  let c32_76 : Index := 32#32
  ![v169.toNat, 32]
def k1_off113 (v115 : BitVec 32) (v117 : BitVec 32) (k1_t13 : Fin (k1_t13_loop v115 v117).trips) : Fin 2 → Nat :=
  let v118 : BitVec 32 := Scalar.subi v117 v115
  let c1_i32_67 : BitVec 32 := 1#32
  let v120 : BitVec 32 := Scalar.divsi v118 c1_i32_67
  let v121 : BitVec 32 := Scalar.muli v120 c1_i32_67
  let v122 : BitVec 32 := Scalar.addi v115 v121
  let c1_i32_69 : BitVec 32 := 1#32
  let arg22 : BitVec 32 := Scf.iv v122 c1_i32_69 k1_t13
  let v173 : Index := Scalar.indexCast arg22
  let c48_77 : Index := 48#32
  ![v173.toNat, 48]
def k1_off114 (v115 : BitVec 32) (v117 : BitVec 32) (k1_t13 : Fin (k1_t13_loop v115 v117).trips) : Fin 2 → Nat :=
  let v118 : BitVec 32 := Scalar.subi v117 v115
  let c1_i32_67 : BitVec 32 := 1#32
  let v120 : BitVec 32 := Scalar.divsi v118 c1_i32_67
  let v121 : BitVec 32 := Scalar.muli v120 c1_i32_67
  let v122 : BitVec 32 := Scalar.addi v115 v121
  let c1_i32_69 : BitVec 32 := 1#32
  let arg22 : BitVec 32 := Scf.iv v122 c1_i32_69 k1_t13
  let v177 : Index := Scalar.indexCast arg22
  let c64_78 : Index := 64#32
  ![v177.toNat, 64]
def k1_off115 (v115 : BitVec 32) (v117 : BitVec 32) (k1_t13 : Fin (k1_t13_loop v115 v117).trips) : Fin 2 → Nat :=
  let v118 : BitVec 32 := Scalar.subi v117 v115
  let c1_i32_67 : BitVec 32 := 1#32
  let v120 : BitVec 32 := Scalar.divsi v118 c1_i32_67
  let v121 : BitVec 32 := Scalar.muli v120 c1_i32_67
  let v122 : BitVec 32 := Scalar.addi v115 v121
  let c1_i32_69 : BitVec 32 := 1#32
  let arg22 : BitVec 32 := Scf.iv v122 c1_i32_69 k1_t13
  let v181 : Index := Scalar.indexCast arg22
  let c80_79 : Index := 80#32
  ![v181.toNat, 80]
def k1_off116 (v115 : BitVec 32) (v117 : BitVec 32) (k1_t13 : Fin (k1_t13_loop v115 v117).trips) : Fin 2 → Nat :=
  let v118 : BitVec 32 := Scalar.subi v117 v115
  let c1_i32_67 : BitVec 32 := 1#32
  let v120 : BitVec 32 := Scalar.divsi v118 c1_i32_67
  let v121 : BitVec 32 := Scalar.muli v120 c1_i32_67
  let v122 : BitVec 32 := Scalar.addi v115 v121
  let c1_i32_69 : BitVec 32 := 1#32
  let arg22 : BitVec 32 := Scf.iv v122 c1_i32_69 k1_t13
  let v185 : Index := Scalar.indexCast arg22
  let c96_80 : Index := 96#32
  ![v185.toNat, 96]
def k1_off117 (v115 : BitVec 32) (v117 : BitVec 32) (k1_t13 : Fin (k1_t13_loop v115 v117).trips) : Fin 2 → Nat :=
  let v118 : BitVec 32 := Scalar.subi v117 v115
  let c1_i32_67 : BitVec 32 := 1#32
  let v120 : BitVec 32 := Scalar.divsi v118 c1_i32_67
  let v121 : BitVec 32 := Scalar.muli v120 c1_i32_67
  let v122 : BitVec 32 := Scalar.addi v115 v121
  let c1_i32_69 : BitVec 32 := 1#32
  let arg22 : BitVec 32 := Scf.iv v122 c1_i32_69 k1_t13
  let v189 : Index := Scalar.indexCast arg22
  let c112_81 : Index := 112#32
  ![v189.toNat, 112]

def k1_chk15 (k1_t1 : Fin k1_t1_loop.trips) (v115 : BitVec 32) (v117 : BitVec 32) : Prop :=
  (∀ (k1_h3 : k1_cond3 k1_t1 = 1#1), (k1_t12_loop v115 v117).OK) ∧
  (∀ k1_t12 : Fin (k1_t12_loop v115 v117).trips, ∀ (k1_h3 : k1_cond3 k1_t1 = 1#1), ∀ a, (k1_off102 v115 v117 k1_t12) a + S1x16.size a ≤ S16x128.size a) ∧
  (∀ k1_t12 : Fin (k1_t12_loop v115 v117).trips, ∀ (k1_h3 : k1_cond3 k1_t1 = 1#1), ∀ a, (k1_off103 v115 v117 k1_t12) a + S1x16.size a ≤ S16x128.size a) ∧
  (∀ k1_t12 : Fin (k1_t12_loop v115 v117).trips, ∀ (k1_h3 : k1_cond3 k1_t1 = 1#1), ∀ a, (k1_off104 v115 v117 k1_t12) a + S1x16.size a ≤ S16x128.size a) ∧
  (∀ k1_t12 : Fin (k1_t12_loop v115 v117).trips, ∀ (k1_h3 : k1_cond3 k1_t1 = 1#1), ∀ a, (k1_off105 v115 v117 k1_t12) a + S1x16.size a ≤ S16x128.size a) ∧
  (∀ k1_t12 : Fin (k1_t12_loop v115 v117).trips, ∀ (k1_h3 : k1_cond3 k1_t1 = 1#1), ∀ a, (k1_off106 v115 v117 k1_t12) a + S1x16.size a ≤ S16x128.size a) ∧
  (∀ k1_t12 : Fin (k1_t12_loop v115 v117).trips, ∀ (k1_h3 : k1_cond3 k1_t1 = 1#1), ∀ a, (k1_off107 v115 v117 k1_t12) a + S1x16.size a ≤ S16x128.size a) ∧
  (∀ k1_t12 : Fin (k1_t12_loop v115 v117).trips, ∀ (k1_h3 : k1_cond3 k1_t1 = 1#1), ∀ a, (k1_off108 v115 v117 k1_t12) a + S1x16.size a ≤ S16x128.size a) ∧
  (∀ k1_t12 : Fin (k1_t12_loop v115 v117).trips, ∀ (k1_h3 : k1_cond3 k1_t1 = 1#1), ∀ a, (k1_off109 v115 v117 k1_t12) a + S1x16.size a ≤ S16x128.size a) ∧
  (∀ (k1_h3 : k1_cond3 k1_t1 = 1#1), (k1_t13_loop v115 v117).OK) ∧
  (∀ k1_t13 : Fin (k1_t13_loop v115 v117).trips, ∀ (k1_h3 : k1_cond3 k1_t1 = 1#1), ∀ a, (k1_off110 v115 v117 k1_t13) a + S1x16.size a ≤ S16x128.size a) ∧
  (∀ k1_t13 : Fin (k1_t13_loop v115 v117).trips, ∀ (k1_h3 : k1_cond3 k1_t1 = 1#1), ∀ a, (k1_off111 v115 v117 k1_t13) a + S1x16.size a ≤ S16x128.size a) ∧
  (∀ k1_t13 : Fin (k1_t13_loop v115 v117).trips, ∀ (k1_h3 : k1_cond3 k1_t1 = 1#1), ∀ a, (k1_off112 v115 v117 k1_t13) a + S1x16.size a ≤ S16x128.size a) ∧
  (∀ k1_t13 : Fin (k1_t13_loop v115 v117).trips, ∀ (k1_h3 : k1_cond3 k1_t1 = 1#1), ∀ a, (k1_off113 v115 v117 k1_t13) a + S1x16.size a ≤ S16x128.size a) ∧
  (∀ k1_t13 : Fin (k1_t13_loop v115 v117).trips, ∀ (k1_h3 : k1_cond3 k1_t1 = 1#1), ∀ a, (k1_off114 v115 v117 k1_t13) a + S1x16.size a ≤ S16x128.size a) ∧
  (∀ k1_t13 : Fin (k1_t13_loop v115 v117).trips, ∀ (k1_h3 : k1_cond3 k1_t1 = 1#1), ∀ a, (k1_off115 v115 v117 k1_t13) a + S1x16.size a ≤ S16x128.size a) ∧
  (∀ k1_t13 : Fin (k1_t13_loop v115 v117).trips, ∀ (k1_h3 : k1_cond3 k1_t1 = 1#1), ∀ a, (k1_off116 v115 v117 k1_t13) a + S1x16.size a ≤ S16x128.size a) ∧
  (∀ k1_t13 : Fin (k1_t13_loop v115 v117).trips, ∀ (k1_h3 : k1_cond3 k1_t1 = 1#1), ∀ a, (k1_off117 v115 v117 k1_t13) a + S1x16.size a ≤ S16x128.size a)
theorem k1_t12_ok : ∀ (k1_t1 : Fin k1_t1_loop.trips) (v115 : BitVec 32) (v117 : BitVec 32) (k1_hw15 : k1_chk15 k1_t1 v115 v117), ∀ (k1_h3 : k1_cond3 k1_t1 = 1#1), (k1_t12_loop v115 v117).OK := fun k1_t1 v115 v117 k1_hw15 k1_h3 => k1_hw15.1 k1_h3
theorem k1_off102_inb : ∀ (k1_t1 : Fin k1_t1_loop.trips) (v115 : BitVec 32) (v117 : BitVec 32) (k1_hw15 : k1_chk15 k1_t1 v115 v117) (k1_t12 : Fin (k1_t12_loop v115 v117).trips), ∀ (k1_h3 : k1_cond3 k1_t1 = 1#1), ∀ a, (k1_off102 v115 v117 k1_t12) a + S1x16.size a ≤ S16x128.size a := fun k1_t1 v115 v117 k1_hw15 k1_t12 k1_h3 => k1_hw15.2.1 k1_t12 k1_h3
theorem k1_off103_inb : ∀ (k1_t1 : Fin k1_t1_loop.trips) (v115 : BitVec 32) (v117 : BitVec 32) (k1_hw15 : k1_chk15 k1_t1 v115 v117) (k1_t12 : Fin (k1_t12_loop v115 v117).trips), ∀ (k1_h3 : k1_cond3 k1_t1 = 1#1), ∀ a, (k1_off103 v115 v117 k1_t12) a + S1x16.size a ≤ S16x128.size a := fun k1_t1 v115 v117 k1_hw15 k1_t12 k1_h3 => k1_hw15.2.2.1 k1_t12 k1_h3
theorem k1_off104_inb : ∀ (k1_t1 : Fin k1_t1_loop.trips) (v115 : BitVec 32) (v117 : BitVec 32) (k1_hw15 : k1_chk15 k1_t1 v115 v117) (k1_t12 : Fin (k1_t12_loop v115 v117).trips), ∀ (k1_h3 : k1_cond3 k1_t1 = 1#1), ∀ a, (k1_off104 v115 v117 k1_t12) a + S1x16.size a ≤ S16x128.size a := fun k1_t1 v115 v117 k1_hw15 k1_t12 k1_h3 => k1_hw15.2.2.2.1 k1_t12 k1_h3
theorem k1_off105_inb : ∀ (k1_t1 : Fin k1_t1_loop.trips) (v115 : BitVec 32) (v117 : BitVec 32) (k1_hw15 : k1_chk15 k1_t1 v115 v117) (k1_t12 : Fin (k1_t12_loop v115 v117).trips), ∀ (k1_h3 : k1_cond3 k1_t1 = 1#1), ∀ a, (k1_off105 v115 v117 k1_t12) a + S1x16.size a ≤ S16x128.size a := fun k1_t1 v115 v117 k1_hw15 k1_t12 k1_h3 => k1_hw15.2.2.2.2.1 k1_t12 k1_h3
theorem k1_off106_inb : ∀ (k1_t1 : Fin k1_t1_loop.trips) (v115 : BitVec 32) (v117 : BitVec 32) (k1_hw15 : k1_chk15 k1_t1 v115 v117) (k1_t12 : Fin (k1_t12_loop v115 v117).trips), ∀ (k1_h3 : k1_cond3 k1_t1 = 1#1), ∀ a, (k1_off106 v115 v117 k1_t12) a + S1x16.size a ≤ S16x128.size a := fun k1_t1 v115 v117 k1_hw15 k1_t12 k1_h3 => k1_hw15.2.2.2.2.2.1 k1_t12 k1_h3
theorem k1_off107_inb : ∀ (k1_t1 : Fin k1_t1_loop.trips) (v115 : BitVec 32) (v117 : BitVec 32) (k1_hw15 : k1_chk15 k1_t1 v115 v117) (k1_t12 : Fin (k1_t12_loop v115 v117).trips), ∀ (k1_h3 : k1_cond3 k1_t1 = 1#1), ∀ a, (k1_off107 v115 v117 k1_t12) a + S1x16.size a ≤ S16x128.size a := fun k1_t1 v115 v117 k1_hw15 k1_t12 k1_h3 => k1_hw15.2.2.2.2.2.2.1 k1_t12 k1_h3
theorem k1_off108_inb : ∀ (k1_t1 : Fin k1_t1_loop.trips) (v115 : BitVec 32) (v117 : BitVec 32) (k1_hw15 : k1_chk15 k1_t1 v115 v117) (k1_t12 : Fin (k1_t12_loop v115 v117).trips), ∀ (k1_h3 : k1_cond3 k1_t1 = 1#1), ∀ a, (k1_off108 v115 v117 k1_t12) a + S1x16.size a ≤ S16x128.size a := fun k1_t1 v115 v117 k1_hw15 k1_t12 k1_h3 => k1_hw15.2.2.2.2.2.2.2.1 k1_t12 k1_h3
theorem k1_off109_inb : ∀ (k1_t1 : Fin k1_t1_loop.trips) (v115 : BitVec 32) (v117 : BitVec 32) (k1_hw15 : k1_chk15 k1_t1 v115 v117) (k1_t12 : Fin (k1_t12_loop v115 v117).trips), ∀ (k1_h3 : k1_cond3 k1_t1 = 1#1), ∀ a, (k1_off109 v115 v117 k1_t12) a + S1x16.size a ≤ S16x128.size a := fun k1_t1 v115 v117 k1_hw15 k1_t12 k1_h3 => k1_hw15.2.2.2.2.2.2.2.2.1 k1_t12 k1_h3
theorem k1_t13_ok : ∀ (k1_t1 : Fin k1_t1_loop.trips) (v115 : BitVec 32) (v117 : BitVec 32) (k1_hw15 : k1_chk15 k1_t1 v115 v117), ∀ (k1_h3 : k1_cond3 k1_t1 = 1#1), (k1_t13_loop v115 v117).OK := fun k1_t1 v115 v117 k1_hw15 k1_h3 => k1_hw15.2.2.2.2.2.2.2.2.2.1 k1_h3
theorem k1_off110_inb : ∀ (k1_t1 : Fin k1_t1_loop.trips) (v115 : BitVec 32) (v117 : BitVec 32) (k1_hw15 : k1_chk15 k1_t1 v115 v117) (k1_t13 : Fin (k1_t13_loop v115 v117).trips), ∀ (k1_h3 : k1_cond3 k1_t1 = 1#1), ∀ a, (k1_off110 v115 v117 k1_t13) a + S1x16.size a ≤ S16x128.size a := fun k1_t1 v115 v117 k1_hw15 k1_t13 k1_h3 => k1_hw15.2.2.2.2.2.2.2.2.2.2.1 k1_t13 k1_h3
theorem k1_off111_inb : ∀ (k1_t1 : Fin k1_t1_loop.trips) (v115 : BitVec 32) (v117 : BitVec 32) (k1_hw15 : k1_chk15 k1_t1 v115 v117) (k1_t13 : Fin (k1_t13_loop v115 v117).trips), ∀ (k1_h3 : k1_cond3 k1_t1 = 1#1), ∀ a, (k1_off111 v115 v117 k1_t13) a + S1x16.size a ≤ S16x128.size a := fun k1_t1 v115 v117 k1_hw15 k1_t13 k1_h3 => k1_hw15.2.2.2.2.2.2.2.2.2.2.2.1 k1_t13 k1_h3
theorem k1_off112_inb : ∀ (k1_t1 : Fin k1_t1_loop.trips) (v115 : BitVec 32) (v117 : BitVec 32) (k1_hw15 : k1_chk15 k1_t1 v115 v117) (k1_t13 : Fin (k1_t13_loop v115 v117).trips), ∀ (k1_h3 : k1_cond3 k1_t1 = 1#1), ∀ a, (k1_off112 v115 v117 k1_t13) a + S1x16.size a ≤ S16x128.size a := fun k1_t1 v115 v117 k1_hw15 k1_t13 k1_h3 => k1_hw15.2.2.2.2.2.2.2.2.2.2.2.2.1 k1_t13 k1_h3
theorem k1_off113_inb : ∀ (k1_t1 : Fin k1_t1_loop.trips) (v115 : BitVec 32) (v117 : BitVec 32) (k1_hw15 : k1_chk15 k1_t1 v115 v117) (k1_t13 : Fin (k1_t13_loop v115 v117).trips), ∀ (k1_h3 : k1_cond3 k1_t1 = 1#1), ∀ a, (k1_off113 v115 v117 k1_t13) a + S1x16.size a ≤ S16x128.size a := fun k1_t1 v115 v117 k1_hw15 k1_t13 k1_h3 => k1_hw15.2.2.2.2.2.2.2.2.2.2.2.2.2.1 k1_t13 k1_h3
theorem k1_off114_inb : ∀ (k1_t1 : Fin k1_t1_loop.trips) (v115 : BitVec 32) (v117 : BitVec 32) (k1_hw15 : k1_chk15 k1_t1 v115 v117) (k1_t13 : Fin (k1_t13_loop v115 v117).trips), ∀ (k1_h3 : k1_cond3 k1_t1 = 1#1), ∀ a, (k1_off114 v115 v117 k1_t13) a + S1x16.size a ≤ S16x128.size a := fun k1_t1 v115 v117 k1_hw15 k1_t13 k1_h3 => k1_hw15.2.2.2.2.2.2.2.2.2.2.2.2.2.2.1 k1_t13 k1_h3
theorem k1_off115_inb : ∀ (k1_t1 : Fin k1_t1_loop.trips) (v115 : BitVec 32) (v117 : BitVec 32) (k1_hw15 : k1_chk15 k1_t1 v115 v117) (k1_t13 : Fin (k1_t13_loop v115 v117).trips), ∀ (k1_h3 : k1_cond3 k1_t1 = 1#1), ∀ a, (k1_off115 v115 v117 k1_t13) a + S1x16.size a ≤ S16x128.size a := fun k1_t1 v115 v117 k1_hw15 k1_t13 k1_h3 => k1_hw15.2.2.2.2.2.2.2.2.2.2.2.2.2.2.2.1 k1_t13 k1_h3
theorem k1_off116_inb : ∀ (k1_t1 : Fin k1_t1_loop.trips) (v115 : BitVec 32) (v117 : BitVec 32) (k1_hw15 : k1_chk15 k1_t1 v115 v117) (k1_t13 : Fin (k1_t13_loop v115 v117).trips), ∀ (k1_h3 : k1_cond3 k1_t1 = 1#1), ∀ a, (k1_off116 v115 v117 k1_t13) a + S1x16.size a ≤ S16x128.size a := fun k1_t1 v115 v117 k1_hw15 k1_t13 k1_h3 => k1_hw15.2.2.2.2.2.2.2.2.2.2.2.2.2.2.2.2.1 k1_t13 k1_h3
theorem k1_off117_inb : ∀ (k1_t1 : Fin k1_t1_loop.trips) (v115 : BitVec 32) (v117 : BitVec 32) (k1_hw15 : k1_chk15 k1_t1 v115 v117) (k1_t13 : Fin (k1_t13_loop v115 v117).trips), ∀ (k1_h3 : k1_cond3 k1_t1 = 1#1), ∀ a, (k1_off117 v115 v117 k1_t13) a + S1x16.size a ≤ S16x128.size a := fun k1_t1 v115 v117 k1_hw15 k1_t13 k1_h3 => k1_hw15.2.2.2.2.2.2.2.2.2.2.2.2.2.2.2.2.2 k1_t13 k1_h3

def k1_off118 (k1_t1 : Fin k1_t1_loop.trips) : Fin 2 → Nat :=
  let c0_i32_25 : BitVec 32 := 0#32
  let c0_i32_13 : BitVec 32 := 0#32
  let c1_i32_14 : BitVec 32 := 1#32
  let arg21 : BitVec 32 := Scf.iv c0_i32_13 c1_i32_14 k1_t1
  let c1_i32_24 : BitVec 32 := 1#32
  let v47 : BitVec 32 := Scalar.muli arg21 c1_i32_24
  let v48 : BitVec 32 := Scalar.addi c0_i32_25 v47
  let v125 : Index := Scalar.indexCast v48
  let c0_70 : Index := 0#32
  ![v125.toNat, 0]
def k1_off119 (k1_t1 : Fin k1_t1_loop.trips) : Fin 2 → Nat :=
  let c0_i32_25 : BitVec 32 := 0#32
  let c0_i32_13 : BitVec 32 := 0#32
  let c1_i32_14 : BitVec 32 := 1#32
  let arg21 : BitVec 32 := Scf.iv c0_i32_13 c1_i32_14 k1_t1
  let c1_i32_24 : BitVec 32 := 1#32
  let v47 : BitVec 32 := Scalar.muli arg21 c1_i32_24
  let v48 : BitVec 32 := Scalar.addi c0_i32_25 v47
  let v129 : Index := Scalar.indexCast v48
  let c16 : Index := 16#32
  ![v129.toNat, 16]
def k1_off120 (k1_t1 : Fin k1_t1_loop.trips) : Fin 2 → Nat :=
  let c0_i32_25 : BitVec 32 := 0#32
  let c0_i32_13 : BitVec 32 := 0#32
  let c1_i32_14 : BitVec 32 := 1#32
  let arg21 : BitVec 32 := Scf.iv c0_i32_13 c1_i32_14 k1_t1
  let c1_i32_24 : BitVec 32 := 1#32
  let v47 : BitVec 32 := Scalar.muli arg21 c1_i32_24
  let v48 : BitVec 32 := Scalar.addi c0_i32_25 v47
  let v133 : Index := Scalar.indexCast v48
  let c32 : Index := 32#32
  ![v133.toNat, 32]
def k1_off121 (k1_t1 : Fin k1_t1_loop.trips) : Fin 2 → Nat :=
  let c0_i32_25 : BitVec 32 := 0#32
  let c0_i32_13 : BitVec 32 := 0#32
  let c1_i32_14 : BitVec 32 := 1#32
  let arg21 : BitVec 32 := Scf.iv c0_i32_13 c1_i32_14 k1_t1
  let c1_i32_24 : BitVec 32 := 1#32
  let v47 : BitVec 32 := Scalar.muli arg21 c1_i32_24
  let v48 : BitVec 32 := Scalar.addi c0_i32_25 v47
  let v137 : Index := Scalar.indexCast v48
  let c48 : Index := 48#32
  ![v137.toNat, 48]
def k1_off122 (k1_t1 : Fin k1_t1_loop.trips) : Fin 2 → Nat :=
  let c0_i32_25 : BitVec 32 := 0#32
  let c0_i32_13 : BitVec 32 := 0#32
  let c1_i32_14 : BitVec 32 := 1#32
  let arg21 : BitVec 32 := Scf.iv c0_i32_13 c1_i32_14 k1_t1
  let c1_i32_24 : BitVec 32 := 1#32
  let v47 : BitVec 32 := Scalar.muli arg21 c1_i32_24
  let v48 : BitVec 32 := Scalar.addi c0_i32_25 v47
  let v141 : Index := Scalar.indexCast v48
  let c64 : Index := 64#32
  ![v141.toNat, 64]
def k1_off123 (k1_t1 : Fin k1_t1_loop.trips) : Fin 2 → Nat :=
  let c0_i32_25 : BitVec 32 := 0#32
  let c0_i32_13 : BitVec 32 := 0#32
  let c1_i32_14 : BitVec 32 := 1#32
  let arg21 : BitVec 32 := Scf.iv c0_i32_13 c1_i32_14 k1_t1
  let c1_i32_24 : BitVec 32 := 1#32
  let v47 : BitVec 32 := Scalar.muli arg21 c1_i32_24
  let v48 : BitVec 32 := Scalar.addi c0_i32_25 v47
  let v145 : Index := Scalar.indexCast v48
  let c80 : Index := 80#32
  ![v145.toNat, 80]
def k1_off124 (k1_t1 : Fin k1_t1_loop.trips) : Fin 2 → Nat :=
  let c0_i32_25 : BitVec 32 := 0#32
  let c0_i32_13 : BitVec 32 := 0#32
  let c1_i32_14 : BitVec 32 := 1#32
  let arg21 : BitVec 32 := Scf.iv c0_i32_13 c1_i32_14 k1_t1
  let c1_i32_24 : BitVec 32 := 1#32
  let v47 : BitVec 32 := Scalar.muli arg21 c1_i32_24
  let v48 : BitVec 32 := Scalar.addi c0_i32_25 v47
  let v149 : Index := Scalar.indexCast v48
  let c96 : Index := 96#32
  ![v149.toNat, 96]
def k1_off125 (k1_t1 : Fin k1_t1_loop.trips) : Fin 2 → Nat :=
  let c0_i32_25 : BitVec 32 := 0#32
  let c0_i32_13 : BitVec 32 := 0#32
  let c1_i32_14 : BitVec 32 := 1#32
  let arg21 : BitVec 32 := Scf.iv c0_i32_13 c1_i32_14 k1_t1
  let c1_i32_24 : BitVec 32 := 1#32
  let v47 : BitVec 32 := Scalar.muli arg21 c1_i32_24
  let v48 : BitVec 32 := Scalar.addi c0_i32_25 v47
  let v153 : Index := Scalar.indexCast v48
  let c112 : Index := 112#32
  ![v153.toNat, 112]
def k1_cond4 (k1_t1 : Fin k1_t1_loop.trips) : BitVec 1 :=
  let c0_i32_25 : BitVec 32 := 0#32
  let c0_i32_13 : BitVec 32 := 0#32
  let c1_i32_14 : BitVec 32 := 1#32
  let arg21 : BitVec 32 := Scf.iv c0_i32_13 c1_i32_14 k1_t1
  let c1_i32_24 : BitVec 32 := 1#32
  let v47 : BitVec 32 := Scalar.muli arg21 c1_i32_24
  let v48 : BitVec 32 := Scalar.addi c0_i32_25 v47
  let c2_i32_71 : BitVec 32 := 2#32
  let v157 : BitVec 32 := Scalar.addi v48 c2_i32_71
  let c25_i32_72 : BitVec 32 := 25#32
  let v158 : BitVec 1 := Scalar.cmpi .slt v157 c25_i32_72
  let v159 : BitVec 32 := Scalar.extui v158
  let c0_i32_73 : BitVec 32 := 0#32
  let v160 : BitVec 1 := Scalar.cmpi .ne v159 c0_i32_73
  v160

def k1_off126 (k1_t1 : Fin k1_t1_loop.trips) : Fin 2 → Nat :=
  let c0_i32_25 : BitVec 32 := 0#32
  let c0_i32_13 : BitVec 32 := 0#32
  let c1_i32_14 : BitVec 32 := 1#32
  let arg21 : BitVec 32 := Scf.iv c0_i32_13 c1_i32_14 k1_t1
  let c1_i32_24 : BitVec 32 := 1#32
  let v47 : BitVec 32 := Scalar.muli arg21 c1_i32_24
  let v48 : BitVec 32 := Scalar.addi c0_i32_25 v47
  let c2_i32_74 : BitVec 32 := 2#32
  let v161 : BitVec 32 := Scalar.addi v48 c2_i32_74
  let v162 : Index := Scalar.indexCast v161
  let c0_75 : Index := 0#32
  ![v162.toNat, 0]
def k1_mult10 (v166 : BitVec 32) : BitVec 32 :=
  v166

def k1_mult11 (v169 : BitVec 32) : BitVec 32 :=
  v169

def k1_mult12 (v172 : BitVec 32) : BitVec 32 :=
  v172

def k1_off127 (v166 : BitVec 32) : Fin 2 → Nat :=
  let v167 : BitVec 32 := v166
  let c0_i32_76 : BitVec 32 := 0#32
  ![v167.toNat, 0]

def k1_chk16 (k1_t1 : Fin k1_t1_loop.trips) (v166 : BitVec 32) : Prop :=
  (∀ (k1_h3 : k1_cond3 k1_t1 = 1#1), ∀ (k1_h4 : k1_cond4 k1_t1 = 1#1), 8 ∣ (k1_mult10 v166).toNat) ∧
  (∀ (k1_h3 : k1_cond3 k1_t1 = 1#1), ∀ (k1_h4 : k1_cond4 k1_t1 = 1#1), ∀ a, (k1_off127 v166) a + S64x128.size a ≤ S20000x128.size a)
theorem k1_mult10_dvd : ∀ (k1_t1 : Fin k1_t1_loop.trips) (v166 : BitVec 32) (k1_hw16 : k1_chk16 k1_t1 v166), ∀ (k1_h3 : k1_cond3 k1_t1 = 1#1), ∀ (k1_h4 : k1_cond4 k1_t1 = 1#1), 8 ∣ (k1_mult10 v166).toNat := fun k1_t1 v166 k1_hw16 k1_h3 k1_h4 => k1_hw16.1 k1_h3 k1_h4
theorem k1_off127_inb : ∀ (k1_t1 : Fin k1_t1_loop.trips) (v166 : BitVec 32) (k1_hw16 : k1_chk16 k1_t1 v166), ∀ (k1_h3 : k1_cond3 k1_t1 = 1#1), ∀ (k1_h4 : k1_cond4 k1_t1 = 1#1), ∀ a, (k1_off127 v166) a + S64x128.size a ≤ S20000x128.size a := fun k1_t1 v166 k1_hw16 k1_h3 k1_h4 => k1_hw16.2 k1_h3 k1_h4

def k1_off128 (v169 : BitVec 32) : Fin 2 → Nat :=
  let v170 : BitVec 32 := v169
  let c0_i32_78 : BitVec 32 := 0#32
  ![v170.toNat, 0]

def k1_chk17 (k1_t1 : Fin k1_t1_loop.trips) (v169 : BitVec 32) : Prop :=
  (∀ (k1_h3 : k1_cond3 k1_t1 = 1#1), ∀ (k1_h4 : k1_cond4 k1_t1 = 1#1), 8 ∣ (k1_mult11 v169).toNat) ∧
  (∀ (k1_h3 : k1_cond3 k1_t1 = 1#1), ∀ (k1_h4 : k1_cond4 k1_t1 = 1#1), ∀ a, (k1_off128 v169) a + S16x128.size a ≤ S319600x128.size a)
theorem k1_mult11_dvd : ∀ (k1_t1 : Fin k1_t1_loop.trips) (v169 : BitVec 32) (k1_hw17 : k1_chk17 k1_t1 v169), ∀ (k1_h3 : k1_cond3 k1_t1 = 1#1), ∀ (k1_h4 : k1_cond4 k1_t1 = 1#1), 8 ∣ (k1_mult11 v169).toNat := fun k1_t1 v169 k1_hw17 k1_h3 k1_h4 => k1_hw17.1 k1_h3 k1_h4
theorem k1_off128_inb : ∀ (k1_t1 : Fin k1_t1_loop.trips) (v169 : BitVec 32) (k1_hw17 : k1_chk17 k1_t1 v169), ∀ (k1_h3 : k1_cond3 k1_t1 = 1#1), ∀ (k1_h4 : k1_cond4 k1_t1 = 1#1), ∀ a, (k1_off128 v169) a + S16x128.size a ≤ S319600x128.size a := fun k1_t1 v169 k1_hw17 k1_h3 k1_h4 => k1_hw17.2 k1_h3 k1_h4

def k1_off129 (v172 : BitVec 32) : Fin 2 → Nat :=
  let v173 : BitVec 32 := v172
  let c0_i32_80 : BitVec 32 := 0#32
  ![v173.toNat, 0]

def k1_chk18 (k1_t1 : Fin k1_t1_loop.trips) (v172 : BitVec 32) : Prop :=
  (∀ (k1_h3 : k1_cond3 k1_t1 = 1#1), ∀ (k1_h4 : k1_cond4 k1_t1 = 1#1), 8 ∣ (k1_mult12 v172).toNat) ∧
  (∀ (k1_h3 : k1_cond3 k1_t1 = 1#1), ∀ (k1_h4 : k1_cond4 k1_t1 = 1#1), ∀ a, (k1_off129 v172) a + S16x128.size a ≤ S319600x128.size a)
theorem k1_mult12_dvd : ∀ (k1_t1 : Fin k1_t1_loop.trips) (v172 : BitVec 32) (k1_hw18 : k1_chk18 k1_t1 v172), ∀ (k1_h3 : k1_cond3 k1_t1 = 1#1), ∀ (k1_h4 : k1_cond4 k1_t1 = 1#1), 8 ∣ (k1_mult12 v172).toNat := fun k1_t1 v172 k1_hw18 k1_h3 k1_h4 => k1_hw18.1 k1_h3 k1_h4
theorem k1_off129_inb : ∀ (k1_t1 : Fin k1_t1_loop.trips) (v172 : BitVec 32) (k1_hw18 : k1_chk18 k1_t1 v172), ∀ (k1_h3 : k1_cond3 k1_t1 = 1#1), ∀ (k1_h4 : k1_cond4 k1_t1 = 1#1), ∀ a, (k1_off129 v172) a + S16x128.size a ≤ S319600x128.size a := fun k1_t1 v172 k1_hw18 k1_h3 k1_h4 => k1_hw18.2 k1_h3 k1_h4

def k1_off130 (i : grid1.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_16 : BitVec 32 := 0#32
  let c0_i32_17 : BitVec 32 := 0#32
  ![v1.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S319600x128 : Shape := ⟨2, ![319600, 128]⟩
abbrev S800 : Shape := ⟨1, ![800]⟩
abbrev S319600 : Shape := ⟨1, ![319600]⟩
abbrev S1 : Shape := ⟨1, ![1]⟩
abbrev S799 : Shape := ⟨1, ![799]⟩
abbrev S_ : Shape := ⟨0, ![]⟩
abbrev S800x1 : Shape := ⟨2, ![800, 1]⟩
abbrev S319600x1 : Shape := ⟨2, ![319600, 1]⟩
abbrev S1x1 : Shape := ⟨2, ![1, 1]⟩
abbrev S800x128 : Shape := ⟨2, ![800, 128]⟩

abbrev nBuf : Space → Nat
  | .hbm => 115
  | .vmem => 0
  | .smem => 0
  | _ => 0

abbrev bufTy : (tb : Table) → Fin (tcTables nBuf tb) → BufTy
  | .hbm, ⟨0, _⟩ => ⟨S319600x128, .f32⟩
  | .hbm, ⟨1, _⟩ => ⟨S800, .i32⟩
  | .hbm, ⟨2, _⟩ => ⟨S319600, .i32⟩
  | .hbm, ⟨3, _⟩ => ⟨S800, .i32⟩
  | .hbm, ⟨4, _⟩ => ⟨S1, .i32⟩
  | .hbm, ⟨5, _⟩ => ⟨S799, .i32⟩
  | .hbm, ⟨6, _⟩ => ⟨S800, .i32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S800, .i32⟩
  | .hbm, ⟨11, _⟩ => ⟨S_, .i32⟩
  | .hbm, ⟨12, _⟩ => ⟨S_, .i32⟩
  | .hbm, ⟨13, _⟩ => ⟨S800, .i32⟩
  | .hbm, ⟨14, _⟩ => ⟨S_, .i32⟩
  | .hbm, ⟨15, _⟩ => ⟨S319600, .i32⟩
  | .hbm, ⟨16, _⟩ => ⟨S_, .i32⟩
  | .hbm, ⟨17, _⟩ => ⟨S800, .i32⟩
  | .hbm, ⟨18, _⟩ => ⟨S800, .i1⟩
  | .hbm, ⟨19, _⟩ => ⟨S_, .i32⟩
  | .hbm, ⟨20, _⟩ => ⟨S800, .i32⟩
  | .hbm, ⟨21, _⟩ => ⟨S800, .i32⟩
  | .hbm, ⟨22, _⟩ => ⟨S800, .i32⟩
  | .hbm, ⟨23, _⟩ => ⟨S800x1, .i32⟩
  | .hbm, ⟨24, _⟩ => ⟨S_, .i32⟩
  | .hbm, ⟨25, _⟩ => ⟨S800, .i32⟩
  | .hbm, ⟨26, _⟩ => ⟨S319600, .i32⟩
  | .hbm, ⟨27, _⟩ => ⟨S_, .i32⟩
  | .hbm, ⟨28, _⟩ => ⟨S_, .i32⟩
  | .hbm, ⟨29, _⟩ => ⟨S319600, .i32⟩
  | .hbm, ⟨30, _⟩ => ⟨S_, .i32⟩
  | .hbm, ⟨31, _⟩ => ⟨S319600, .i32⟩
  | .hbm, ⟨32, _⟩ => ⟨S319600, .i32⟩
  | .hbm, ⟨33, _⟩ => ⟨S_, .i32⟩
  | .hbm, ⟨34, _⟩ => ⟨S319600, .i32⟩
  | .hbm, ⟨35, _⟩ => ⟨S319600, .i1⟩
  | .hbm, ⟨36, _⟩ => ⟨S_, .i32⟩
  | .hbm, ⟨37, _⟩ => ⟨S319600, .i32⟩
  | .hbm, ⟨38, _⟩ => ⟨S319600, .i32⟩
  | .hbm, ⟨39, _⟩ => ⟨S319600, .i32⟩
  | .hbm, ⟨40, _⟩ => ⟨S319600x1, .i32⟩
  | .hbm, ⟨41, _⟩ => ⟨S1, .i32⟩
  | .hbm, ⟨42, _⟩ => ⟨S_, .i32⟩
  | .hbm, ⟨43, _⟩ => ⟨S319600x1, .i32⟩
  | .hbm, ⟨44, _⟩ => ⟨S319600x1, .i1⟩
  | .hbm, ⟨45, _⟩ => ⟨S1x1, .i32⟩
  | .hbm, ⟨46, _⟩ => ⟨S319600x1, .i32⟩
  | .hbm, ⟨47, _⟩ => ⟨S319600x1, .i1⟩
  | .hbm, ⟨48, _⟩ => ⟨S319600x1, .i1⟩
  | .hbm, ⟨49, _⟩ => ⟨S_, .i1⟩
  | .hbm, ⟨50, _⟩ => ⟨S319600, .i1⟩
  | .hbm, ⟨51, _⟩ => ⟨S319600, .i32⟩
  | .hbm, ⟨52, _⟩ => ⟨S_, .i32⟩
  | .hbm, ⟨53, _⟩ => ⟨S319600, .i32⟩
  | .hbm, ⟨54, _⟩ => ⟨S319600, .i32⟩
  | .hbm, ⟨55, _⟩ => ⟨S_, .i32⟩
  | .hbm, ⟨56, _⟩ => ⟨S800, .i32⟩
  | .hbm, ⟨57, _⟩ => ⟨S319600x1, .i32⟩
  | .hbm, ⟨58, _⟩ => ⟨S800, .i32⟩
  | .hbm, ⟨59, _⟩ => ⟨S800, .i32⟩
  | .hbm, ⟨60, _⟩ => ⟨S1, .i32⟩
  | .hbm, ⟨61, _⟩ => ⟨S799, .i32⟩
  | .hbm, ⟨62, _⟩ => ⟨S800, .i32⟩
  | .hbm, ⟨63, _⟩ => ⟨S_, .i32⟩
  | .hbm, ⟨64, _⟩ => ⟨S1, .i32⟩
  | .hbm, ⟨65, _⟩ => ⟨S_, .i32⟩
  | .hbm, ⟨66, _⟩ => ⟨S800, .i32⟩
  | .hbm, ⟨67, _⟩ => ⟨S_, .i32⟩
  | .hbm, ⟨68, _⟩ => ⟨S_, .i32⟩
  | .hbm, ⟨69, _⟩ => ⟨S800, .i32⟩
  | .hbm, ⟨70, _⟩ => ⟨S_, .i32⟩
  | .hbm, ⟨71, _⟩ => ⟨S319600, .i32⟩
  | .hbm, ⟨72, _⟩ => ⟨S_, .i32⟩
  | .hbm, ⟨73, _⟩ => ⟨S800, .i32⟩
  | .hbm, ⟨74, _⟩ => ⟨S800, .i1⟩
  | .hbm, ⟨75, _⟩ => ⟨S_, .i32⟩
  | .hbm, ⟨76, _⟩ => ⟨S800, .i32⟩
  | .hbm, ⟨77, _⟩ => ⟨S800, .i32⟩
  | .hbm, ⟨78, _⟩ => ⟨S800, .i32⟩
  | .hbm, ⟨79, _⟩ => ⟨S800x1, .i32⟩
  | .hbm, ⟨80, _⟩ => ⟨S_, .i32⟩
  | .hbm, ⟨81, _⟩ => ⟨S800, .i32⟩
  | .hbm, ⟨82, _⟩ => ⟨S319600, .i32⟩
  | .hbm, ⟨83, _⟩ => ⟨S_, .i32⟩
  | .hbm, ⟨84, _⟩ => ⟨S_, .i32⟩
  | .hbm, ⟨85, _⟩ => ⟨S319600, .i32⟩
  | .hbm, ⟨86, _⟩ => ⟨S_, .i32⟩
  | .hbm, ⟨87, _⟩ => ⟨S319600, .i32⟩
  | .hbm, ⟨88, _⟩ => ⟨S319600, .i32⟩
  | .hbm, ⟨89, _⟩ => ⟨S_, .i32⟩
  | .hbm, ⟨90, _⟩ => ⟨S319600, .i32⟩
  | .hbm, ⟨91, _⟩ => ⟨S319600, .i1⟩
  | .hbm, ⟨92, _⟩ => ⟨S_, .i32⟩
  | .hbm, ⟨93, _⟩ => ⟨S319600, .i32⟩
  | .hbm, ⟨94, _⟩ => ⟨S319600, .i32⟩
  | .hbm, ⟨95, _⟩ => ⟨S319600, .i32⟩
  | .hbm, ⟨96, _⟩ => ⟨S319600x1, .i32⟩
  | .hbm, ⟨97, _⟩ => ⟨S1, .i32⟩
  | .hbm, ⟨98, _⟩ => ⟨S_, .i32⟩
  | .hbm, ⟨99, _⟩ => ⟨S319600x1, .i32⟩
  | .hbm, ⟨100, _⟩ => ⟨S319600x1, .i1⟩
  | .hbm, ⟨101, _⟩ => ⟨S1x1, .i32⟩
  | .hbm, ⟨102, _⟩ => ⟨S319600x1, .i32⟩
  | .hbm, ⟨103, _⟩ => ⟨S319600x1, .i1⟩
  | .hbm, ⟨104, _⟩ => ⟨S319600x1, .i1⟩
  | .hbm, ⟨105, _⟩ => ⟨S_, .i1⟩
  | .hbm, ⟨106, _⟩ => ⟨S319600, .i1⟩
  | .hbm, ⟨107, _⟩ => ⟨S319600, .i32⟩
  | .hbm, ⟨108, _⟩ => ⟨S_, .i32⟩
  | .hbm, ⟨109, _⟩ => ⟨S319600, .i32⟩
  | .hbm, ⟨110, _⟩ => ⟨S319600, .i32⟩
  | .hbm, ⟨111, _⟩ => ⟨S_, .f32⟩
  | .hbm, ⟨112, _⟩ => ⟨S800x128, .f32⟩
  | .hbm, ⟨113, _⟩ => ⟨S319600x1, .i32⟩
  | .hbm, ⟨114, _⟩ => ⟨S800x128, .f32⟩
  | _, _ => ⟨S319600x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_call1_call0_c : Ref sig .tc := ⟨.hbm, 11, rfl⟩
abbrev main_call1_call0_v0 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_c_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_call2_call0_c : Ref sig .tc := ⟨.hbm, 27, rfl⟩
abbrev main_call2_call0_v0 : Ref sig .tc := ⟨.hbm, 28, rfl⟩
abbrev main_v14 : Ref sig .tc := ⟨.hbm, 29, rfl⟩
abbrev main_c_5 : Ref sig .tc := ⟨.hbm, 30, rfl⟩
abbrev main_v15 : Ref sig .tc := ⟨.hbm, 31, rfl⟩
abbrev main_v16 : Ref sig .tc := ⟨.hbm, 32, rfl⟩
abbrev main_call3_c : Ref sig .tc := ⟨.hbm, 33, rfl⟩
abbrev main_call3_v0 : Ref sig .tc := ⟨.hbm, 34, rfl⟩
abbrev main_call3_v1 : Ref sig .tc := ⟨.hbm, 35, rfl⟩
abbrev main_call3_c_0 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_call3_v5 : Ref sig .tc := ⟨.hbm, 40, rfl⟩
abbrev main_call3_c_1 : Ref sig .tc := ⟨.hbm, 41, rfl⟩
abbrev main_call3_c_2 : Ref sig .tc := ⟨.hbm, 42, rfl⟩
abbrev main_call3_v6 : Ref sig .tc := ⟨.hbm, 43, rfl⟩
abbrev main_call3_v7 : Ref sig .tc := ⟨.hbm, 44, rfl⟩
abbrev main_call3_v8 : Ref sig .tc := ⟨.hbm, 45, rfl⟩
abbrev main_call3_v9 : Ref sig .tc := ⟨.hbm, 46, rfl⟩
abbrev main_call3_v10 : Ref sig .tc := ⟨.hbm, 47, rfl⟩
abbrev main_call3_v11 : Ref sig .tc := ⟨.hbm, 48, rfl⟩
abbrev main_call3_c_3 : Ref sig .tc := ⟨.hbm, 49, rfl⟩
abbrev main_call3_v12 : Ref sig .tc := ⟨.hbm, 50, rfl⟩
abbrev main_call3_v13 : Ref sig .tc := ⟨.hbm, 51, rfl⟩
abbrev main_call3_c_4 : Ref sig .tc := ⟨.hbm, 52, rfl⟩
abbrev main_call3_v14 : Ref sig .tc := ⟨.hbm, 53, rfl⟩
abbrev main_v17 : Ref sig .tc := ⟨.hbm, 54, rfl⟩
abbrev main_c_6 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_call4_v0 : Ref sig .tc := ⟨.hbm, 60, rfl⟩
abbrev main_call4_v1 : Ref sig .tc := ⟨.hbm, 61, rfl⟩
abbrev main_v22 : Ref sig .tc := ⟨.hbm, 62, rfl⟩
abbrev main_c_7 : Ref sig .tc := ⟨.hbm, 63, rfl⟩
abbrev main_v23 : Ref sig .tc := ⟨.hbm, 64, rfl⟩
abbrev main_c_8 : Ref sig .tc := ⟨.hbm, 65, rfl⟩
abbrev main_v24 : Ref sig .tc := ⟨.hbm, 66, rfl⟩
abbrev main_call5_call0_c : Ref sig .tc := ⟨.hbm, 67, rfl⟩
abbrev main_call5_call0_v0 : Ref sig .tc := ⟨.hbm, 68, rfl⟩
abbrev main_v25 : Ref sig .tc := ⟨.hbm, 69, rfl⟩
abbrev main_c_9 : Ref sig .tc := ⟨.hbm, 70, rfl⟩
abbrev main_v26 : Ref sig .tc := ⟨.hbm, 71, rfl⟩
abbrev main_c_10 : Ref sig .tc := ⟨.hbm, 72, rfl⟩
abbrev main_v27 : Ref sig .tc := ⟨.hbm, 73, rfl⟩
abbrev main_v28 : Ref sig .tc := ⟨.hbm, 74, rfl⟩
abbrev main_c_11 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_c_12 : Ref sig .tc := ⟨.hbm, 80, rfl⟩
abbrev main_v33 : Ref sig .tc := ⟨.hbm, 81, rfl⟩
abbrev main_v34 : Ref sig .tc := ⟨.hbm, 82, rfl⟩
abbrev main_call6_call0_c : Ref sig .tc := ⟨.hbm, 83, rfl⟩
abbrev main_call6_call0_v0 : Ref sig .tc := ⟨.hbm, 84, rfl⟩
abbrev main_v35 : Ref sig .tc := ⟨.hbm, 85, rfl⟩
abbrev main_c_13 : Ref sig .tc := ⟨.hbm, 86, rfl⟩
abbrev main_v36 : Ref sig .tc := ⟨.hbm, 87, rfl⟩
abbrev main_v37 : Ref sig .tc := ⟨.hbm, 88, rfl⟩
abbrev main_call7_c : Ref sig .tc := ⟨.hbm, 89, rfl⟩
abbrev main_call7_v0 : Ref sig .tc := ⟨.hbm, 90, rfl⟩
abbrev main_call7_v1 : Ref sig .tc := ⟨.hbm, 91, rfl⟩
abbrev main_call7_c_0 : Ref sig .tc := ⟨.hbm, 92, rfl⟩
abbrev main_call7_v2 : Ref sig .tc := ⟨.hbm, 93, rfl⟩
abbrev main_call7_v3 : Ref sig .tc := ⟨.hbm, 94, rfl⟩
abbrev main_call7_v4 : Ref sig .tc := ⟨.hbm, 95, rfl⟩
abbrev main_call7_v5 : Ref sig .tc := ⟨.hbm, 96, rfl⟩
abbrev main_call7_c_1 : Ref sig .tc := ⟨.hbm, 97, rfl⟩
abbrev main_call7_c_2 : Ref sig .tc := ⟨.hbm, 98, rfl⟩
abbrev main_call7_v6 : Ref sig .tc := ⟨.hbm, 99, rfl⟩
abbrev main_call7_v7 : Ref sig .tc := ⟨.hbm, 100, rfl⟩
abbrev main_call7_v8 : Ref sig .tc := ⟨.hbm, 101, rfl⟩
abbrev main_call7_v9 : Ref sig .tc := ⟨.hbm, 102, rfl⟩
abbrev main_call7_v10 : Ref sig .tc := ⟨.hbm, 103, rfl⟩
abbrev main_call7_v11 : Ref sig .tc := ⟨.hbm, 104, rfl⟩
abbrev main_call7_c_3 : Ref sig .tc := ⟨.hbm, 105, rfl⟩
abbrev main_call7_v12 : Ref sig .tc := ⟨.hbm, 106, rfl⟩
abbrev main_call7_v13 : Ref sig .tc := ⟨.hbm, 107, rfl⟩
abbrev main_call7_c_4 : Ref sig .tc := ⟨.hbm, 108, rfl⟩
abbrev main_call7_v14 : Ref sig .tc := ⟨.hbm, 109, rfl⟩
abbrev main_v38 : Ref sig .tc := ⟨.hbm, 110, rfl⟩
abbrev main_cst : Ref sig .tc := ⟨.hbm, 111, rfl⟩
abbrev main_v39 : Ref sig .tc := ⟨.hbm, 112, rfl⟩
abbrev main_v40 : Ref sig .tc := ⟨.hbm, 113, rfl⟩
abbrev main_v41 : Ref sig .tc := ⟨.hbm, 114, rfl⟩

abbrev nD : Nat := 1
abbrev τ : Topo := Topo.v7x

variable {F : FTy → Type} [FloatOps F]
-- ==== Proof.Own.lean ====
/-
  Loads, stores and local copies of one thread, stated over `owns c m q X` ("thread `c` holds the memref `m` at
  share `q` and reads `X` through it"): what a load returns, what a store leaves, and what a copy issued and later
  waited for delivers, each as a fact about the values read through the memrefs.
-/
module

public import Idealize.ShloMosaic.Lib.SparseCore.Quiescent
public import Idealize.ShloMosaic.Lib.Transfers
public import Idealize.ShloMosaic.Lib.Memref
public import Idealize.ShloMosaic.Lib.Tactic

@[expose] public section

noncomputable section

namespace Cert.Proof

open Idealize.ShloMosaic
open Idealize.SL Idealize.SL.RA Idealize.SL.BI
open scoped Idealize.SL.BI
open Idealize.SL.BI.BIBase Idealize.SL.BI.Laws Idealize.SL.ProofMode Idealize.SL.Sem

section

variable {nD : Nat} {τ : Topo} {sig : RefSig} {Ix : Type} [DecidableEq Ix] {Val : EltTy → Type} {Name : Type} [DecidableEq Name]
variable {U : Type} [URA U] {Lvl : Type} [Preorder Lvl] {Λ : Labels} {defs : Defs nD τ sig Val Λ}

local notation "𝕄" => MT nD τ sig Ix Val Name U Lvl

variable (EC : UEmb Counters (MT nD τ sig Ix Val Name U Lvl))
variable (𝒱 : Variants) (c : Thread nD τ) (bd : Option 𝒱.V)

/-- A load through a unit-stride rectangle of a memref held at any share: it returns what the memref reads there, and
    the memref is held as before. -/
theorem own_load {cs : CoreSpace} {s : Shape} {e : EltTy} {m : Memref sig c.2.kind cs s e} {r : Rect s} (hl : m.view.LoadsAt r.toLoadRect)
    {q : PosShare TreeShare} {X : s.Idx → Val e} {Q : (r.shape.Idx → Val e) → sProp 𝕄} :
    (owns c m q X : sProp 𝕄)
      ⊢ iprop((owns c m q X -∗ Q (fun i => X (r.emb i)))
        -∗ wp frame (wpE defs 𝒱 c bd) Set.univ (Prog.lift (.load m r.toLoadRect hl)) Q) := by
  iintro H HQ
  ihave H' := (show (owns c m q X : sProp 𝕄) ⊢ iprop(∃ f, ⌜m.view.read Val f = X⌝ ∗ (m.view.loc c ↦[m.view.set]{q} f)) from .rfl) $$ H
  icases H' with ⟨%f, %hf, H⟩
  iapply (wp_load_rect (defs := defs) 𝒱 c bd Set.univ (m := m) (r := r) (hl := hl) (f := f) (m.view.set_slice_subset r)) $$ [H]
  · iexact H
  iintro H
  rw [wp_ret]
  imodintro
  have he : (m.access r).read Val f = fun i => X (r.emb i) := by rw [← hf]; rfl
  rw [he]
  iapply HQ
  rw [← hf]
  iapply (owns_intro c m q f)
  iexact H

/-- A store of a whole unit-stride rectangle of a memref held in full: the memref then reads the stored vector there
    and what it read before elsewhere. -/
theorem own_store {cs : CoreSpace} {s : Shape} {e : EltTy} {m : Memref sig c.2.kind cs s e} {r : Rect s} {w : r.shape.Idx → Val e}
    (hx : (m.access r).Stores Finset.univ) (hm : (Finset.univ : Finset r.shape.Idx) = Finset.univ ∨ ∀ a, r.stride a = 1)
    {X : s.Idx → Val e} {Q : PUnit → sProp 𝕄} :
    (owns c m fullShare X : sProp 𝕄)
      ⊢ iprop((owns c m fullShare (r.overlay X w) -∗ Q ⟨⟩)
        -∗ wp frame (wpE defs 𝒱 c bd) Set.univ (Prog.lift (.store m r w Finset.univ hx hm)) Q) := by
  iintro H HQ
  ihave H' := (show (owns c m fullShare X : sProp 𝕄) ⊢ iprop(∃ f, ⌜m.view.read Val f = X⌝ ∗ (m.view.loc c ↦[m.view.set]{fullShare} f)) from .rfl) $$ H
  icases H' with ⟨%f, %hf, H⟩
  iapply (wp_store (defs := defs) 𝒱 c bd Set.univ (m := m) (r := r) (w := w) (Mk := Finset.univ) (hx := hx) (hm := hm) (f := f)
    (S := m.view.set) (m.view.set_slice_subset r)) $$ [H]
  · iexact H
  iintro H
  rw [wp_ret]
  imodintro
  iapply HQ
  have he : m.view.read Val ((m.view.slice r).write Val f w Finset.univ) = r.overlay X w := by
    funext j
    by_cases hj : j ∈ r.set
    · obtain ⟨i, rfl⟩ := r.exists_idx_of_mem hj
      change _ = r.overlay X w (r.emb i)
      rw [Rect.overlay_emb]
      exact View.read_slice_write_emb (v := m.view) r f w (Finset.mem_univ i)
    · rw [Rect.overlay_of_not_mem _ _ _ hj, ← hf]
      exact View.read_slice_write_of_not_mem (v := m.view) r f w Finset.univ (by rwa [Rect.map_emb_univ])
  rw [← he]
  iapply (owns_intro c m fullShare _)
  iexact H

/-- A copy on the thread's own cell `sm`, issued and not yet waited for, of `N` units: the wait hands back the
    assertion `G`. -/
def Pend (sm : SemLoc sig) (ι : Ix) (N : ℕ) (G : sProp 𝕄) : sProp 𝕄 :=
  iprop(∃ D : sProp 𝕄, Transfers.Flight EC c sm ι N D ∗ (D -∗ G))

/-- A copy of a window of one memref (held at any share) into the whole of another, on a cell at zero: it may be issued,
    and its wait hands back the source as it was and the destination reading the window. -/
theorem own_fetch [Infinite Name] [EC.LandsIn (upEmb : UEmb _ 𝕄)] {sp sp' : Space} {s : Shape} {e : EltTy} {m : Memref sig c.2.kind sp s e}
    {r : Rect s} {hr : ∀ a, r.stride a = 1} {dst : Memref sig c.2.kind sp' r.shape e} {sm : SemLoc sig}
    {hsrc : (m.slice r hr).view.WordExact} {hdst : dst.view.WordExact} {hsem : DmaTarget.Typed (nD := nD) sp sm (.here dst)}
    {q : PosShare TreeShare} {X : s.Idx → Val e} {Y : r.shape.Idx → Val e} (ι : Ix) (N : ℕ) (hN : dst.view.amount sm = N) (hN0 : 0 < N)
    {Q : PUnit → sProp 𝕄} :
    iprop(owns c m q X ∗ owns c dst fullShare Y ∗ semVal (c, sm) 0)
      ⊢ iprop((Pend EC c sm ι N iprop(owns c m q X ∗ owns c dst fullShare (fun i => X (r.emb i))) -∗ Q ⟨⟩)
        -∗ wp frame (wpE defs 𝒱 c bd) Set.univ (Prog.lift (.enqueueDma (m.slice r hr) (.here dst) sm hsrc hdst hsem)) Q) := by
  iintro ⟨Hs, Hd, Hv⟩ HQ
  ihave H' := (show (owns c m q X : sProp 𝕄) ⊢ iprop(∃ f, ⌜m.view.read Val f = X⌝ ∗ (m.view.loc c ↦[m.view.set]{q} f)) from .rfl) $$ Hs
  icases H' with ⟨%f, %hf, Hs⟩
  ihave H' := (show (owns c dst fullShare Y : sProp 𝕄) ⊢ iprop(∃ f, ⌜dst.view.read Val f = Y⌝ ∗ (dst.view.loc c ↦[dst.view.set]{fullShare} f)) from .rfl) $$ Hd
  icases H' with ⟨%g, %hg, Hd⟩
  ihave H' := (pointsTo_split_subset (m.view.set_slice_subset r)).1 $$ Hs
  icases H' with ⟨Hs, Hrest⟩
  iapply (Transfers.wp_dmaLocal EC (defs := defs) 𝒱 c bd (src := m.slice r hr) (via := .same) (dst := dst) (sm := sm) (hsrc := hsrc)
    (hdst := hdst) (hsem := hsem) (q := q) (fs := f) (fd := g) (Sd := dst.view.set) ι N hN hN0 (Finset.Subset.refl _)) $$ [Hs Hd Hv]
  · isplitl [Hs]; · iexact Hs
    isplitl [Hd] <;> iassumption
  iintro HF
  rw [wp_ret]
  imodintro
  iapply HQ
  unfold Pend
  iexists _
  isplitl [HF]; · iexact HF
  iintro ⟨Hd, Hs⟩
  isplitl [Hs Hrest]
  · rw [← hf]
    iapply (owns_intro c m q f)
    iapply (pointsTo_split_subset (m.view.set_slice_subset r)).2
    isplitl [Hs] <;> iassumption
  · have he : dst.view.read Val (dst.view.write Val g ((ReadAs.same (Val := Val)).apply ((m.slice r hr).view.read Val f)) Finset.univ)
        = fun i => X (r.emb i) := by
      rw [View.read_write_univ, ← hf]; rfl
    rw [← he]
    iapply (owns_intro c dst fullShare _)
    iexact Hd

/-- The same for any source view (not a window of a memref held whole). -/
theorem own_copy [Infinite Name] [EC.LandsIn (upEmb : UEmb _ 𝕄)] {sp sp' : Space} {s : Shape} {e : EltTy} {m : Memref sig c.2.kind sp s e}
    {dst : Memref sig c.2.kind sp' s e} {sm : SemLoc sig}
    {hsrc : m.view.WordExact} {hdst : dst.view.WordExact} {hsem : DmaTarget.Typed (nD := nD) sp sm (.here dst)}
    {q : PosShare TreeShare} {X : s.Idx → Val e} {Y : s.Idx → Val e} (ι : Ix) (N : ℕ) (hN : dst.view.amount sm = N) (hN0 : 0 < N)
    {Q : PUnit → sProp 𝕄} :
    iprop(owns c m q X ∗ owns c dst fullShare Y ∗ semVal (c, sm) 0)
      ⊢ iprop((Pend EC c sm ι N iprop(owns c m q X ∗ owns c dst fullShare X) -∗ Q ⟨⟩)
        -∗ wp frame (wpE defs 𝒱 c bd) Set.univ (Prog.lift (.enqueueDma m (.here dst) sm hsrc hdst hsem)) Q) := by
  iintro ⟨Hs, Hd, Hv⟩ HQ
  ihave H' := (show (owns c m q X : sProp 𝕄) ⊢ iprop(∃ f, ⌜m.view.read Val f = X⌝ ∗ (m.view.loc c ↦[m.view.set]{q} f)) from .rfl) $$ Hs
  icases H' with ⟨%f, %hf, Hs⟩
  ihave H' := (show (owns c dst fullShare Y : sProp 𝕄) ⊢ iprop(∃ f, ⌜dst.view.read Val f = Y⌝ ∗ (dst.view.loc c ↦[dst.view.set]{fullShare} f)) from .rfl) $$ Hd
  icases H' with ⟨%g, %hg, Hd⟩
  iapply (Transfers.wp_dmaLocal EC (defs := defs) 𝒱 c bd (src := m) (via := .same) (dst := dst) (sm := sm) (hsrc := hsrc)
    (hdst := hdst) (hsem := hsem) (q := q) (fs := f) (fd := g) (Sd := dst.view.set) ι N hN hN0 (Finset.Subset.refl _)) $$ [Hs Hd Hv]
  · isplitl [Hs]; · iexact Hs
    isplitl [Hd] <;> iassumption
  iintro HF
  rw [wp_ret]
  imodintro
  iapply HQ
  unfold Pend
  iexists _
  isplitl [HF]; · iexact HF
  iintro ⟨Hd, Hs⟩
  isplitl [Hs]
  · rw [← hf]
    iapply (owns_intro c m q f)
    iexact Hs
  · have he : dst.view.read Val (dst.view.write Val g ((ReadAs.same (Val := Val)).apply (m.view.read Val f)) Finset.univ) = X := by
      rw [View.read_write_univ, ← hf]
    rw [← he]
    iapply (owns_intro c dst fullShare _)
    iexact Hd

/-- The wait for an issued copy, by a thread that owes `O` and may wait on any of its cells: it hands back what the copy
    promised and the cell at zero. -/
theorem own_wait [EC.LandsIn (upEmb : UEmb _ 𝕄)] {sp sp' : Space} {s s' : Shape} {e e' : EltTy} {κ' : Kind} {sem : DmaSem sig}
    {srcw : Memref sig c.2.kind sp' s' e'} {dstw : Memref sig κ' sp s e} {hsrc : srcw.view.WordExact} {hdst : dstw.view.WordExact}
    (ι : Ix) {N : ℕ} (hN : dstw.view.dmaCredit = N) {G : sProp 𝕄}
    {O : CellTallies nD τ sig Ix} {W : Waits sig Ix} {Q : PUnit → sProp 𝕄} :
    iprop(Transfers.MayWaits c ι O ∗ Pend EC c (.dma sem) ι N G ∗ owes c O W)
      ⊢ iprop((iprop(G ∗ semVal (c, .dma sem) 0 ∗ ∃ W', owes c O W') -∗ Q ⟨⟩)
        -∗ wp frame (wpE defs 𝒱 c bd) Set.univ (Prog.lift (.waitDma2 sem srcw dstw hsrc hdst)) Q) := by
  iintro ⟨Hmw, HP, HO⟩ HQ
  unfold Pend
  icases HP with ⟨%D, HF, HD⟩
  ihave Hmw' := (Transfers.MayWaits.elim (.dma sem)) $$ Hmw
  iapply (Transfers.wp_waitLocalO EC (defs := defs) 𝒱 c bd (srcw := srcw) (dstw := dstw) (hsrc := hsrc) (hdst := hdst) ι hN (D := D)) $$ [HF HO Hmw']
  · isplitl [HF]; · iexact HF
    isplitl [HO] <;> iassumption
  iintro ⟨HDD, Hv, HO⟩
  rw [wp_ret]
  imodintro
  iapply HQ
  isplitl [HD HDD]
  · iapply HD; iexact HDD
  isplitl [Hv]; · iexact Hv
  iexists _; iexact HO

/-- Whatever the wait hands back may be weakened. -/
theorem Pend_mono {sm : SemLoc sig} {ι : Ix} {N : ℕ} {G G' : sProp 𝕄} (h : G ⊢ G') : (Pend EC c sm ι N G : sProp 𝕄) ⊢ Pend EC c sm ι N G' := by
  unfold Pend
  iintro ⟨%D, HF, HD⟩
  iexists D
  isplitl [HF]; · iexact HF
  iintro H
  iapply h
  iapply HD; iexact H

end

end Cert.Proof
-- ==== Proof.Words.lean ====
/-
  The counted loops whose bounds are two words of the table: from `a` to `b` by ones, in two loops as `fori_loop` prints
  them (the second makes no trip). When `a ≤ b` as naturals and both are small, the first makes `b - a` trips, its
  induction variable at trip `t` is `a + t`, and both loops have a meaning.
-/
module

public import Idealize.ShloMosaic.Lib.LoopRemainder

@[expose] public section

noncomputable section

namespace Cert.Proof

open Idealize.ShloMosaic

/-- The upper bound as printed, `a + ((b - a) / 1) * 1`, is `b`. -/
theorem upper_eq (a b : BitVec 32) : Scalar.addi a (Scalar.muli (Scalar.divsi (Scalar.subi b a) 1#32) 1#32) = b := by
  rw [Scalar.muli_divsi_one]
  show a + (b - a) = b
  rw [BitVec.add_comm, BitVec.sub_add_cancel]

/-- A word below `2 ^ 31` is the same as a signed and as an unsigned integer. -/
theorem toInt_of_small {a : BitVec 32} (h : a.toNat < 2 ^ 31) : a.toInt = a.toNat := by
  rw [BitVec.toInt_eq_toNat_of_lt (by omega)]

/-- The first loop makes `b - a` trips. -/
theorem trips_eq {a b : BitVec 32} (hab : a.toNat ≤ b.toNat) (hb : b.toNat < 1000) :
    Scf.trips a (Scalar.addi a (Scalar.muli (Scalar.divsi (Scalar.subi b a) 1#32) 1#32)) 1#32 = b.toNat - a.toNat := by
  rw [upper_eq]
  have h1 : (1#32 : BitVec 32).toInt = 1 := by decide
  unfold Scf.trips
  rw [h1, toInt_of_small (a := a) (by omega), toInt_of_small (a := b) (by omega)]
  omega

/-- The first loop has a meaning. -/
theorem loop_ok {a b : BitVec 32} (hab : a.toNat ≤ b.toNat) (hb : b.toNat < 1000) :
    Scf.OK a (Scalar.addi a (Scalar.muli (Scalar.divsi (Scalar.subi b a) 1#32) 1#32)) 1#32 := by
  have h1 : (1#32 : BitVec 32).toInt = 1 := by decide
  refine ⟨by decide, ?_⟩
  rw [trips_eq hab hb, h1, toInt_of_small (a := a) (by omega)]
  show (a.toNat : Int) + ((b.toNat - a.toNat : ℕ) : Int) * 1 < 2147483648
  omega

/-- The induction variable at trip `t`. -/
theorem iv_toNat {a b : BitVec 32} (hb : b.toNat < 1000) {t : ℕ} (ht : t < b.toNat - a.toNat) :
    (Scf.iv a 1#32 t).toNat = a.toNat + t := by
  unfold Scf.iv
  rw [BitVec.mul_one, BitVec.toNat_add, BitVec.toNat_ofNat, Nat.mod_eq_of_lt (a := t) (by omega), Nat.mod_eq_of_lt (by omega)]

end Cert.Proof
-- ==== Proof.Accum.lean ====
/-
  The accumulation loop of a tile: rows `lo`, `lo + 1`, … of a buffer of 128-lane rows added, in that order, onto eight
  16-lane accumulators. `accRows X lo a n` is what `n` trips leave of the 128 lanes that start at `a`.
-/
module

public import proofs.«01_k».proof.Defs
public import proofs.«01_k».proof.Proof.Own
public import proofs.«01_k».proof.Proof.Words
public import proofs.«01_k».proof.Proof.Gen.KernelIdeal
public import Idealize.ShloMosaic.Lib.ValueIdxCore
public import Idealize.ShloMosaic.Lib.ValueLayout

@[expose] public section

noncomputable section

namespace Cert.Proof

open Cert.KernelIdeal Cert.KernelIdeal.Gen
open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The values -/

/-- Row `r` (modulo the number of rows) of an array of 128-lane rows. -/
def row {α : Type} {R : ℕ} [NeZero R] (X : (⟨2, ![R, 128]⟩ : Shape).Idx → α) (r : ℕ) : Fin 128 → α := fun d => X (ix2 (Fin.ofNat R r) d)

/-- The lanes `a` with rows `lo`, …, `lo + n - 1` of `X` added in order. -/
def accRows {R : ℕ} [NeZero R] (X : (⟨2, ![R, 128]⟩ : Shape).Idx → F .f32) (lo : ℕ) (a : Fin 128 → F .f32) : ℕ → Fin 128 → F .f32
  | 0 => a
  | n + 1 => fun d => FloatOps.addf (accRows X lo a n d) (row X (lo + n) d)

/-- Lanes `16 k`, …, `16 k + 15`. -/
def piece (A : Fin 128 → F .f32) (k : Fin 8) : FVec F S16 .f32 :=
  fun i => A ⟨16 * k.val + (i 0).val, by have h : (i 0).val < 16 := (i 0).isLt; omega⟩

/-- Eight 16-lane vectors, as the program carries them. -/
abbrev Tup8 (F : FTy → Type) : Type := FVec F S16 .f32 × FVec F S16 .f32 × FVec F S16 .f32 × FVec F S16 .f32
  × FVec F S16 .f32 × FVec F S16 .f32 × FVec F S16 .f32 × FVec F S16 .f32

/-- The 128 lanes as the program carries them. -/
abbrev tup (A : Fin 128 → F .f32) : Tup8 F :=
  (piece A 0, piece A 1, piece A 2, piece A 3, piece A 4, piece A 5, piece A 6, piece A 7)

/-! ## One trip -/

/-- The thread that runs the tile at grid coordinates `i`. -/
abbrev VT (d : Dev nD) (i : grid1.Coords) : Thread nD τ := SparseCore.V d ((i 0).castLE hcore1) ((i 1).castLE hsub1)

/-- One trip's region: eight loads of 16 lanes, each combined with an accumulator. -/
def accProg (i : grid1.Coords) {R : ℕ} (m : Memref sig .scVector .vmem ⟨2, ![R, 128]⟩ .f32)
    {o0 o1 o2 o3 o4 o5 o6 o7 : Fin 2 → ℕ}
    (h0 : ∀ a, o0 a + S1x16.size a ≤ (⟨2, ![R, 128]⟩ : Shape).size a) (h1 : ∀ a, o1 a + S1x16.size a ≤ (⟨2, ![R, 128]⟩ : Shape).size a)
    (h2 : ∀ a, o2 a + S1x16.size a ≤ (⟨2, ![R, 128]⟩ : Shape).size a) (h3 : ∀ a, o3 a + S1x16.size a ≤ (⟨2, ![R, 128]⟩ : Shape).size a)
    (h4 : ∀ a, o4 a + S1x16.size a ≤ (⟨2, ![R, 128]⟩ : Shape).size a) (h5 : ∀ a, o5 a + S1x16.size a ≤ (⟨2, ![R, 128]⟩ : Shape).size a)
    (h6 : ∀ a, o6 a + S1x16.size a ≤ (⟨2, ![R, 128]⟩ : Shape).size a) (h7 : ∀ a, o7 a + S1x16.size a ≤ (⟨2, ![R, 128]⟩ : Shape).size a)
    (p0 p1 p2 p3 p4 p5 p6 p7 : FVec F S16 .f32 → Vec F S1x16 .f32 → FVec F S16 .f32) (acc : Tup8 F) :
    Prog (TpuEff nD τ sig (Elt F) Λ₀ (.scVector ((i 0).castLE hcore1) ((i 1).castLE hsub1))) (Tup8 F) := do
  let v0 : Vec F S1x16 .f32 ← Prog.lift (.load m (Rect.unit (s := ⟨2, ![R, 128]⟩) o0 S1x16.size h0).toLoadRect (View.loadsAt_vmem h_S1x16))
  let v1 : Vec F S1x16 .f32 ← Prog.lift (.load m (Rect.unit (s := ⟨2, ![R, 128]⟩) o1 S1x16.size h1).toLoadRect (View.loadsAt_vmem h_S1x16))
  let v2 : Vec F S1x16 .f32 ← Prog.lift (.load m (Rect.unit (s := ⟨2, ![R, 128]⟩) o2 S1x16.size h2).toLoadRect (View.loadsAt_vmem h_S1x16))
  let v3 : Vec F S1x16 .f32 ← Prog.lift (.load m (Rect.unit (s := ⟨2, ![R, 128]⟩) o3 S1x16.size h3).toLoadRect (View.loadsAt_vmem h_S1x16))
  let v4 : Vec F S1x16 .f32 ← Prog.lift (.load m (Rect.unit (s := ⟨2, ![R, 128]⟩) o4 S1x16.size h4).toLoadRect (View.loadsAt_vmem h_S1x16))
  let v5 : Vec F S1x16 .f32 ← Prog.lift (.load m (Rect.unit (s := ⟨2, ![R, 128]⟩) o5 S1x16.size h5).toLoadRect (View.loadsAt_vmem h_S1x16))
  let v6 : Vec F S1x16 .f32 ← Prog.lift (.load m (Rect.unit (s := ⟨2, ![R, 128]⟩) o6 S1x16.size h6).toLoadRect (View.loadsAt_vmem h_S1x16))
  let v7 : Vec F S1x16 .f32 ← Prog.lift (.load m (Rect.unit (s := ⟨2, ![R, 128]⟩) o7 S1x16.size h7).toLoadRect (View.loadsAt_vmem h_S1x16))
  pure (p0 acc.1 v0, p1 acc.2.1 v1, p2 acc.2.2.1 v2, p3 acc.2.2.2.1 v3, p4 acc.2.2.2.2.1 v4, p5 acc.2.2.2.2.2.1 v5,
    p6 acc.2.2.2.2.2.2.1 v6, p7 acc.2.2.2.2.2.2.2 v7)

/-- What each combination does: the 16 lanes loaded, as a vector, added to the accumulator. -/
def addLanes (a : FVec F S16 .f32) (v : Vec F S1x16 .f32) : FVec F S16 .f32 := addf a (shapeCast S16 v shapeCasts_S1x16_S16)

/-- Adding the 16 lanes read at row `r`, lane `16 k`, of `X` to the lanes `16 k …` of `A`. -/
theorem addLanes_piece {R : ℕ} [NeZero R] (X : (⟨2, ![R, 128]⟩ : Shape).Idx → F .f32) (A : Fin 128 → F .f32) (k : Fin 8) {r : ℕ} (hr : r < R)
    {o : Fin 2 → ℕ} (h : ∀ a, o a + S1x16.size a ≤ (⟨2, ![R, 128]⟩ : Shape).size a) (ho : o = ![r, 16 * k.val]) :
    addLanes (piece A k) (fun i => X ((Rect.unit (s := ⟨2, ![R, 128]⟩) o S1x16.size h).emb i))
      = piece (fun d => FloatOps.addf (A d) (row X r d)) k := by
  subst ho
  funext i
  obtain ⟨j, rfl⟩ : ∃ j, i = ix1 j := ⟨_, eq_ix1 i⟩
  show FloatOps.addf _ _ = FloatOps.addf _ _
  congr 1
  rw [shapeCast_1a_a_apply]
  show X _ = X _
  congr 1
  funext a
  match a with
  | ⟨0, _⟩ => exact Fin.ext (by show r + 1 * 0 = r % R; rw [Nat.mod_eq_of_lt hr]; rfl)
  | ⟨1, _⟩ => exact Fin.ext (by show 16 * k.val + 1 * j.val = 16 * k.val + j.val; omega)

section

variable {Ix : Type} [DecidableEq Ix] {Name : Type} [DecidableEq Name] {U : Type} [URA U] {Lvl : Type} [Preorder Lvl]
variable {defs : Defs nD τ sig (Elt F) Λ₀} (𝒱 : Variants) (d : Dev nD) (i : grid1.Coords) (bd : Option 𝒱.V)

local notation "𝕄" => MT nD τ sig Ix (Elt F) Name U Lvl

/-- One trip at row `r` of the buffer takes the lanes `A` to `A` plus row `r`. -/
theorem accStep {R : ℕ} [NeZero R] {m : Memref sig .scVector .vmem ⟨2, ![R, 128]⟩ .f32} {q : PosShare TreeShare}
    {X : (⟨2, ![R, 128]⟩ : Shape).Idx → F .f32} (r : ℕ) (hr : r < R)
    {o0 o1 o2 o3 o4 o5 o6 o7 : Fin 2 → ℕ}
    (h0 : ∀ a, o0 a + S1x16.size a ≤ (⟨2, ![R, 128]⟩ : Shape).size a) (h1 : ∀ a, o1 a + S1x16.size a ≤ (⟨2, ![R, 128]⟩ : Shape).size a)
    (h2 : ∀ a, o2 a + S1x16.size a ≤ (⟨2, ![R, 128]⟩ : Shape).size a) (h3 : ∀ a, o3 a + S1x16.size a ≤ (⟨2, ![R, 128]⟩ : Shape).size a)
    (h4 : ∀ a, o4 a + S1x16.size a ≤ (⟨2, ![R, 128]⟩ : Shape).size a) (h5 : ∀ a, o5 a + S1x16.size a ≤ (⟨2, ![R, 128]⟩ : Shape).size a)
    (h6 : ∀ a, o6 a + S1x16.size a ≤ (⟨2, ![R, 128]⟩ : Shape).size a) (h7 : ∀ a, o7 a + S1x16.size a ≤ (⟨2, ![R, 128]⟩ : Shape).size a)
    (e0 : o0 = ![r, 0]) (e1 : o1 = ![r, 16]) (e2 : o2 = ![r, 32]) (e3 : o3 = ![r, 48])
    (e4 : o4 = ![r, 64]) (e5 : o5 = ![r, 80]) (e6 : o6 = ![r, 96]) (e7 : o7 = ![r, 112])
    (A : Fin 128 → F .f32) :
    (owns (VT d i) m q X : sProp 𝕄)
      ⊢ wp frame (wpE defs 𝒱 (VT d i) bd) Set.univ
          (accProg i m h0 h1 h2 h3 h4 h5 h6 h7 addLanes addLanes addLanes addLanes addLanes addLanes addLanes addLanes (tup A))
          (fun acc => iprop(⌜acc = tup (fun l => FloatOps.addf (A l) (row X r l))⌝ ∗ owns (VT d i) m q X)) := by
  unfold accProg
  simp only [wp_bind]
  iintro H
  iapply (own_load 𝒱 (VT d i) bd) $$ H; iintro H
  iapply (own_load 𝒱 (VT d i) bd) $$ H; iintro H
  iapply (own_load 𝒱 (VT d i) bd) $$ H; iintro H
  iapply (own_load 𝒱 (VT d i) bd) $$ H; iintro H
  iapply (own_load 𝒱 (VT d i) bd) $$ H; iintro H
  iapply (own_load 𝒱 (VT d i) bd) $$ H; iintro H
  iapply (own_load 𝒱 (VT d i) bd) $$ H; iintro H
  iapply (own_load 𝒱 (VT d i) bd) $$ H; iintro H
  rw [wp_pure]
  imodintro
  isplitr
  · ipureintro
    exact congrArg₂ Prod.mk (addLanes_piece X A 0 hr h0 e0) (congrArg₂ Prod.mk (addLanes_piece X A 1 hr h1 e1) (
      congrArg₂ Prod.mk (addLanes_piece X A 2 hr h2 e2) (congrArg₂ Prod.mk (addLanes_piece X A 3 hr h3 e3) (
      congrArg₂ Prod.mk (addLanes_piece X A 4 hr h4 e4) (congrArg₂ Prod.mk (addLanes_piece X A 5 hr h5 e5) (
      congrArg₂ Prod.mk (addLanes_piece X A 6 hr h6 e6) (addLanes_piece X A 7 hr h7 e7)))))))
  · iexact H

/-- The loop from word `a` to word `b`: it adds rows `a`, …, `b - 1` in order, given that each trip adds its row. -/
theorem accLoop {R : ℕ} [NeZero R] {m : Memref sig .scVector .vmem ⟨2, ![R, 128]⟩ .f32} {q : PosShare TreeShare}
    {X : (⟨2, ![R, 128]⟩ : Shape).Idx → F .f32} {a b : BitVec 32} (hab : a.toNat ≤ b.toNat) (hb : b.toNat < 1000)
    {hok : Scf.OK a (Scalar.addi a (Scalar.muli (Scalar.divsi (Scalar.subi b a) 1#32) 1#32)) 1#32} (A : Fin 128 → F .f32)
    {body : Fin (Scf.trips a (Scalar.addi a (Scalar.muli (Scalar.divsi (Scalar.subi b a) 1#32) 1#32)) 1#32) → Tup8 F
      → Prog (TpuEff nD τ sig (Elt F) Λ₀ (.scVector ((i 0).castLE hcore1) ((i 1).castLE hsub1))) (Tup8 F)}
    (hbody : ∀ t (B : Fin 128 → F .f32), t.val < b.toNat - a.toNat → (owns (VT d i) m q X : sProp 𝕄)
      ⊢ wp frame (wpE defs 𝒱 (VT d i) bd) Set.univ (body t (tup B))
          (fun acc => iprop(⌜acc = tup (fun l => FloatOps.addf (B l) (row X (a.toNat + t.val) l))⌝ ∗ owns (VT d i) m q X)))
    {Q : Tup8 F → sProp 𝕄} :
    (owns (VT d i) m q X : sProp 𝕄)
      ⊢ iprop((owns (VT d i) m q X -∗ Q (tup (accRows X a.toNat A (b.toNat - a.toNat))))
        -∗ wp frame (wpE defs 𝒱 (VT d i) bd) Set.univ
          (Scf.for a (Scalar.addi a (Scalar.muli (Scalar.divsi (Scalar.subi b a) 1#32) 1#32)) 1#32 hok (tup A) body) Q) := by
  have hstep : ∀ t acc, iprop(⌜acc = tup (accRows X a.toNat A t.val)⌝ ∗ owns (VT d i) m q X)
      ⊢ (wp frame (wpE defs 𝒱 (VT d i) bd) Set.univ (body t acc)
          (fun acc => iprop(⌜acc = tup (accRows X a.toNat A (t.val + 1))⌝ ∗ owns (VT d i) m q X)) : sProp 𝕄) := by
    intro t acc
    iintro ⟨%he, H⟩
    subst he
    iapply (hbody t (accRows X a.toNat A t.val) (lt_of_lt_of_eq t.isLt (trips_eq hab hb)))
    iexact H
  iintro H HQ
  iapply (Scf.wp_for frame (wpE defs 𝒱 (VT d i) bd) Set.univ a _ 1#32 hok (tup A) body
    (fun k acc => iprop(⌜acc = tup (accRows X a.toNat A k)⌝ ∗ owns (VT d i) m q X)) hstep)
  isplitl [H]
  · isplitr; · ipureintro; rfl
    iexact H
  · iintro %acc ⟨%he, H⟩
    rw [trips_eq hab hb] at he
    rw [he]
    iapply HQ; iexact H

end

end Cert.Proof
-- ==== Proof.Meta.lean ====
/-
  The constant table the tiles read. Tile `w`, slot `j` serves peptide `p = 32 j + w`, whose nodes are the rows
  `p (p - 1) / 2`, …, `p (p - 1) / 2 + p - 1`. The sixteen words of its row name a window of 64 chunk sums and two windows
  of 16 node rows, and in each a range of rows to add.
-/
module

public import proofs.«01_k».proof.KernelIdeal

@[expose] public section

noncomputable section

namespace Cert.Proof

open Cert.KernelIdeal
open Idealize.ShloMosaic

/-- The words name windows inside the arrays, at multiples of eight rows, and ranges inside the windows. -/
def RowOK (m : Fin 16 → BitVec 32) : Prop :=
  8 ∣ (m 0).toNat ∧ (m 0).toNat + 64 ≤ 20000 ∧ 8 ∣ (m 3).toNat ∧ (m 3).toNat + 16 ≤ 319600 ∧ 8 ∣ (m 6).toNat ∧ (m 6).toNat + 16 ≤ 319600
    ∧ (m 1).toNat ≤ (m 2).toNat ∧ (m 2).toNat ≤ 64 ∧ (m 4).toNat ≤ (m 5).toNat ∧ (m 5).toNat ≤ 16 ∧ (m 7).toNat ≤ (m 8).toNat ∧ (m 8).toNat ≤ 16

instance (m : Fin 16 → BitVec 32) : Decidable (RowOK m) := by unfold RowOK; infer_instance

/-- The three ranges, put end to end, are the rows `s`, …, `e - 1`: either all of them in the head window, or a head up to
    a chunk boundary, whole chunks of 16 rows, and a tail. -/
def RowCovers (m : Fin 16 → BitVec 32) (s e : ℕ) : Prop :=
  (m 3).toNat + (m 4).toNat = s
    ∧ (((m 1).toNat = (m 2).toNat ∧ (m 7).toNat = (m 8).toNat ∧ (m 3).toNat + (m 5).toNat = e)
      ∨ ((m 3).toNat + (m 5).toNat = 16 * ((m 0).toNat + (m 1).toNat) ∧ 16 * ((m 0).toNat + (m 2).toNat) = (m 6).toNat + (m 7).toNat
          ∧ (m 6).toNat + (m 8).toNat = e))

instance (m : Fin 16 → BitVec 32) (s e : ℕ) : Decidable (RowCovers m s e) := by unfold RowCovers; infer_instance

/-- The words of tile `w`'s slot `j`. -/
def tableRow (w : Fin 32) (j : Fin 25) : Fin 16 → BitVec 32 := fun k => lit0 ⟨(w.val * 25 + j.val) * 16 + k.val, by omega⟩

/-- The first row of peptide `p`. -/
def first (p : ℕ) : ℕ := p * (p - 1) / 2

/-- Every row of the table is well formed and covers its peptide's rows. -/
theorem table_ok : ∀ (w : Fin 32) (j : Fin 25), RowOK (tableRow w j) ∧ RowCovers (tableRow w j) (first (32 * j.val + w.val)) (first (32 * j.val + w.val + 1)) := by
  decide +kernel

end Cert.Proof
-- ==== Proof.Checks.lean ====
/-
  The side conditions the tile's body assumes of the words it reads: each follows from the words' ranges. Also the guards
  of the main loop, as statements about the trip.
-/
module

public import proofs.«01_k».proof.Proof.Accum
public import proofs.«01_k».proof.Proof.Meta

@[expose] public section

noncomputable section

namespace Cert.Proof

open Cert.KernelIdeal Cert.KernelIdeal.Gen
open Idealize.ShloMosaic Idealize.ShloMosaic.ValueIdx

/-! ## Rows a counted loop reads -/

/-- The offsets at trip `t` of a loop from word `a` to word `b`: row `a + t`. -/
theorem off_row {a b : BitVec 32} (hb : b.toNat < 1000) {t : ℕ} (ht : t < b.toNat - a.toNat) {o : Fin 2 → ℕ} {c : ℕ}
    (ho : o = ![(Scalar.indexCast (Scf.iv a 1#32 t)).toNat, c]) : o = ![a.toNat + t, c] := by
  rw [ho, ← iv_toNat hb ht]; rfl

/-- One row and sixteen lanes at these offsets lie inside a buffer of `R` rows of 128 lanes. -/
theorem row_in {R r c : ℕ} (hr : r < R) (hc : c + 16 ≤ 128) {o : Fin 2 → ℕ} (ho : o = ![r, c]) :
    ∀ x, o x + S1x16.size x ≤ (⟨2, ![R, 128]⟩ : Shape).size x := by
  subst ho
  intro x
  match x with
  | ⟨0, _⟩ => exact hr
  | ⟨1, _⟩ => exact hc

/-- The rows a loop from word `a` to word `b` reads lie inside a buffer of at least `b` rows. -/
theorem loop_in {R : ℕ} {a b : BitVec 32} (hab : a.toNat ≤ b.toNat) (hb : b.toNat ≤ R) (hR : R < 1000)
    (t : Fin (Scf.trips a (Scalar.addi a (Scalar.muli (Scalar.divsi (Scalar.subi b a) 1#32) 1#32)) 1#32)) {o : Fin 2 → ℕ} {c : ℕ}
    (ho : o = ![(Scalar.indexCast (Scf.iv a 1#32 t)).toNat, c]) (hc : c + 16 ≤ 128) :
    ∀ x, o x + S1x16.size x ≤ (⟨2, ![R, 128]⟩ : Shape).size x := by
  have ht : t.val < b.toNat - a.toNat := lt_of_lt_of_eq t.isLt (trips_eq hab (by omega))
  exact row_in (by omega) hc (off_row (by omega) ht ho)

/-- `n` rows from row `r` lie inside an array of `R` rows of 128 lanes. -/
theorem rows_in {R n r : ℕ} (hr : r + n ≤ R) {o : Fin 2 → ℕ} (ho : o = ![r, 0]) :
    ∀ x, o x + (⟨2, ![n, 128]⟩ : Shape).size x ≤ (⟨2, ![R, 128]⟩ : Shape).size x := by
  subst ho
  intro x
  match x with
  | ⟨0, _⟩ => exact hr
  | ⟨1, _⟩ => exact le_refl 128

/-! ## The ranges inside the windows -/

theorem chk7_of (t : Fin k1_t1_loop.trips) {a b : BitVec 32} (hab : a.toNat ≤ b.toNat) (hb : b.toNat ≤ 64) : k1_chk7 t a b :=
  ⟨fun _ => loop_ok hab (by omega), fun t _ => loop_in hab hb (by omega) t (o := k1_off9 a b t) (c := 0) rfl (by omega), fun t _ => loop_in hab hb (by omega) t (o := k1_off10 a b t) (c := 16) rfl (by omega), fun t _ => loop_in hab hb (by omega) t (o := k1_off11 a b t) (c := 32) rfl (by omega), fun t _ => loop_in hab hb (by omega) t (o := k1_off12 a b t) (c := 48) rfl (by omega), fun t _ => loop_in hab hb (by omega) t (o := k1_off13 a b t) (c := 64) rfl (by omega), fun t _ => loop_in hab hb (by omega) t (o := k1_off14 a b t) (c := 80) rfl (by omega), fun t _ => loop_in hab hb (by omega) t (o := k1_off15 a b t) (c := 96) rfl (by omega), fun t _ => loop_in hab hb (by omega) t (o := k1_off16 a b t) (c := 112) rfl (by omega),
    fun _ => Scf.rem_ok _ _, fun t _ => (Scf.rem_no_trip _ _ t).elim, fun t _ => (Scf.rem_no_trip _ _ t).elim, fun t _ => (Scf.rem_no_trip _ _ t).elim, fun t _ => (Scf.rem_no_trip _ _ t).elim, fun t _ => (Scf.rem_no_trip _ _ t).elim, fun t _ => (Scf.rem_no_trip _ _ t).elim, fun t _ => (Scf.rem_no_trip _ _ t).elim, fun t _ => (Scf.rem_no_trip _ _ t).elim⟩

theorem chk8_of (t : Fin k1_t1_loop.trips) {a b : BitVec 32} (hab : a.toNat ≤ b.toNat) (hb : b.toNat ≤ 16) : k1_chk8 t a b :=
  ⟨fun _ => loop_ok hab (by omega), fun t _ => loop_in hab hb (by omega) t (o := k1_off25 a b t) (c := 0) rfl (by omega), fun t _ => loop_in hab hb (by omega) t (o := k1_off26 a b t) (c := 16) rfl (by omega), fun t _ => loop_in hab hb (by omega) t (o := k1_off27 a b t) (c := 32) rfl (by omega), fun t _ => loop_in hab hb (by omega) t (o := k1_off28 a b t) (c := 48) rfl (by omega), fun t _ => loop_in hab hb (by omega) t (o := k1_off29 a b t) (c := 64) rfl (by omega), fun t _ => loop_in hab hb (by omega) t (o := k1_off30 a b t) (c := 80) rfl (by omega), fun t _ => loop_in hab hb (by omega) t (o := k1_off31 a b t) (c := 96) rfl (by omega), fun t _ => loop_in hab hb (by omega) t (o := k1_off32 a b t) (c := 112) rfl (by omega),
    fun _ => Scf.rem_ok _ _, fun t _ => (Scf.rem_no_trip _ _ t).elim, fun t _ => (Scf.rem_no_trip _ _ t).elim, fun t _ => (Scf.rem_no_trip _ _ t).elim, fun t _ => (Scf.rem_no_trip _ _ t).elim, fun t _ => (Scf.rem_no_trip _ _ t).elim, fun t _ => (Scf.rem_no_trip _ _ t).elim, fun t _ => (Scf.rem_no_trip _ _ t).elim, fun t _ => (Scf.rem_no_trip _ _ t).elim⟩

theorem chk9_of (t : Fin k1_t1_loop.trips) {a b : BitVec 32} (hab : a.toNat ≤ b.toNat) (hb : b.toNat ≤ 16) : k1_chk9 t a b :=
  ⟨fun _ => loop_ok hab (by omega), fun t _ => loop_in hab hb (by omega) t (o := k1_off41 a b t) (c := 0) rfl (by omega), fun t _ => loop_in hab hb (by omega) t (o := k1_off42 a b t) (c := 16) rfl (by omega), fun t _ => loop_in hab hb (by omega) t (o := k1_off43 a b t) (c := 32) rfl (by omega), fun t _ => loop_in hab hb (by omega) t (o := k1_off44 a b t) (c := 48) rfl (by omega), fun t _ => loop_in hab hb (by omega) t (o := k1_off45 a b t) (c := 64) rfl (by omega), fun t _ => loop_in hab hb (by omega) t (o := k1_off46 a b t) (c := 80) rfl (by omega), fun t _ => loop_in hab hb (by omega) t (o := k1_off47 a b t) (c := 96) rfl (by omega), fun t _ => loop_in hab hb (by omega) t (o := k1_off48 a b t) (c := 112) rfl (by omega),
    fun _ => Scf.rem_ok _ _, fun t _ => (Scf.rem_no_trip _ _ t).elim, fun t _ => (Scf.rem_no_trip _ _ t).elim, fun t _ => (Scf.rem_no_trip _ _ t).elim, fun t _ => (Scf.rem_no_trip _ _ t).elim, fun t _ => (Scf.rem_no_trip _ _ t).elim, fun t _ => (Scf.rem_no_trip _ _ t).elim, fun t _ => (Scf.rem_no_trip _ _ t).elim, fun t _ => (Scf.rem_no_trip _ _ t).elim⟩

theorem chk13_of (t : Fin k1_t1_loop.trips) {a b : BitVec 32} (hab : a.toNat ≤ b.toNat) (hb : b.toNat ≤ 64) : k1_chk13 t a b :=
  ⟨fun _ => loop_ok hab (by omega), fun t _ => loop_in hab hb (by omega) t (o := k1_off70 a b t) (c := 0) rfl (by omega), fun t _ => loop_in hab hb (by omega) t (o := k1_off71 a b t) (c := 16) rfl (by omega), fun t _ => loop_in hab hb (by omega) t (o := k1_off72 a b t) (c := 32) rfl (by omega), fun t _ => loop_in hab hb (by omega) t (o := k1_off73 a b t) (c := 48) rfl (by omega), fun t _ => loop_in hab hb (by omega) t (o := k1_off74 a b t) (c := 64) rfl (by omega), fun t _ => loop_in hab hb (by omega) t (o := k1_off75 a b t) (c := 80) rfl (by omega), fun t _ => loop_in hab hb (by omega) t (o := k1_off76 a b t) (c := 96) rfl (by omega), fun t _ => loop_in hab hb (by omega) t (o := k1_off77 a b t) (c := 112) rfl (by omega),
    fun _ => Scf.rem_ok _ _, fun t _ => (Scf.rem_no_trip _ _ t).elim, fun t _ => (Scf.rem_no_trip _ _ t).elim, fun t _ => (Scf.rem_no_trip _ _ t).elim, fun t _ => (Scf.rem_no_trip _ _ t).elim, fun t _ => (Scf.rem_no_trip _ _ t).elim, fun t _ => (Scf.rem_no_trip _ _ t).elim, fun t _ => (Scf.rem_no_trip _ _ t).elim, fun t _ => (Scf.rem_no_trip _ _ t).elim⟩

theorem chk14_of (t : Fin k1_t1_loop.trips) {a b : BitVec 32} (hab : a.toNat ≤ b.toNat) (hb : b.toNat ≤ 16) : k1_chk14 t a b :=
  ⟨fun _ => loop_ok hab (by omega), fun t _ => loop_in hab hb (by omega) t (o := k1_off86 a b t) (c := 0) rfl (by omega), fun t _ => loop_in hab hb (by omega) t (o := k1_off87 a b t) (c := 16) rfl (by omega), fun t _ => loop_in hab hb (by omega) t (o := k1_off88 a b t) (c := 32) rfl (by omega), fun t _ => loop_in hab hb (by omega) t (o := k1_off89 a b t) (c := 48) rfl (by omega), fun t _ => loop_in hab hb (by omega) t (o := k1_off90 a b t) (c := 64) rfl (by omega), fun t _ => loop_in hab hb (by omega) t (o := k1_off91 a b t) (c := 80) rfl (by omega), fun t _ => loop_in hab hb (by omega) t (o := k1_off92 a b t) (c := 96) rfl (by omega), fun t _ => loop_in hab hb (by omega) t (o := k1_off93 a b t) (c := 112) rfl (by omega),
    fun _ => Scf.rem_ok _ _, fun t _ => (Scf.rem_no_trip _ _ t).elim, fun t _ => (Scf.rem_no_trip _ _ t).elim, fun t _ => (Scf.rem_no_trip _ _ t).elim, fun t _ => (Scf.rem_no_trip _ _ t).elim, fun t _ => (Scf.rem_no_trip _ _ t).elim, fun t _ => (Scf.rem_no_trip _ _ t).elim, fun t _ => (Scf.rem_no_trip _ _ t).elim, fun t _ => (Scf.rem_no_trip _ _ t).elim⟩

theorem chk15_of (t : Fin k1_t1_loop.trips) {a b : BitVec 32} (hab : a.toNat ≤ b.toNat) (hb : b.toNat ≤ 16) : k1_chk15 t a b :=
  ⟨fun _ => loop_ok hab (by omega), fun t _ => loop_in hab hb (by omega) t (o := k1_off102 a b t) (c := 0) rfl (by omega), fun t _ => loop_in hab hb (by omega) t (o := k1_off103 a b t) (c := 16) rfl (by omega), fun t _ => loop_in hab hb (by omega) t (o := k1_off104 a b t) (c := 32) rfl (by omega), fun t _ => loop_in hab hb (by omega) t (o := k1_off105 a b t) (c := 48) rfl (by omega), fun t _ => loop_in hab hb (by omega) t (o := k1_off106 a b t) (c := 64) rfl (by omega), fun t _ => loop_in hab hb (by omega) t (o := k1_off107 a b t) (c := 80) rfl (by omega), fun t _ => loop_in hab hb (by omega) t (o := k1_off108 a b t) (c := 96) rfl (by omega), fun t _ => loop_in hab hb (by omega) t (o := k1_off109 a b t) (c := 112) rfl (by omega),
    fun _ => Scf.rem_ok _ _, fun t _ => (Scf.rem_no_trip _ _ t).elim, fun t _ => (Scf.rem_no_trip _ _ t).elim, fun t _ => (Scf.rem_no_trip _ _ t).elim, fun t _ => (Scf.rem_no_trip _ _ t).elim, fun t _ => (Scf.rem_no_trip _ _ t).elim, fun t _ => (Scf.rem_no_trip _ _ t).elim, fun t _ => (Scf.rem_no_trip _ _ t).elim, fun t _ => (Scf.rem_no_trip _ _ t).elim⟩

/-! ## The windows -/

theorem chk1_of {v : BitVec 32} (hd : 8 ∣ v.toNat) (hv : v.toNat + 64 ≤ 20000) : k1_chk1 v := ⟨hd, rows_in hv (o := k1_off2 v) rfl⟩

theorem chk2_of {v : BitVec 32} (hd : 8 ∣ v.toNat) (hv : v.toNat + 16 ≤ 319600) : k1_chk2 v := ⟨hd, rows_in hv (o := k1_off3 v) rfl⟩

theorem chk3_of {v : BitVec 32} (hd : 8 ∣ v.toNat) (hv : v.toNat + 16 ≤ 319600) : k1_chk3 v := ⟨hd, rows_in hv (o := k1_off4 v) rfl⟩

theorem chk4_of {v : BitVec 32} (hd : 8 ∣ v.toNat) (hv : v.toNat + 64 ≤ 20000) : k1_chk4 v := ⟨hd, rows_in hv (o := k1_off5 v) rfl⟩

theorem chk5_of {v : BitVec 32} (hd : 8 ∣ v.toNat) (hv : v.toNat + 16 ≤ 319600) : k1_chk5 v := ⟨hd, rows_in hv (o := k1_off6 v) rfl⟩

theorem chk6_of {v : BitVec 32} (hd : 8 ∣ v.toNat) (hv : v.toNat + 16 ≤ 319600) : k1_chk6 v := ⟨hd, rows_in hv (o := k1_off7 v) rfl⟩

theorem chk10_of (t : Fin k1_t1_loop.trips) {v : BitVec 32} (hd : 8 ∣ v.toNat) (hv : v.toNat + 64 ≤ 20000) : k1_chk10 t v :=
  ⟨fun _ _ => hd, fun _ _ => rows_in hv (o := k1_off66 v) rfl⟩

theorem chk11_of (t : Fin k1_t1_loop.trips) {v : BitVec 32} (hd : 8 ∣ v.toNat) (hv : v.toNat + 16 ≤ 319600) : k1_chk11 t v :=
  ⟨fun _ _ => hd, fun _ _ => rows_in hv (o := k1_off67 v) rfl⟩

theorem chk12_of (t : Fin k1_t1_loop.trips) {v : BitVec 32} (hd : 8 ∣ v.toNat) (hv : v.toNat + 16 ≤ 319600) : k1_chk12 t v :=
  ⟨fun _ _ => hd, fun _ _ => rows_in hv (o := k1_off68 v) rfl⟩

theorem chk16_of (t : Fin k1_t1_loop.trips) {v : BitVec 32} (hd : 8 ∣ v.toNat) (hv : v.toNat + 64 ≤ 20000) : k1_chk16 t v :=
  ⟨fun _ _ => hd, fun _ _ => rows_in hv (o := k1_off127 v) rfl⟩

theorem chk17_of (t : Fin k1_t1_loop.trips) {v : BitVec 32} (hd : 8 ∣ v.toNat) (hv : v.toNat + 16 ≤ 319600) : k1_chk17 t v :=
  ⟨fun _ _ => hd, fun _ _ => rows_in hv (o := k1_off128 v) rfl⟩

theorem chk18_of (t : Fin k1_t1_loop.trips) {v : BitVec 32} (hd : 8 ∣ v.toNat) (hv : v.toNat + 16 ≤ 319600) : k1_chk18 t v :=
  ⟨fun _ _ => hd, fun _ _ => rows_in hv (o := k1_off129 v) rfl⟩

/-! ## The main loop's guards -/

/-- The main loop makes 25 trips. -/
theorem trips_main : k1_t1_loop.trips = 25 := by decide

/-- The first half runs at even trips, -/
theorem cond1_iff : ∀ t : Fin k1_t1_loop.trips, k1_cond1 t = 1#1 ↔ t.val % 2 = 0 := by decide +kernel
/-- and fetches again while a trip two later exists; -/
theorem cond2_iff : ∀ t : Fin k1_t1_loop.trips, k1_cond2 t = 1#1 ↔ t.val + 2 < 25 := by decide +kernel
/-- the second half runs at odd trips, -/
theorem cond3_iff : ∀ t : Fin k1_t1_loop.trips, k1_cond3 t = 1#1 ↔ t.val % 2 = 1 := by decide +kernel
/-- and fetches again in the same way. -/
theorem cond4_iff : ∀ t : Fin k1_t1_loop.trips, k1_cond4 t = 1#1 ↔ t.val + 2 < 25 := by decide +kernel

/-! ## Words of the table -/

/-- Row `s` of the fetched table, word by word. -/
def mrow (M : S25x16.Idx → BitVec 32) (s : ℕ) : Fin 16 → BitVec 32 := fun k => M (ix2 (Fin.ofNat 25 s) k)

/-- Word `k` of the sixteen loaded at row `s`. -/
theorem word_mrow (M : S25x16.Idx → BitVec 32) {s : ℕ} (hs : s < 25) {o : Fin 2 → ℕ}
    (h : ∀ a, o a + S1x16.size a ≤ S25x16.size a) (ho : o = ![s, 0]) (k : Fin 16) :
    (M ((Rect.unit (s := S25x16) o S1x16.size h).emb (ix2 0 k))) = mrow M s k := by
  subst ho
  show M _ = M _
  congr 1
  funext a
  match a with
  | ⟨0, _⟩ => exact Fin.ext (by show s + 1 * 0 = s % 25; rw [Nat.mod_eq_of_lt hs]; rfl)
  | ⟨1, _⟩ => exact Fin.ext (by show 0 + 1 * k.val = k.val; omega)

/-- A word taken out of sixteen: the slice of one word at `k`, and its only entry. -/
theorem word_at (v : S1x16.Idx → BitVec 32) (k : ℕ) (hk : k < 16) (hc : S1x16.ShapeCasts S16) (hsl : S16.Slices ![k] S1) (hp : ∀ a, (![0] : Fin 1 → ℕ) a < S1.size a) :
    extractAt ![0] (extractStridedSlice S1 ![k] (shapeCast S16 v hc) hsl) hp = v (ix2 0 ⟨k, hk⟩) := by
  show shapeCast S16 v hc _ = _
  have : ∀ j : S16.Idx, shapeCast S16 v hc j = v (ix2 0 (j 0)) := fun j => by
    obtain ⟨j, rfl⟩ : ∃ i, j = ix1 i := ⟨_, eq_ix1 j⟩
    exact shapeCast_1a_a_apply _ _ _
  rw [this]
  rfl

end Cert.Proof
-- ==== Proof.Slot.lean ====
/-
  One slot of a tile: it waits for the three windows fetched for it, reads its row of the table, and adds the rows the
  words name: first of the window of chunk sums, then of the head window, then of the tail window. Even slots use one set of
  buffers and cells, odd slots another.
-/
module

public import proofs.«01_k».proof.Proof.Checks
public import proofs.«01_k».proof.Proof.Gen.KernelIdeal.Skeleton

@[expose] public section

noncomputable section

namespace Cert.Proof

open Cert.KernelIdeal Cert.KernelIdeal.Gen
open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The values -/

/-- The `n` rows from row `b` of an array of `R` rows of 128 lanes. -/
def win {α : Type} {R : ℕ} [NeZero R] (n : ℕ) (X : (⟨2, ![R, 128]⟩ : Shape).Idx → α) (b : ℕ) : (⟨2, ![n, 128]⟩ : Shape).Idx → α :=
  fun i => X (ix2 (Fin.ofNat R (b + (i 0).val)) (⟨(i 1).val, (i 1).isLt⟩ : Fin 128))

/-- What a window sliced at row `b` reads. -/
theorem win_eq {α : Type} {R : ℕ} [NeZero R] {n : ℕ} (X : (⟨2, ![R, 128]⟩ : Shape).Idx → α) {b : ℕ} (hb : b + n ≤ R) {o : Fin 2 → ℕ}
    (h : ∀ a, o a + (⟨2, ![n, 128]⟩ : Shape).size a ≤ (⟨2, ![R, 128]⟩ : Shape).size a) (ho : o = ![b, 0]) :
    (fun i => X ((Rect.unit (s := ⟨2, ![R, 128]⟩) o (⟨2, ![n, 128]⟩ : Shape).size h).emb i)) = win n X b := by
  subst ho
  funext i
  show X _ = X _
  congr 1
  have h0 : (i 0).val < n := (i 0).isLt
  funext a
  match a with
  | ⟨0, _⟩ => exact Fin.ext (by show b + 1 * (i 0).val = (b + (i 0).val) % R; rw [Nat.mod_eq_of_lt (by omega)]; omega)
  | ⟨1, _⟩ => exact Fin.ext (by show 0 + 1 * (i 1).val = (i 1).val; omega)

/-- The 128 zero lanes a slot starts from. -/
def zeroLanes : Fin 128 → F .f32 := fun _ => Scalar.ofBits .f32 0#32

/-- The lanes after the chunk sums' window. -/
def acc1 (C : S20000x128.Idx → F .f32) (m : Fin 16 → BitVec 32) : Fin 128 → F .f32 :=
  accRows (win 64 C (m 0).toNat) (m 1).toNat zeroLanes ((m 2).toNat - (m 1).toNat)
/-- The lanes after the head window. -/
def acc2 (N : S319600x128.Idx → F .f32) (m : Fin 16 → BitVec 32) (a : Fin 128 → F .f32) : Fin 128 → F .f32 :=
  accRows (win 16 N (m 3).toNat) (m 4).toNat a ((m 5).toNat - (m 4).toNat)
/-- The lanes after the tail window. -/
def acc3 (N : S319600x128.Idx → F .f32) (m : Fin 16 → BitVec 32) (a : Fin 128 → F .f32) : Fin 128 → F .f32 :=
  accRows (win 16 N (m 6).toNat) (m 7).toNat a ((m 8).toNat - (m 7).toNat)
/-- What a slot whose words are `m` writes. -/
def outRow (N : S319600x128.Idx → F .f32) (C : S20000x128.Idx → F .f32) (m : Fin 16 → BitVec 32) : Fin 128 → F .f32 :=
  acc3 N m (acc2 N m (acc1 C m))

/-! ## Storing one row -/

/-- An array of 32 rows with row `s` replaced. -/
def setRow (O : S32x128.Idx → F .f32) (s : ℕ) (A : Fin 128 → F .f32) : S32x128.Idx → F .f32 :=
  fun j => if (j 0).val = s then A ⟨(j 1).val, (j 1).isLt⟩ else O j

/-- One store of sixteen lanes at row `s`, lane `16 k`. -/
theorem overlay_piece (O : S32x128.Idx → F .f32) (A : Fin 128 → F .f32) (k : Fin 8) {s : ℕ} {o : Fin 2 → ℕ}
    (h : ∀ a, o a + S1x16.size a ≤ S32x128.size a) (ho : o = ![s, 16 * k.val]) (w : FVec F S1x16 .f32)
    (hw : w = shapeCast S1x16 (piece A k) shapeCasts_S16_S1x16) (j : S32x128.Idx) :
    (Rect.unit (s := S32x128) o S1x16.size h).overlay O w j
      = if (j 0).val = s ∧ 16 * k.val ≤ (j 1).val ∧ (j 1).val < 16 * k.val + 16 then A ⟨(j 1).val, (j 1).isLt⟩ else O j := by
  subst ho hw
  have h1 : (j 1).val < 128 := (j 1).isLt
  split
  next hc =>
    obtain ⟨hs, hlo, hhi⟩ := hc
    have hj : j = (Rect.unit (s := S32x128) ![s, 16 * k.val] S1x16.size h).emb (ix2 0 ⟨(j 1).val - 16 * k.val, by omega⟩) := by
      funext a
      match a with
      | ⟨0, _⟩ => exact Fin.ext (by show (j 0).val = s + 1 * 0; omega)
      | ⟨1, _⟩ => exact Fin.ext (by show (j 1).val = 16 * k.val + 1 * ((j 1).val - 16 * k.val); omega)
    have e : ∀ y, j = (Rect.unit (s := S32x128) ![s, 16 * k.val] S1x16.size h).emb y →
        (Rect.unit (s := S32x128) ![s, 16 * k.val] S1x16.size h).overlay O (shapeCast S1x16 (piece A k) shapeCasts_S16_S1x16) j
          = shapeCast S1x16 (piece A k) shapeCasts_S16_S1x16 y := fun y hy => by rw [hy, Rect.overlay_emb]
    rw [e _ hj, shapeCast_a_1a_apply]
    show A _ = A _
    congr 1
    exact Fin.ext (by show 16 * k.val + ((j 1).val - 16 * k.val) = (j 1).val; omega)
  next hc =>
    rw [Rect.overlay_of_not_mem]
    intro hm
    obtain ⟨y, hy⟩ := (Rect.unit (s := S32x128) ![s, 16 * k.val] S1x16.size h).exists_idx_of_mem hm
    apply hc
    have hy1 : (y 1).val < 16 := (y 1).isLt
    have hy0 : (y 0).val < 1 := (y 0).isLt
    have e0 : (j 0).val = s + 1 * (y 0).val := by rw [← hy]; rfl
    have e1 : (j 1).val = 16 * k.val + 1 * (y 1).val := by rw [← hy]; rfl
    omega

/-- Eight stores, of the eight pieces in order, replace the row. -/
theorem overlay_row (O : S32x128.Idx → F .f32) (A : Fin 128 → F .f32) {s : ℕ} {o0 o1 o2 o3 o4 o5 o6 o7 : Fin 2 → ℕ}
    (h0 : ∀ a, o0 a + S1x16.size a ≤ S32x128.size a) (h1 : ∀ a, o1 a + S1x16.size a ≤ S32x128.size a)
    (h2 : ∀ a, o2 a + S1x16.size a ≤ S32x128.size a) (h3 : ∀ a, o3 a + S1x16.size a ≤ S32x128.size a)
    (h4 : ∀ a, o4 a + S1x16.size a ≤ S32x128.size a) (h5 : ∀ a, o5 a + S1x16.size a ≤ S32x128.size a)
    (h6 : ∀ a, o6 a + S1x16.size a ≤ S32x128.size a) (h7 : ∀ a, o7 a + S1x16.size a ≤ S32x128.size a)
    (e0 : o0 = ![s, 0]) (e1 : o1 = ![s, 16]) (e2 : o2 = ![s, 32]) (e3 : o3 = ![s, 48])
    (e4 : o4 = ![s, 64]) (e5 : o5 = ![s, 80]) (e6 : o6 = ![s, 96]) (e7 : o7 = ![s, 112])
    {w0 w1 w2 w3 w4 w5 w6 w7 : FVec F S1x16 .f32}
    (q0 : w0 = shapeCast S1x16 (piece A 0) shapeCasts_S16_S1x16) (q1 : w1 = shapeCast S1x16 (piece A 1) shapeCasts_S16_S1x16)
    (q2 : w2 = shapeCast S1x16 (piece A 2) shapeCasts_S16_S1x16) (q3 : w3 = shapeCast S1x16 (piece A 3) shapeCasts_S16_S1x16)
    (q4 : w4 = shapeCast S1x16 (piece A 4) shapeCasts_S16_S1x16) (q5 : w5 = shapeCast S1x16 (piece A 5) shapeCasts_S16_S1x16)
    (q6 : w6 = shapeCast S1x16 (piece A 6) shapeCasts_S16_S1x16) (q7 : w7 = shapeCast S1x16 (piece A 7) shapeCasts_S16_S1x16) :
    (Rect.unit (s := S32x128) o7 S1x16.size h7).overlay ((Rect.unit (s := S32x128) o6 S1x16.size h6).overlay
      ((Rect.unit (s := S32x128) o5 S1x16.size h5).overlay ((Rect.unit (s := S32x128) o4 S1x16.size h4).overlay
      ((Rect.unit (s := S32x128) o3 S1x16.size h3).overlay ((Rect.unit (s := S32x128) o2 S1x16.size h2).overlay
      ((Rect.unit (s := S32x128) o1 S1x16.size h1).overlay ((Rect.unit (s := S32x128) o0 S1x16.size h0).overlay O w0) w1) w2) w3) w4) w5) w6) w7
      = setRow O s A := by
  funext j
  have hj : (j 1).val < 128 := (j 1).isLt
  rw [overlay_piece _ A 7 h7 e7 _ q7, overlay_piece _ A 6 h6 e6 _ q6, overlay_piece _ A 5 h5 e5 _ q5, overlay_piece _ A 4 h4 e4 _ q4,
    overlay_piece _ A 3 h3 e3 _ q3, overlay_piece _ A 2 h2 e2 _ q2, overlay_piece _ A 1 h1 e1 _ q1, overlay_piece _ A 0 h0 e0 _ q0]
  unfold setRow
  by_cases hs : (j 0).val = s
  · rw [if_pos hs]
    have v0 : ((0 : Fin 8).val) = 0 := rfl
    have v1 : ((1 : Fin 8).val) = 1 := rfl
    have v2 : ((2 : Fin 8).val) = 2 := rfl
    have v3 : ((3 : Fin 8).val) = 3 := rfl
    have v4 : ((4 : Fin 8).val) = 4 := rfl
    have v5 : ((5 : Fin 8).val) = 5 := rfl
    have v6 : ((6 : Fin 8).val) = 6 := rfl
    have v7 : ((7 : Fin 8).val) = 7 := rfl
    split_ifs <;> first | rfl | (exfalso; omega)
  · rw [if_neg hs]
    simp only [hs, false_and, if_false]

/-! ## The slot's program -/

section

variable {Ix : Type} [DecidableEq Ix] {Name : Type} [DecidableEq Name] {U : Type} [URA U] {Lvl : Type} [Preorder Lvl]
variable {defs : Defs nD τ sig (Elt F) Λ₀}

local notation "𝕄" => MT nD τ sig Ix (Elt F) Name U Lvl

variable (EC : UEmb Counters (MT nD τ sig Ix (Elt F) Name U Lvl)) [EC.LandsIn (upEmb : UEmb _ (MT nD τ sig Ix (Elt F) Name U Lvl))]
variable (𝒱 : Variants) (d : Dev nD) (i : grid1.Coords) (bd : Option 𝒱.V) (ι : Ix)

/-- An assumption of the body that holds. -/
theorem own_assume {P : Prop} {dec : Decidable P} (h : P) {Q : PLift P → sProp 𝕄} :
    Q ⟨h⟩ ⊢ wp frame (wpE defs 𝒱 (VT d i) bd) Set.univ (Prog.lift (TpuEff.assume P dec)) Q := by
  refine BI.Entails.trans ?_ (wp_assume 𝒱 (VT d i) bd Set.univ h)
  rw [wp_ret]
  exact fupd_intro (P := Q ⟨h⟩)

/-- The second of the two loops the count was split into makes no trip. -/
theorem remLoop {a b : BitVec 32} {hok : Scf.OK (Scalar.addi a (Scalar.muli (Scalar.divsi (Scalar.subi b a) 1#32) 1#32)) (Scalar.addi a (Scalar.subi b a)) 1#32}
    {α : Type} {init : α}
    {body : Fin (Scf.trips (Scalar.addi a (Scalar.muli (Scalar.divsi (Scalar.subi b a) 1#32) 1#32)) (Scalar.addi a (Scalar.subi b a)) 1#32) → α
      → Prog (TpuEff nD τ sig (Elt F) Λ₀ (.scVector ((i 0).castLE hcore1) ((i 1).castLE hsub1))) α} {Q : α → sProp 𝕄} :
    Q init ⊢ wp frame (wpE defs 𝒱 (VT d i) bd) Set.univ
      (Scf.for (Scalar.addi a (Scalar.muli (Scalar.divsi (Scalar.subi b a) 1#32) 1#32)) (Scalar.addi a (Scalar.subi b a)) 1#32 hok init body) Q := by
  rw [Scf.for_rem_eq, wp_ret]
  exact fupd_intro (P := Q init)

/-- One fetch under way: it will hand back its source and the destination reading the `n` rows from row `b`. -/
def Fetch {R : ℕ} [NeZero R] {n : ℕ} (src : Memref sig .scVector .hbm ⟨2, ![R, 128]⟩ .f32) (q : PosShare TreeShare)
    (X : (⟨2, ![R, 128]⟩ : Shape).Idx → F .f32) (dst : Memref sig .scVector .vmem ⟨2, ![n, 128]⟩ .f32) (sm : DmaSem sig) (b : ℕ) : sProp 𝕄 :=
  Pend EC (VT d i) (.dma sm) ι dst.view.dmaCredit iprop(owns (VT d i) src q X ∗ owns (VT d i) dst fullShare (win n X b))

/-- A window that has landed, its cell at zero. -/
def Landed {R : ℕ} [NeZero R] {n : ℕ} (src : Memref sig .scVector .hbm ⟨2, ![R, 128]⟩ .f32) (q : PosShare TreeShare)
    (X : (⟨2, ![R, 128]⟩ : Shape).Idx → F .f32) (dst : Memref sig .scVector .vmem ⟨2, ![n, 128]⟩ .f32) (sm : DmaSem sig) (Y : (⟨2, ![n, 128]⟩ : Shape).Idx → F .f32) : sProp 𝕄 :=
  iprop(owns (VT d i) src q X ∗ owns (VT d i) dst fullShare Y ∗ semVal (VT d i, .dma sm) 0)

/-- Issuing a fetch of the `n` rows from row `b`. -/
theorem own_fetch_win [Infinite Name] {R : ℕ} [NeZero R] {n : ℕ} (hn : 0 < n) {src : Memref sig .scVector .hbm ⟨2, ![R, 128]⟩ .f32} {q : PosShare TreeShare}
    {X : (⟨2, ![R, 128]⟩ : Shape).Idx → F .f32} {dst : Memref sig .scVector .vmem ⟨2, ![n, 128]⟩ .f32} {sm : DmaSem sig} {Y : (⟨2, ![n, 128]⟩ : Shape).Idx → F .f32}
    {b : ℕ} (hb : b + n ≤ R) {o : Fin 2 → ℕ} {h : ∀ a, o a + (⟨2, ![n, 128]⟩ : Shape).size a ≤ (⟨2, ![R, 128]⟩ : Shape).size a} (ho : o = ![b, 0])
    {hr : ∀ a, (Rect.unit (s := ⟨2, ![R, 128]⟩) o (⟨2, ![n, 128]⟩ : Shape).size h).stride a = 1}
    {hsrc : (src.slice (Rect.unit (s := ⟨2, ![R, 128]⟩) o (⟨2, ![n, 128]⟩ : Shape).size h) hr).view.WordExact} {hdst : dst.view.WordExact}
    {hsem : DmaTarget.Typed (nD := nD) (τ := τ) (sig := sig) (p := (VT d i).2) .hbm (.dma sm) (.here dst)} {Q : PUnit → sProp 𝕄} :
    (Landed d i src q X dst sm Y : sProp 𝕄)
      ⊢ iprop((Fetch EC d i ι src q X dst sm b -∗ Q ⟨⟩)
        -∗ wp frame (wpE defs 𝒱 (VT d i) bd) Set.univ
          (Prog.lift (.enqueueDma (src.slice (Rect.unit (s := ⟨2, ![R, 128]⟩) o (⟨2, ![n, 128]⟩ : Shape).size h) hr) (.here dst) (.dma sm) hsrc hdst hsem)) Q) := by
  unfold Landed Fetch
  rw [← win_eq X hb h ho]
  exact own_fetch EC 𝒱 (VT d i) bd (m := src) (r := Rect.unit (s := ⟨2, ![R, 128]⟩) o (⟨2, ![n, 128]⟩ : Shape).size h) (hr := hr) (dst := dst) (sm := .dma sm) ι dst.view.dmaCredit rfl
    (View.dmaCredit_pos _ (by show 0 < ∏ a : Fin 2, _; rw [Fin.prod_univ_two]; show 0 < n * 128; omega))

/-- The three windows of one parity before slot `n`: on their way while that slot exists, at rest afterwards. -/
def Side (s3 : Memref sig .scVector .hbm S20000x128 .f32) (s2 : Memref sig .scVector .hbm S319600x128 .f32) (q3 q2 q2' : PosShare TreeShare)
    (C : S20000x128.Idx → F .f32) (N : S319600x128.Idx → F .f32) (b0 : Memref sig .scVector .vmem S64x128 .f32) (b1 b2 : Memref sig .scVector .vmem S16x128 .f32)
    (c0 c1 c2 : DmaSem sig) (M : S25x16.Idx → BitVec 32) (n : ℕ) : sProp 𝕄 :=
  if n < 25 then
    iprop(Fetch EC d i ι s3 q3 C b0 c0 (mrow M n 0).toNat ∗ Fetch EC d i ι s2 q2 N b1 c1 (mrow M n 3).toNat
      ∗ Fetch EC d i ι s2 q2' N b2 c2 (mrow M n 6).toNat)
  else iprop(∃ Y0 Y1 Y2, Landed d i s3 q3 C b0 c0 Y0 ∗ Landed d i s2 q2 N b1 c1 Y1 ∗ Landed d i s2 q2' N b2 c2 Y2)

variable (arg2 : Memref sig .scVector .hbm S319600x128 .f32) (harg2 : arg2.IsWhole) (arg3 : Memref sig .scVector .hbm S20000x128 .f32) (harg3 : arg3.IsWhole)
  (arg4 : Memref sig .scVector .hbm S32x25x16 .i32) (harg4 : arg4.IsWhole) (arg5 : Memref sig .scVector .hbm S32x32x128 .f32) (harg5 : arg5.IsWhole)
  (arg6 : Memref sig .scVector .vmem S25x16 .i32) (harg6 : arg6.IsWhole) (arg7 : Memref sig .scVector .vmem S32x128 .f32) (harg7 : arg7.IsWhole)
  (arg8 : Memref sig .scVector .vmem S64x128 .f32) (harg8 : arg8.IsWhole) (arg9 : Memref sig .scVector .vmem S64x128 .f32) (harg9 : arg9.IsWhole)
  (arg10 : Memref sig .scVector .vmem S16x128 .f32) (harg10 : arg10.IsWhole) (arg11 : Memref sig .scVector .vmem S16x128 .f32) (harg11 : arg11.IsWhole)
  (arg12 : Memref sig .scVector .vmem S16x128 .f32) (harg12 : arg12.IsWhole) (arg13 : Memref sig .scVector .vmem S16x128 .f32) (harg13 : arg13.IsWhole)
  (arg14 arg15 arg16 arg17 arg18 arg19 arg20 v47_r0 : DmaSems sig S_)
variable {M : S25x16.Idx → BitVec 32} {N : S319600x128.Idx → F .f32} {C : S20000x128.Idx → F .f32} {O : CellTallies nD τ sig Ix} {W : Waits sig Ix}
variable {q3 q2 q2' : PosShare TreeShare} {v48 : BitVec 32}

/-- Even slots, first part: the three waits, then the rows of chunk sums. -/
theorem even_first (t : Fin k1_t1_loop.trips) (h : k1_cond1 t = 1#1) (hM : RowOK (mrow M t.val))
    {Q : (Σ' (v83 : IVec S16 32) (v102_0 : FVec F S16 .f32) (v102_1 : FVec F S16 .f32) (v102_2 : FVec F S16 .f32) (v102_3 : FVec F S16 .f32) (v102_4 : FVec F S16 .f32) (v102_5 : FVec F S16 .f32) (v102_6 : FVec F S16 .f32) (v102_7 : FVec F S16 .f32) (v104 : BitVec 32), BitVec 32) → sProp 𝕄} :
    iprop(Transfers.MayWaits (VT d i) ι O ∗ owns (VT d i) arg6 fullShare M
        ∗ Fetch EC d i ι arg3 q3 C arg8 arg14.sem (mrow M t.val 0).toNat ∗ Fetch EC d i ι arg2 q2 N arg10 arg16.sem (mrow M t.val 3).toNat
        ∗ Fetch EC d i ι arg2 q2' N arg12 arg18.sem (mrow M t.val 6).toNat ∗ owes (VT d i) O W)
      ⊢ iprop((∀ v83 : IVec S16 32, ⌜extractAt ![0] (k1_pay63 v83) inpos_S1_p0 = mrow M t.val 7 ∧ extractAt ![0] (k1_pay64 v83) inpos_S1_p0 = mrow M t.val 8⌝
          -∗ owns (VT d i) arg6 fullShare M
          -∗ Landed d i arg3 q3 C arg8 arg14.sem (win 64 C (mrow M t.val 0).toNat)
          -∗ Landed d i arg2 q2 N arg10 arg16.sem (win 16 N (mrow M t.val 3).toNat)
          -∗ Landed d i arg2 q2' N arg12 arg18.sem (win 16 N (mrow M t.val 6).toNat)
          -∗ (∃ W', owes (VT d i) O W')
          -∗ Q ⟨v83, piece (acc1 C (mrow M t.val)) 0, piece (acc1 C (mrow M t.val)) 1, piece (acc1 C (mrow M t.val)) 2, piece (acc1 C (mrow M t.val)) 3,
            piece (acc1 C (mrow M t.val)) 4, piece (acc1 C (mrow M t.val)) 5, piece (acc1 C (mrow M t.val)) 6, piece (acc1 C (mrow M t.val)) 7,
            mrow M t.val 4, mrow M t.val 5⟩)
        -∗ wp frame (wpE defs 𝒱 (VT d i) bd) Set.univ (k1_part1 i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 v47_r0 t v48 h) Q) := by
  have ht : t.val < 25 := lt_of_lt_of_eq t.isLt trips_main
  obtain ⟨_, _, _, _, _, _, h12, h2, _, _, _, _⟩ := hM
  unfold acc1
  rw [k1_part1_eq_skeleton]
  unfold k1_part1_skel
  simp only [wp_bind]
  iintro ⟨#Hmw, HM, H0, H1, H2, HO⟩ HQ
  unfold Fetch
  iapply (own_wait EC 𝒱 (VT d i) bd ι rfl) $$ [H0 HO]
  · isplitr; · iexact Hmw
    isplitl [H0] <;> iassumption
  iintro ⟨⟨Hs0, Hd0⟩, Hv0, ⟨%W1, HO⟩⟩
  iapply (own_wait EC 𝒱 (VT d i) bd ι rfl) $$ [H1 HO]
  · isplitr; · iexact Hmw
    isplitl [H1] <;> iassumption
  iintro ⟨⟨Hs1, Hd1⟩, Hv1, ⟨%W2, HO⟩⟩
  iapply (own_wait EC 𝒱 (VT d i) bd ι rfl) $$ [H2 HO]
  · isplitr; · iexact Hmw
    isplitl [H2] <;> iassumption
  iintro ⟨⟨Hs2, Hd2⟩, Hv2, ⟨%W3, HO⟩⟩
  iapply (own_load 𝒱 (VT d i) bd) $$ HM; iintro HM
  obtain ⟨v82, hv⟩ : ∃ v, (fun j => M ((Rect.unit (s := S25x16) (k1_off8 t) S1x16.size (k1_off8_inb t h)).emb j)) = v := ⟨_, rfl⟩
  rw [hv]
  have hw : ∀ k : Fin 16, v82 (ix2 0 k) = mrow M t.val k := fun k => by rw [← hv]; exact word_mrow M ht (k1_off8_inb t h) (k1_off8_eq t) k
  have w1 : extractAt ![0] (k1_pay27 (F := F) v82) inpos_S1_p0 = mrow M t.val 1 := (word_at v82 1 (by omega) shapeCasts_S1x16_S16 slices_S16_o1_S1 inpos_S1_p0).trans (hw 1)
  have w2 : extractAt ![0] (k1_pay28 (F := F) v82) inpos_S1_p0 = mrow M t.val 2 := (word_at v82 2 (by omega) shapeCasts_S1x16_S16 slices_S16_o2_S1 inpos_S1_p0).trans (hw 2)
  have w4 : extractAt ![0] (k1_pay45 (F := F) v82) inpos_S1_p0 = mrow M t.val 4 := (word_at v82 4 (by omega) shapeCasts_S1x16_S16 slices_S16_o4_S1 inpos_S1_p0).trans (hw 4)
  have w5 : extractAt ![0] (k1_pay46 (F := F) v82) inpos_S1_p0 = mrow M t.val 5 := (word_at v82 5 (by omega) shapeCasts_S1x16_S16 slices_S16_o5_S1 inpos_S1_p0).trans (hw 5)
  have w7 : extractAt ![0] (k1_pay63 (k1_pay18 (F := F) v82)) inpos_S1_p0 = mrow M t.val 7 := (word_at v82 7 (by omega) shapeCasts_S1x16_S16 slices_S16_o7_S1 inpos_S1_p0).trans (hw 7)
  have w8 : extractAt ![0] (k1_pay64 (k1_pay18 (F := F) v82)) inpos_S1_p0 = mrow M t.val 8 := (word_at v82 8 (by omega) shapeCasts_S1x16_S16 slices_S16_o8_S1 inpos_S1_p0).trans (hw 8)
  rw [← w1, ← w2] at h12
  rw [← w2] at h2
  iapply (own_assume 𝒱 d i bd (chk7_of t h12 h2))
  iapply (accLoop 𝒱 d i bd h12 (by omega) zeroLanes fun n B hn => accStep 𝒱 d i bd _ (by omega) _ _ _ _ _ _ _ _
    (off_row (by omega) hn rfl) (off_row (by omega) hn rfl) (off_row (by omega) hn rfl) (off_row (by omega) hn rfl)
    (off_row (by omega) hn rfl) (off_row (by omega) hn rfl) (off_row (by omega) hn rfl) (off_row (by omega) hn rfl) B) $$ Hd0
  iintro Hd0
  iapply (remLoop 𝒱 d i bd)
  rw [wp_pure]
  imodintro
  rw [w1, w2, w4, w5]
  iapply HQ $$ %(k1_pay18 (F := F) v82) [] [HM] [Hs0 Hd0 Hv0] [Hs1 Hd1 Hv1] [Hs2 Hd2 Hv2] [HO]
  · ipureintro; exact ⟨w7, w8⟩
  · iexact HM
  · unfold Landed
    isplitl [Hs0]; · iexact Hs0
    isplitl [Hd0] <;> iassumption
  · unfold Landed
    isplitl [Hs1]; · iexact Hs1
    isplitl [Hd1] <;> iassumption
  · unfold Landed
    isplitl [Hs2]; · iexact Hs2
    isplitl [Hd2] <;> iassumption
  · iexists _; iexact HO

/-- Even slots, second part: the rows of the head and of the tail window, and the first five of the eight stores. -/
theorem even_second (t : Fin k1_t1_loop.trips) (h : k1_cond1 t = 1#1) (hM : RowOK (mrow M t.val)) (A : Fin 128 → F .f32) {v83 : IVec S16 32}
    (w7 : extractAt ![0] (k1_pay63 v83) inpos_S1_p0 = mrow M t.val 7) (w8 : extractAt ![0] (k1_pay64 v83) inpos_S1_p0 = mrow M t.val 8)
    {X : S32x128.Idx → F .f32} {Q : (Σ' (v124_5 : FVec F S16 .f32) (v124_6 : FVec F S16 .f32), FVec F S16 .f32) → sProp 𝕄} :
    iprop(owns (VT d i) arg7 fullShare X ∗ owns (VT d i) arg10 fullShare (win 16 N (mrow M t.val 3).toNat) ∗ owns (VT d i) arg12 fullShare (win 16 N (mrow M t.val 6).toNat))
      ⊢ iprop((owns (VT d i) arg7 fullShare
              ((Rect.unit (s := S32x128) (k1_off61 t) S1x16.size (k1_off61_inb t h)).overlay ((Rect.unit (s := S32x128) (k1_off60 t) S1x16.size (k1_off60_inb t h)).overlay
                ((Rect.unit (s := S32x128) (k1_off59 t) S1x16.size (k1_off59_inb t h)).overlay ((Rect.unit (s := S32x128) (k1_off58 t) S1x16.size (k1_off58_inb t h)).overlay
                ((Rect.unit (s := S32x128) (k1_off57 t) S1x16.size (k1_off57_inb t h)).overlay X
                  (k1_pay81 (piece (acc3 N (mrow M t.val) (acc2 N (mrow M t.val) A)) 0))) (k1_pay82 (piece (acc3 N (mrow M t.val) (acc2 N (mrow M t.val) A)) 1)))
                  (k1_pay83 (piece (acc3 N (mrow M t.val) (acc2 N (mrow M t.val) A)) 2))) (k1_pay84 (piece (acc3 N (mrow M t.val) (acc2 N (mrow M t.val) A)) 3)))
                  (k1_pay85 (piece (acc3 N (mrow M t.val) (acc2 N (mrow M t.val) A)) 4)))
          -∗ owns (VT d i) arg10 fullShare (win 16 N (mrow M t.val 3).toNat) -∗ owns (VT d i) arg12 fullShare (win 16 N (mrow M t.val 6).toNat)
          -∗ Q ⟨piece (acc3 N (mrow M t.val) (acc2 N (mrow M t.val) A)) 5, piece (acc3 N (mrow M t.val) (acc2 N (mrow M t.val) A)) 6, piece (acc3 N (mrow M t.val) (acc2 N (mrow M t.val) A)) 7⟩)
        -∗ wp frame (wpE defs 𝒱 (VT d i) bd) Set.univ (k1_part2 i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 v47_r0 t v48 h v83 (piece A 0) (piece A 1) (piece A 2) (piece A 3) (piece A 4) (piece A 5) (piece A 6) (piece A 7)
          (mrow M t.val 4) (mrow M t.val 5)) Q) := by
  obtain ⟨_, _, _, _, _, _, _, _, h45, h5, h78, h8⟩ := hM
  unfold acc2 acc3
  rw [k1_part2_eq_skeleton]
  unfold k1_part2_skel
  simp only [wp_bind]
  iintro ⟨HX, H1, H2⟩ HQ
  iapply (own_assume 𝒱 d i bd (chk8_of t h45 h5))
  iapply (accLoop 𝒱 d i bd h45 (by omega) A fun n B hn => accStep 𝒱 d i bd _ (by omega) _ _ _ _ _ _ _ _
    (off_row (by omega) hn rfl) (off_row (by omega) hn rfl) (off_row (by omega) hn rfl) (off_row (by omega) hn rfl)
    (off_row (by omega) hn rfl) (off_row (by omega) hn rfl) (off_row (by omega) hn rfl) (off_row (by omega) hn rfl) B) $$ H1
  iintro H1
  iapply (remLoop 𝒱 d i bd)
  rw [← w7, ← w8] at h78
  rw [← w8] at h8
  iapply (own_assume 𝒱 d i bd (chk9_of t h78 h8))
  iapply (accLoop 𝒱 d i bd h78 (by omega) (accRows (win 16 N (mrow M t.val 3).toNat) (mrow M t.val 4).toNat A ((mrow M t.val 5).toNat - (mrow M t.val 4).toNat))
    fun n B hn => accStep 𝒱 d i bd _ (by omega) _ _ _ _ _ _ _ _
    (off_row (by omega) hn rfl) (off_row (by omega) hn rfl) (off_row (by omega) hn rfl) (off_row (by omega) hn rfl)
    (off_row (by omega) hn rfl) (off_row (by omega) hn rfl) (off_row (by omega) hn rfl) (off_row (by omega) hn rfl) B) $$ H2
  iintro H2
  iapply (remLoop 𝒱 d i bd)
  iapply (own_load 𝒱 (VT d i) bd) $$ HX; iintro HX
  iapply (own_store 𝒱 (VT d i) bd) $$ HX; iintro HX
  iapply (own_load 𝒱 (VT d i) bd) $$ HX; iintro HX
  iapply (own_store 𝒱 (VT d i) bd) $$ HX; iintro HX
  iapply (own_load 𝒱 (VT d i) bd) $$ HX; iintro HX
  iapply (own_store 𝒱 (VT d i) bd) $$ HX; iintro HX
  iapply (own_load 𝒱 (VT d i) bd) $$ HX; iintro HX
  iapply (own_store 𝒱 (VT d i) bd) $$ HX; iintro HX
  iapply (own_load 𝒱 (VT d i) bd) $$ HX; iintro HX
  iapply (own_store 𝒱 (VT d i) bd) $$ HX; iintro HX
  iapply (own_load 𝒱 (VT d i) bd) $$ HX; iintro HX
  rw [wp_pure]
  imodintro
  rw [w7, w8]
  iapply HQ $$ HX H1 H2

/-- A trip at an even slot: it writes the slot's row and, while a slot two later exists, fetches that slot's windows. -/
theorem even_trip [Infinite Name] (t : Fin k1_t1_loop.trips) (h : t.val % 2 = 0) (hM : ∀ n < 25, RowOK (mrow M n)) {X : S32x128.Idx → F .f32} {Q : Unit → sProp 𝕄} :
    iprop(Transfers.MayWaits (VT d i) ι O ∗ owns (VT d i) arg6 fullShare M ∗ owns (VT d i) arg7 fullShare X
        ∗ Side EC d i ι arg3 arg2 q3 q2 q2' C N arg8 arg10 arg12 arg14.sem arg16.sem arg18.sem M t.val ∗ owes (VT d i) O W)
      ⊢ iprop((owns (VT d i) arg6 fullShare M -∗ owns (VT d i) arg7 fullShare (setRow X t.val (outRow N C (mrow M t.val)))
          -∗ Side EC d i ι arg3 arg2 q3 q2 q2' C N arg8 arg10 arg12 arg14.sem arg16.sem arg18.sem M (t.val + 2)
          -∗ (∃ W', owes (VT d i) O W') -∗ Q ⟨⟩)
        -∗ wp frame (wpE defs 𝒱 (VT d i) bd) Set.univ (k1_t1_body i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 v47_r0 t ⟨⟩) Q) := by
  have ht : t.val < 25 := lt_of_lt_of_eq t.isLt trips_main
  have hc : k1_cond1 t = 1#1 := (cond1_iff t).2 h
  have hn : ¬ k1_cond3 t = 1#1 := fun hh => by have := (cond3_iff t).1 hh; omega
  have hside : (Side EC d i ι arg3 arg2 q3 q2 q2' C N arg8 arg10 arg12 arg14.sem arg16.sem arg18.sem M t.val : sProp 𝕄)
      = iprop(Fetch EC d i ι arg3 q3 C arg8 arg14.sem (mrow M t.val 0).toNat ∗ Fetch EC d i ι arg2 q2 N arg10 arg16.sem (mrow M t.val 3).toNat
        ∗ Fetch EC d i ι arg2 q2' N arg12 arg18.sem (mrow M t.val 6).toNat) := if_pos ht
  rw [hside]
  unfold k1_t1_body outRow
  simp only [dif_pos hc, dif_neg hn, wp_bind]
  iintro ⟨#Hmw, HM, HX, ⟨H0, H1, H2⟩, HO⟩ HQ
  iapply (even_first EC 𝒱 d i bd ι (O := O) (W := W) (N := N) (C := C) (h := hc) (hM := hM t.val ht)) $$ [HM H0 H1 H2 HO]
  · isplitr; · iexact Hmw
    isplitl [HM]; · iexact HM
    isplitl [H0]; · iexact H0
    isplitl [H1]; · iexact H1
    isplitl [H2] <;> iassumption
  iintro %v83 %hw HM H0 H1 H2 ⟨%W1, HO⟩
  unfold Landed
  icases H0 with ⟨Hs0, Hd0, Hv0⟩
  icases H1 with ⟨Hs1, Hd1, Hv1⟩
  icases H2 with ⟨Hs2, Hd2, Hv2⟩
  iapply (even_second 𝒱 d i bd (N := N) (h := hc) (hM := hM t.val ht) (w7 := hw.1) (w8 := hw.2)) $$ [HX Hd1 Hd2]
  · isplitl [HX]; · iexact HX
    isplitl [Hd1] <;> iassumption
  iintro HX Hd1 Hd2
  iapply (own_store 𝒱 (VT d i) bd) $$ HX; iintro HX
  iapply (own_load 𝒱 (VT d i) bd) $$ HX; iintro HX
  iapply (own_store 𝒱 (VT d i) bd) $$ HX; iintro HX
  iapply (own_load 𝒱 (VT d i) bd) $$ HX; iintro HX
  iapply (own_store 𝒱 (VT d i) bd) $$ HX; iintro HX
  rw [overlay_row X (acc3 N (mrow M t.val) (acc2 N (mrow M t.val) (acc1 C (mrow M t.val)))) (k1_off57_inb t hc) (k1_off58_inb t hc) (k1_off59_inb t hc) (k1_off60_inb t hc)
    (k1_off61_inb t hc) (k1_off62_inb t hc) (k1_off63_inb t hc) (k1_off64_inb t hc)
    (k1_off57_eq t) (k1_off58_eq t) (k1_off59_eq t) (k1_off60_eq t) (k1_off61_eq t) (k1_off62_eq t) (k1_off63_eq t) (k1_off64_eq t)
    (show k1_pay81 (F := F) (piece (acc3 N (mrow M t.val) (acc2 N (mrow M t.val) (acc1 C (mrow M t.val)))) 0) = _ from rfl)
    (show k1_pay82 (F := F) (piece (acc3 N (mrow M t.val) (acc2 N (mrow M t.val) (acc1 C (mrow M t.val)))) 1) = _ from rfl)
    (show k1_pay83 (F := F) (piece (acc3 N (mrow M t.val) (acc2 N (mrow M t.val) (acc1 C (mrow M t.val)))) 2) = _ from rfl)
    (show k1_pay84 (F := F) (piece (acc3 N (mrow M t.val) (acc2 N (mrow M t.val) (acc1 C (mrow M t.val)))) 3) = _ from rfl)
    (show k1_pay85 (F := F) (piece (acc3 N (mrow M t.val) (acc2 N (mrow M t.val) (acc1 C (mrow M t.val)))) 4) = _ from rfl)
    (show k1_pay4 (F := F) (piece (acc3 N (mrow M t.val) (acc2 N (mrow M t.val) (acc1 C (mrow M t.val)))) 5) = _ from rfl)
    (show k1_pay5 (F := F) (piece (acc3 N (mrow M t.val) (acc2 N (mrow M t.val) (acc1 C (mrow M t.val)))) 6) = _ from rfl)
    (show k1_pay6 (F := F) (piece (acc3 N (mrow M t.val) (acc2 N (mrow M t.val) (acc1 C (mrow M t.val)))) 7) = _ from rfl)]
  by_cases h2 : k1_cond2 t = 1#1
  · have ht2 : t.val + 2 < 25 := (cond2_iff t).1 h2
    have hside2 : (Side EC d i ι arg3 arg2 q3 q2 q2' C N arg8 arg10 arg12 arg14.sem arg16.sem arg18.sem M (t.val + 2) : sProp 𝕄)
      = iprop(Fetch EC d i ι arg3 q3 C arg8 arg14.sem (mrow M (t.val + 2) 0).toNat ∗ Fetch EC d i ι arg2 q2 N arg10 arg16.sem (mrow M (t.val + 2) 3).toNat
        ∗ Fetch EC d i ι arg2 q2' N arg12 arg18.sem (mrow M (t.val + 2) 6).toNat) := if_pos ht2
    rw [hside2]
    simp only [dif_pos h2, wp_bind]
    obtain ⟨d0, b0, d3, b3, d6, b6, _, _, _, _, _, _⟩ := hM (t.val + 2) ht2
    iapply (own_load 𝒱 (VT d i) bd) $$ HM; iintro HM
    obtain ⟨v82, hv⟩ : ∃ v, (fun j => M ((Rect.unit (s := S25x16) (k1_off65 t) S1x16.size (k1_off65_inb t hc h2)).emb j)) = v := ⟨_, rfl⟩
    rw [hv]
    have hw : ∀ k : Fin 16, v82 (ix2 0 k) = mrow M (t.val + 2) k := fun k => by rw [← hv]; exact word_mrow M ht2 (k1_off65_inb t hc h2) (k1_off65_eq t) k
    have w0 : extractAt ![0] (k1_pay8 (F := F) v82) inpos_S1_p0 = mrow M (t.val + 2) 0 := (word_at v82 0 (by omega) shapeCasts_S1x16_S16 slices_S16_o0_S1 inpos_S1_p0).trans (hw 0)
    have w3 : extractAt ![0] (k1_pay9 (F := F) v82) inpos_S1_p0 = mrow M (t.val + 2) 3 := (word_at v82 3 (by omega) shapeCasts_S1x16_S16 slices_S16_o3_S1 inpos_S1_p0).trans (hw 3)
    have w6 : extractAt ![0] (k1_pay10 (F := F) v82) inpos_S1_p0 = mrow M (t.val + 2) 6 := (word_at v82 6 (by omega) shapeCasts_S1x16_S16 slices_S16_o6_S1 inpos_S1_p0).trans (hw 6)
    rw [← w0] at d0 b0
    rw [← w3] at d3 b3
    rw [← w6] at d6 b6
    rw [← w0, ← w3, ← w6]
    iapply (own_assume 𝒱 d i bd (chk10_of t d0 b0))
    iapply (own_assume 𝒱 d i bd (chk11_of t d3 b3))
    iapply (own_assume 𝒱 d i bd (chk12_of t d6 b6))
    iapply (own_fetch_win EC 𝒱 d i bd ι (by omega) (src := arg3) (q := q3) (X := C) (dst := arg8) b0 rfl) $$ [Hs0 Hd0 Hv0]
    · unfold Landed
      isplitl [Hs0]; · iexact Hs0
      isplitl [Hd0] <;> iassumption
    iintro H0
    iapply (own_fetch_win EC 𝒱 d i bd ι (by omega) (src := arg2) (q := q2) (X := N) (dst := arg10) b3 rfl) $$ [Hs1 Hd1 Hv1]
    · unfold Landed
      isplitl [Hs1]; · iexact Hs1
      isplitl [Hd1] <;> iassumption
    iintro H1
    iapply (own_fetch_win EC 𝒱 d i bd ι (by omega) (src := arg2) (q := q2') (X := N) (dst := arg12) b6 rfl) $$ [Hs2 Hd2 Hv2]
    · unfold Landed
      isplitl [Hs2]; · iexact Hs2
      isplitl [Hd2] <;> iassumption
    iintro H2
    simp only [wp_pure]
    imodintro
    iapply HQ $$ HM HX [H0 H1 H2] [HO]
    · isplitl [H0]; · iexact H0
      isplitl [H1] <;> iassumption
    · iexists _; iexact HO
  · have ht2 : ¬ t.val + 2 < 25 := fun hh => h2 ((cond2_iff t).2 hh)
    have hside2 : (Side EC d i ι arg3 arg2 q3 q2 q2' C N arg8 arg10 arg12 arg14.sem arg16.sem arg18.sem M (t.val + 2) : sProp 𝕄)
      = iprop(∃ Y0 Y1 Y2, Landed d i arg3 q3 C arg8 arg14.sem Y0 ∗ Landed d i arg2 q2 N arg10 arg16.sem Y1 ∗ Landed d i arg2 q2' N arg12 arg18.sem Y2) := if_neg ht2
    rw [hside2]
    simp only [dif_neg h2]
    simp only [wp_pure]
    imodintro
    iapply HQ $$ HM HX [Hs0 Hd0 Hv0 Hs1 Hd1 Hv1 Hs2 Hd2 Hv2] [HO]
    · unfold Landed
      iexists _, _, _
      isplitl [Hs0 Hd0 Hv0]
      · isplitl [Hs0]; · iexact Hs0
        isplitl [Hd0] <;> iassumption
      isplitl [Hs1 Hd1 Hv1]
      · isplitl [Hs1]; · iexact Hs1
        isplitl [Hd1] <;> iassumption
      · isplitl [Hs2]; · iexact Hs2
        isplitl [Hd2] <;> iassumption
    · iexists _; iexact HO

/-- Odd slots, first part: the three waits, then the rows of chunk sums. -/
theorem odd_first (t : Fin k1_t1_loop.trips) (h : k1_cond3 t = 1#1) (hM : RowOK (mrow M t.val))
    {Q : (Σ' (v83 : IVec S16 32) (v102_0 : FVec F S16 .f32) (v102_1 : FVec F S16 .f32) (v102_2 : FVec F S16 .f32) (v102_3 : FVec F S16 .f32) (v102_4 : FVec F S16 .f32) (v102_5 : FVec F S16 .f32) (v102_6 : FVec F S16 .f32) (v102_7 : FVec F S16 .f32) (v104 : BitVec 32), BitVec 32) → sProp 𝕄} :
    iprop(Transfers.MayWaits (VT d i) ι O ∗ owns (VT d i) arg6 fullShare M
        ∗ Fetch EC d i ι arg3 q3 C arg9 arg15.sem (mrow M t.val 0).toNat ∗ Fetch EC d i ι arg2 q2 N arg11 arg17.sem (mrow M t.val 3).toNat
        ∗ Fetch EC d i ι arg2 q2' N arg13 arg19.sem (mrow M t.val 6).toNat ∗ owes (VT d i) O W)
      ⊢ iprop((∀ v83 : IVec S16 32, ⌜extractAt ![0] (k1_pay131 v83) inpos_S1_p0 = mrow M t.val 7 ∧ extractAt ![0] (k1_pay132 v83) inpos_S1_p0 = mrow M t.val 8⌝
          -∗ owns (VT d i) arg6 fullShare M
          -∗ Landed d i arg3 q3 C arg9 arg15.sem (win 64 C (mrow M t.val 0).toNat)
          -∗ Landed d i arg2 q2 N arg11 arg17.sem (win 16 N (mrow M t.val 3).toNat)
          -∗ Landed d i arg2 q2' N arg13 arg19.sem (win 16 N (mrow M t.val 6).toNat)
          -∗ (∃ W', owes (VT d i) O W')
          -∗ Q ⟨v83, piece (acc1 C (mrow M t.val)) 0, piece (acc1 C (mrow M t.val)) 1, piece (acc1 C (mrow M t.val)) 2, piece (acc1 C (mrow M t.val)) 3,
            piece (acc1 C (mrow M t.val)) 4, piece (acc1 C (mrow M t.val)) 5, piece (acc1 C (mrow M t.val)) 6, piece (acc1 C (mrow M t.val)) 7,
            mrow M t.val 4, mrow M t.val 5⟩)
        -∗ wp frame (wpE defs 𝒱 (VT d i) bd) Set.univ (k1_part3 i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 v47_r0 t v48 h) Q) := by
  have ht : t.val < 25 := lt_of_lt_of_eq t.isLt trips_main
  obtain ⟨_, _, _, _, _, _, h12, h2, _, _, _, _⟩ := hM
  unfold acc1
  rw [k1_part3_eq_skeleton]
  unfold k1_part3_skel
  simp only [wp_bind]
  iintro ⟨#Hmw, HM, H0, H1, H2, HO⟩ HQ
  unfold Fetch
  iapply (own_wait EC 𝒱 (VT d i) bd ι rfl) $$ [H0 HO]
  · isplitr; · iexact Hmw
    isplitl [H0] <;> iassumption
  iintro ⟨⟨Hs0, Hd0⟩, Hv0, ⟨%W1, HO⟩⟩
  iapply (own_wait EC 𝒱 (VT d i) bd ι rfl) $$ [H1 HO]
  · isplitr; · iexact Hmw
    isplitl [H1] <;> iassumption
  iintro ⟨⟨Hs1, Hd1⟩, Hv1, ⟨%W2, HO⟩⟩
  iapply (own_wait EC 𝒱 (VT d i) bd ι rfl) $$ [H2 HO]
  · isplitr; · iexact Hmw
    isplitl [H2] <;> iassumption
  iintro ⟨⟨Hs2, Hd2⟩, Hv2, ⟨%W3, HO⟩⟩
  iapply (own_load 𝒱 (VT d i) bd) $$ HM; iintro HM
  obtain ⟨v82, hv⟩ : ∃ v, (fun j => M ((Rect.unit (s := S25x16) (k1_off69 t) S1x16.size (k1_off69_inb t h)).emb j)) = v := ⟨_, rfl⟩
  rw [hv]
  have hw : ∀ k : Fin 16, v82 (ix2 0 k) = mrow M t.val k := fun k => by rw [← hv]; exact word_mrow M ht (k1_off69_inb t h) (k1_off69_eq t) k
  have w1 : extractAt ![0] (k1_pay95 (F := F) v82) inpos_S1_p0 = mrow M t.val 1 := (word_at v82 1 (by omega) shapeCasts_S1x16_S16 slices_S16_o1_S1 inpos_S1_p0).trans (hw 1)
  have w2 : extractAt ![0] (k1_pay96 (F := F) v82) inpos_S1_p0 = mrow M t.val 2 := (word_at v82 2 (by omega) shapeCasts_S1x16_S16 slices_S16_o2_S1 inpos_S1_p0).trans (hw 2)
  have w4 : extractAt ![0] (k1_pay113 (F := F) v82) inpos_S1_p0 = mrow M t.val 4 := (word_at v82 4 (by omega) shapeCasts_S1x16_S16 slices_S16_o4_S1 inpos_S1_p0).trans (hw 4)
  have w5 : extractAt ![0] (k1_pay114 (F := F) v82) inpos_S1_p0 = mrow M t.val 5 := (word_at v82 5 (by omega) shapeCasts_S1x16_S16 slices_S16_o5_S1 inpos_S1_p0).trans (hw 5)
  have w7 : extractAt ![0] (k1_pay131 (k1_pay86 (F := F) v82)) inpos_S1_p0 = mrow M t.val 7 := (word_at v82 7 (by omega) shapeCasts_S1x16_S16 slices_S16_o7_S1 inpos_S1_p0).trans (hw 7)
  have w8 : extractAt ![0] (k1_pay132 (k1_pay86 (F := F) v82)) inpos_S1_p0 = mrow M t.val 8 := (word_at v82 8 (by omega) shapeCasts_S1x16_S16 slices_S16_o8_S1 inpos_S1_p0).trans (hw 8)
  rw [← w1, ← w2] at h12
  rw [← w2] at h2
  iapply (own_assume 𝒱 d i bd (chk13_of t h12 h2))
  iapply (accLoop 𝒱 d i bd h12 (by omega) zeroLanes fun n B hn => accStep 𝒱 d i bd _ (by omega) _ _ _ _ _ _ _ _
    (off_row (by omega) hn rfl) (off_row (by omega) hn rfl) (off_row (by omega) hn rfl) (off_row (by omega) hn rfl)
    (off_row (by omega) hn rfl) (off_row (by omega) hn rfl) (off_row (by omega) hn rfl) (off_row (by omega) hn rfl) B) $$ Hd0
  iintro Hd0
  iapply (remLoop 𝒱 d i bd)
  rw [wp_pure]
  imodintro
  rw [w1, w2, w4, w5]
  iapply HQ $$ %(k1_pay86 (F := F) v82) [] [HM] [Hs0 Hd0 Hv0] [Hs1 Hd1 Hv1] [Hs2 Hd2 Hv2] [HO]
  · ipureintro; exact ⟨w7, w8⟩
  · iexact HM
  · unfold Landed
    isplitl [Hs0]; · iexact Hs0
    isplitl [Hd0] <;> iassumption
  · unfold Landed
    isplitl [Hs1]; · iexact Hs1
    isplitl [Hd1] <;> iassumption
  · unfold Landed
    isplitl [Hs2]; · iexact Hs2
    isplitl [Hd2] <;> iassumption
  · iexists _; iexact HO

/-- Odd slots, second part: the rows of the head and of the tail window, and the first five of the eight stores. -/
theorem odd_second (t : Fin k1_t1_loop.trips) (h : k1_cond3 t = 1#1) (hM : RowOK (mrow M t.val)) (A : Fin 128 → F .f32) {v83 : IVec S16 32}
    (w7 : extractAt ![0] (k1_pay131 v83) inpos_S1_p0 = mrow M t.val 7) (w8 : extractAt ![0] (k1_pay132 v83) inpos_S1_p0 = mrow M t.val 8)
    {X : S32x128.Idx → F .f32} {Q : (Σ' (v124_5 : FVec F S16 .f32) (v124_6 : FVec F S16 .f32), FVec F S16 .f32) → sProp 𝕄} :
    iprop(owns (VT d i) arg7 fullShare X ∗ owns (VT d i) arg11 fullShare (win 16 N (mrow M t.val 3).toNat) ∗ owns (VT d i) arg13 fullShare (win 16 N (mrow M t.val 6).toNat))
      ⊢ iprop((owns (VT d i) arg7 fullShare
              ((Rect.unit (s := S32x128) (k1_off122 t) S1x16.size (k1_off122_inb t h)).overlay ((Rect.unit (s := S32x128) (k1_off121 t) S1x16.size (k1_off121_inb t h)).overlay
                ((Rect.unit (s := S32x128) (k1_off120 t) S1x16.size (k1_off120_inb t h)).overlay ((Rect.unit (s := S32x128) (k1_off119 t) S1x16.size (k1_off119_inb t h)).overlay
                ((Rect.unit (s := S32x128) (k1_off118 t) S1x16.size (k1_off118_inb t h)).overlay X
                  (k1_pay149 (piece (acc3 N (mrow M t.val) (acc2 N (mrow M t.val) A)) 0))) (k1_pay150 (piece (acc3 N (mrow M t.val) (acc2 N (mrow M t.val) A)) 1)))
                  (k1_pay151 (piece (acc3 N (mrow M t.val) (acc2 N (mrow M t.val) A)) 2))) (k1_pay152 (piece (acc3 N (mrow M t.val) (acc2 N (mrow M t.val) A)) 3)))
                  (k1_pay153 (piece (acc3 N (mrow M t.val) (acc2 N (mrow M t.val) A)) 4)))
          -∗ owns (VT d i) arg11 fullShare (win 16 N (mrow M t.val 3).toNat) -∗ owns (VT d i) arg13 fullShare (win 16 N (mrow M t.val 6).toNat)
          -∗ Q ⟨piece (acc3 N (mrow M t.val) (acc2 N (mrow M t.val) A)) 5, piece (acc3 N (mrow M t.val) (acc2 N (mrow M t.val) A)) 6, piece (acc3 N (mrow M t.val) (acc2 N (mrow M t.val) A)) 7⟩)
        -∗ wp frame (wpE defs 𝒱 (VT d i) bd) Set.univ (k1_part4 i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 v47_r0 t v48 h v83 (piece A 0) (piece A 1) (piece A 2) (piece A 3) (piece A 4) (piece A 5) (piece A 6) (piece A 7)
          (mrow M t.val 4) (mrow M t.val 5)) Q) := by
  obtain ⟨_, _, _, _, _, _, _, _, h45, h5, h78, h8⟩ := hM
  unfold acc2 acc3
  rw [k1_part4_eq_skeleton]
  unfold k1_part4_skel
  simp only [wp_bind]
  iintro ⟨HX, H1, H2⟩ HQ
  iapply (own_assume 𝒱 d i bd (chk14_of t h45 h5))
  iapply (accLoop 𝒱 d i bd h45 (by omega) A fun n B hn => accStep 𝒱 d i bd _ (by omega) _ _ _ _ _ _ _ _
    (off_row (by omega) hn rfl) (off_row (by omega) hn rfl) (off_row (by omega) hn rfl) (off_row (by omega) hn rfl)
    (off_row (by omega) hn rfl) (off_row (by omega) hn rfl) (off_row (by omega) hn rfl) (off_row (by omega) hn rfl) B) $$ H1
  iintro H1
  iapply (remLoop 𝒱 d i bd)
  rw [← w7, ← w8] at h78
  rw [← w8] at h8
  iapply (own_assume 𝒱 d i bd (chk15_of t h78 h8))
  iapply (accLoop 𝒱 d i bd h78 (by omega) (accRows (win 16 N (mrow M t.val 3).toNat) (mrow M t.val 4).toNat A ((mrow M t.val 5).toNat - (mrow M t.val 4).toNat))
    fun n B hn => accStep 𝒱 d i bd _ (by omega) _ _ _ _ _ _ _ _
    (off_row (by omega) hn rfl) (off_row (by omega) hn rfl) (off_row (by omega) hn rfl) (off_row (by omega) hn rfl)
    (off_row (by omega) hn rfl) (off_row (by omega) hn rfl) (off_row (by omega) hn rfl) (off_row (by omega) hn rfl) B) $$ H2
  iintro H2
  iapply (remLoop 𝒱 d i bd)
  iapply (own_load 𝒱 (VT d i) bd) $$ HX; iintro HX
  iapply (own_store 𝒱 (VT d i) bd) $$ HX; iintro HX
  iapply (own_load 𝒱 (VT d i) bd) $$ HX; iintro HX
  iapply (own_store 𝒱 (VT d i) bd) $$ HX; iintro HX
  iapply (own_load 𝒱 (VT d i) bd) $$ HX; iintro HX
  iapply (own_store 𝒱 (VT d i) bd) $$ HX; iintro HX
  iapply (own_load 𝒱 (VT d i) bd) $$ HX; iintro HX
  iapply (own_store 𝒱 (VT d i) bd) $$ HX; iintro HX
  iapply (own_load 𝒱 (VT d i) bd) $$ HX; iintro HX
  iapply (own_store 𝒱 (VT d i) bd) $$ HX; iintro HX
  iapply (own_load 𝒱 (VT d i) bd) $$ HX; iintro HX
  rw [wp_pure]
  imodintro
  rw [w7, w8]
  iapply HQ $$ HX H1 H2

/-- A trip at an odd slot: it writes the slot's row and, while a slot two later exists, fetches that slot's windows. -/
theorem odd_trip [Infinite Name] (t : Fin k1_t1_loop.trips) (h : t.val % 2 = 1) (hM : ∀ n < 25, RowOK (mrow M n)) {X : S32x128.Idx → F .f32} {Q : Unit → sProp 𝕄} :
    iprop(Transfers.MayWaits (VT d i) ι O ∗ owns (VT d i) arg6 fullShare M ∗ owns (VT d i) arg7 fullShare X
        ∗ Side EC d i ι arg3 arg2 q3 q2 q2' C N arg9 arg11 arg13 arg15.sem arg17.sem arg19.sem M t.val ∗ owes (VT d i) O W)
      ⊢ iprop((owns (VT d i) arg6 fullShare M -∗ owns (VT d i) arg7 fullShare (setRow X t.val (outRow N C (mrow M t.val)))
          -∗ Side EC d i ι arg3 arg2 q3 q2 q2' C N arg9 arg11 arg13 arg15.sem arg17.sem arg19.sem M (t.val + 2)
          -∗ (∃ W', owes (VT d i) O W') -∗ Q ⟨⟩)
        -∗ wp frame (wpE defs 𝒱 (VT d i) bd) Set.univ (k1_t1_body i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 v47_r0 t ⟨⟩) Q) := by
  have ht : t.val < 25 := lt_of_lt_of_eq t.isLt trips_main
  have hc : k1_cond3 t = 1#1 := (cond3_iff t).2 h
  have hn : ¬ k1_cond1 t = 1#1 := fun hh => by have := (cond1_iff t).1 hh; omega
  have hside : (Side EC d i ι arg3 arg2 q3 q2 q2' C N arg9 arg11 arg13 arg15.sem arg17.sem arg19.sem M t.val : sProp 𝕄)
      = iprop(Fetch EC d i ι arg3 q3 C arg9 arg15.sem (mrow M t.val 0).toNat ∗ Fetch EC d i ι arg2 q2 N arg11 arg17.sem (mrow M t.val 3).toNat
        ∗ Fetch EC d i ι arg2 q2' N arg13 arg19.sem (mrow M t.val 6).toNat) := if_pos ht
  rw [hside]
  unfold k1_t1_body outRow
  simp only [dif_pos hc, dif_neg hn, wp_bind]
  iintro ⟨#Hmw, HM, HX, ⟨H0, H1, H2⟩, HO⟩ HQ
  iapply (odd_first EC 𝒱 d i bd ι (O := O) (W := W) (N := N) (C := C) (h := hc) (hM := hM t.val ht)) $$ [HM H0 H1 H2 HO]
  · isplitr; · iexact Hmw
    isplitl [HM]; · iexact HM
    isplitl [H0]; · iexact H0
    isplitl [H1]; · iexact H1
    isplitl [H2] <;> iassumption
  iintro %v83 %hw HM H0 H1 H2 ⟨%W1, HO⟩
  unfold Landed
  icases H0 with ⟨Hs0, Hd0, Hv0⟩
  icases H1 with ⟨Hs1, Hd1, Hv1⟩
  icases H2 with ⟨Hs2, Hd2, Hv2⟩
  iapply (odd_second 𝒱 d i bd (N := N) (h := hc) (hM := hM t.val ht) (w7 := hw.1) (w8 := hw.2)) $$ [HX Hd1 Hd2]
  · isplitl [HX]; · iexact HX
    isplitl [Hd1] <;> iassumption
  iintro HX Hd1 Hd2
  iapply (own_store 𝒱 (VT d i) bd) $$ HX; iintro HX
  iapply (own_load 𝒱 (VT d i) bd) $$ HX; iintro HX
  iapply (own_store 𝒱 (VT d i) bd) $$ HX; iintro HX
  iapply (own_load 𝒱 (VT d i) bd) $$ HX; iintro HX
  iapply (own_store 𝒱 (VT d i) bd) $$ HX; iintro HX
  rw [overlay_row X (acc3 N (mrow M t.val) (acc2 N (mrow M t.val) (acc1 C (mrow M t.val)))) (k1_off118_inb t hc) (k1_off119_inb t hc) (k1_off120_inb t hc) (k1_off121_inb t hc)
    (k1_off122_inb t hc) (k1_off123_inb t hc) (k1_off124_inb t hc) (k1_off125_inb t hc)
    (k1_off118_eq t) (k1_off119_eq t) (k1_off120_eq t) (k1_off121_eq t) (k1_off122_eq t) (k1_off123_eq t) (k1_off124_eq t) (k1_off125_eq t)
    (show k1_pay149 (F := F) (piece (acc3 N (mrow M t.val) (acc2 N (mrow M t.val) (acc1 C (mrow M t.val)))) 0) = _ from rfl)
    (show k1_pay150 (F := F) (piece (acc3 N (mrow M t.val) (acc2 N (mrow M t.val) (acc1 C (mrow M t.val)))) 1) = _ from rfl)
    (show k1_pay151 (F := F) (piece (acc3 N (mrow M t.val) (acc2 N (mrow M t.val) (acc1 C (mrow M t.val)))) 2) = _ from rfl)
    (show k1_pay152 (F := F) (piece (acc3 N (mrow M t.val) (acc2 N (mrow M t.val) (acc1 C (mrow M t.val)))) 3) = _ from rfl)
    (show k1_pay153 (F := F) (piece (acc3 N (mrow M t.val) (acc2 N (mrow M t.val) (acc1 C (mrow M t.val)))) 4) = _ from rfl)
    (show k1_pay11 (F := F) (piece (acc3 N (mrow M t.val) (acc2 N (mrow M t.val) (acc1 C (mrow M t.val)))) 5) = _ from rfl)
    (show k1_pay12 (F := F) (piece (acc3 N (mrow M t.val) (acc2 N (mrow M t.val) (acc1 C (mrow M t.val)))) 6) = _ from rfl)
    (show k1_pay13 (F := F) (piece (acc3 N (mrow M t.val) (acc2 N (mrow M t.val) (acc1 C (mrow M t.val)))) 7) = _ from rfl)]
  by_cases h2 : k1_cond4 t = 1#1
  · have ht2 : t.val + 2 < 25 := (cond4_iff t).1 h2
    have hside2 : (Side EC d i ι arg3 arg2 q3 q2 q2' C N arg9 arg11 arg13 arg15.sem arg17.sem arg19.sem M (t.val + 2) : sProp 𝕄)
      = iprop(Fetch EC d i ι arg3 q3 C arg9 arg15.sem (mrow M (t.val + 2) 0).toNat ∗ Fetch EC d i ι arg2 q2 N arg11 arg17.sem (mrow M (t.val + 2) 3).toNat
        ∗ Fetch EC d i ι arg2 q2' N arg13 arg19.sem (mrow M (t.val + 2) 6).toNat) := if_pos ht2
    rw [hside2]
    simp only [dif_pos h2, wp_bind]
    obtain ⟨d0, b0, d3, b3, d6, b6, _, _, _, _, _, _⟩ := hM (t.val + 2) ht2
    iapply (own_load 𝒱 (VT d i) bd) $$ HM; iintro HM
    obtain ⟨v82, hv⟩ : ∃ v, (fun j => M ((Rect.unit (s := S25x16) (k1_off126 t) S1x16.size (k1_off126_inb t hc h2)).emb j)) = v := ⟨_, rfl⟩
    rw [hv]
    have hw : ∀ k : Fin 16, v82 (ix2 0 k) = mrow M (t.val + 2) k := fun k => by rw [← hv]; exact word_mrow M ht2 (k1_off126_inb t hc h2) (k1_off126_eq t) k
    have w0 : extractAt ![0] (k1_pay15 (F := F) v82) inpos_S1_p0 = mrow M (t.val + 2) 0 := (word_at v82 0 (by omega) shapeCasts_S1x16_S16 slices_S16_o0_S1 inpos_S1_p0).trans (hw 0)
    have w3 : extractAt ![0] (k1_pay16 (F := F) v82) inpos_S1_p0 = mrow M (t.val + 2) 3 := (word_at v82 3 (by omega) shapeCasts_S1x16_S16 slices_S16_o3_S1 inpos_S1_p0).trans (hw 3)
    have w6 : extractAt ![0] (k1_pay17 (F := F) v82) inpos_S1_p0 = mrow M (t.val + 2) 6 := (word_at v82 6 (by omega) shapeCasts_S1x16_S16 slices_S16_o6_S1 inpos_S1_p0).trans (hw 6)
    rw [← w0] at d0 b0
    rw [← w3] at d3 b3
    rw [← w6] at d6 b6
    rw [← w0, ← w3, ← w6]
    iapply (own_assume 𝒱 d i bd (chk16_of t d0 b0))
    iapply (own_assume 𝒱 d i bd (chk17_of t d3 b3))
    iapply (own_assume 𝒱 d i bd (chk18_of t d6 b6))
    iapply (own_fetch_win EC 𝒱 d i bd ι (by omega) (src := arg3) (q := q3) (X := C) (dst := arg9) b0 rfl) $$ [Hs0 Hd0 Hv0]
    · unfold Landed
      isplitl [Hs0]; · iexact Hs0
      isplitl [Hd0] <;> iassumption
    iintro H0
    iapply (own_fetch_win EC 𝒱 d i bd ι (by omega) (src := arg2) (q := q2) (X := N) (dst := arg11) b3 rfl) $$ [Hs1 Hd1 Hv1]
    · unfold Landed
      isplitl [Hs1]; · iexact Hs1
      isplitl [Hd1] <;> iassumption
    iintro H1
    iapply (own_fetch_win EC 𝒱 d i bd ι (by omega) (src := arg2) (q := q2') (X := N) (dst := arg13) b6 rfl) $$ [Hs2 Hd2 Hv2]
    · unfold Landed
      isplitl [Hs2]; · iexact Hs2
      isplitl [Hd2] <;> iassumption
    iintro H2
    simp only [wp_pure]
    imodintro
    iapply HQ $$ HM HX [H0 H1 H2] [HO]
    · isplitl [H0]; · iexact H0
      isplitl [H1] <;> iassumption
    · iexists _; iexact HO
  · have ht2 : ¬ t.val + 2 < 25 := fun hh => h2 ((cond4_iff t).2 hh)
    have hside2 : (Side EC d i ι arg3 arg2 q3 q2 q2' C N arg9 arg11 arg13 arg15.sem arg17.sem arg19.sem M (t.val + 2) : sProp 𝕄)
      = iprop(∃ Y0 Y1 Y2, Landed d i arg3 q3 C arg9 arg15.sem Y0 ∗ Landed d i arg2 q2 N arg11 arg17.sem Y1 ∗ Landed d i arg2 q2' N arg13 arg19.sem Y2) := if_neg ht2
    rw [hside2]
    simp only [dif_neg h2]
    simp only [wp_pure]
    imodintro
    iapply HQ $$ HM HX [Hs0 Hd0 Hv0 Hs1 Hd1 Hv1 Hs2 Hd2 Hv2] [HO]
    · unfold Landed
      iexists _, _, _
      isplitl [Hs0 Hd0 Hv0]
      · isplitl [Hs0]; · iexact Hs0
        isplitl [Hd0] <;> iassumption
      isplitl [Hs1 Hd1 Hv1]
      · isplitl [Hs1]; · iexact Hs1
        isplitl [Hd1] <;> iassumption
      · isplitl [Hs2]; · iexact Hs2
        isplitl [Hd2] <;> iassumption
    · iexists _; iexact HO

end

end Cert.Proof
-- ==== Proof.Tile.lean ====
/-
  A whole tile: it fetches its rows of the table, fetches the windows of its first two slots, runs its 25 slots and copies
  what it wrote out to its part of the result.
-/
module

public import proofs.«01_k».proof.Proof.Slot

@[expose] public section

noncomputable section

namespace Cert.Proof

open Cert.KernelIdeal Cert.KernelIdeal.Gen
open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The tile's rows of the table, as it slices them. -/
abbrev metaPart (i : grid1.Coords) (m : Memref sig .scVector .hbm S32x25x16 .i32) : Memref sig .scVector .hbm S25x16 .i32 :=
  (m.slice (Rect.unit (s := S32x25x16) (k1_off1 i) S1x25x16.size (k1_off1_inb i)) (fun _ => rfl)).squeeze S25x16 squeezes_S1x25x16_S25x16
/-- The tile's part of the result, as it slices it. -/
abbrev outPart (i : grid1.Coords) (m : Memref sig .scVector .hbm S32x32x128 .f32) : Memref sig .scVector .hbm S32x128 .f32 :=
  (m.slice (Rect.unit (s := S32x32x128) (k1_off130 i) S1x32x128.size (k1_off130_inb i)) (fun _ => rfl)).squeeze S32x128 squeezes_S1x32x128_S32x128

/-- Rows `0`, …, `n - 1` of a tile's part are what its slots write. -/
def Written (N : S319600x128.Idx → F .f32) (C : S20000x128.Idx → F .f32) (M : S25x16.Idx → BitVec 32) (n : ℕ) (Z : S32x128.Idx → F .f32) : Prop :=
  ∀ s < n, row Z s = outRow N C (mrow M s)

theorem written_succ {N : S319600x128.Idx → F .f32} {C : S20000x128.Idx → F .f32} {M : S25x16.Idx → BitVec 32} {n : ℕ} {Z : S32x128.Idx → F .f32}
    (hn : n < 32) (h : Written N C M n Z) : Written N C M (n + 1) (setRow Z n (outRow N C (mrow M n))) := by
  intro s hs
  have hs32 : s < 32 := by omega
  have e : (Fin.ofNat 32 s).val = s := Nat.mod_eq_of_lt hs32
  funext x
  show (if (Fin.ofNat 32 s).val = n then _ else _) = _
  rw [e]
  by_cases hc : s = n
  · rw [if_pos hc, hc]
  · rw [if_neg hc]
    exact congrFun (h s (by omega)) x

section

variable {Ix : Type} [DecidableEq Ix] {Name : Type} [DecidableEq Name] {U : Type} [URA U] {Lvl : Type} [Preorder Lvl]
variable {defs : Defs nD τ sig (Elt F) Λ₀}

local notation "𝕄" => MT nD τ sig Ix (Elt F) Name U Lvl

variable (EC : UEmb Counters (MT nD τ sig Ix (Elt F) Name U Lvl)) [EC.LandsIn (upEmb : UEmb _ (MT nD τ sig Ix (Elt F) Name U Lvl))]
variable (𝒱 : Variants) (d : Dev nD) (i : grid1.Coords) (bd : Option 𝒱.V) (ι : Ix)

variable (arg2 : Memref sig .scVector .hbm S319600x128 .f32) (harg2 : arg2.IsWhole) (arg3 : Memref sig .scVector .hbm S20000x128 .f32) (harg3 : arg3.IsWhole)
  (arg4 : Memref sig .scVector .hbm S32x25x16 .i32) (harg4 : arg4.IsWhole) (arg5 : Memref sig .scVector .hbm S32x32x128 .f32) (harg5 : arg5.IsWhole)
  (arg6 : Memref sig .scVector .vmem S25x16 .i32) (harg6 : arg6.IsWhole) (arg7 : Memref sig .scVector .vmem S32x128 .f32) (harg7 : arg7.IsWhole)
  (arg8 : Memref sig .scVector .vmem S64x128 .f32) (harg8 : arg8.IsWhole) (arg9 : Memref sig .scVector .vmem S64x128 .f32) (harg9 : arg9.IsWhole)
  (arg10 : Memref sig .scVector .vmem S16x128 .f32) (harg10 : arg10.IsWhole) (arg11 : Memref sig .scVector .vmem S16x128 .f32) (harg11 : arg11.IsWhole)
  (arg12 : Memref sig .scVector .vmem S16x128 .f32) (harg12 : arg12.IsWhole) (arg13 : Memref sig .scVector .vmem S16x128 .f32) (harg13 : arg13.IsWhole)
  (arg14 arg15 arg16 arg17 arg18 arg19 arg20 v47_r0 : DmaSems sig S_)
variable {M : S25x16.Idx → BitVec 32} {N : S319600x128.Idx → F .f32} {C : S20000x128.Idx → F .f32} {O : CellTallies nD τ sig Ix} {W : Waits sig Ix}
variable {q3 q2 q2' : PosShare TreeShare} {v48 : BitVec 32}

/-- The main loop's state before trip `k`. -/
def LoopInv (q3e q2e q2e' q3o q2o q2o' : PosShare TreeShare) (M : S25x16.Idx → BitVec 32) (N : S319600x128.Idx → F .f32) (C : S20000x128.Idx → F .f32)
    (O : CellTallies nD τ sig Ix) (k : ℕ) : sProp 𝕄 :=
  iprop(Transfers.MayWaits (VT d i) ι O ∗ owns (VT d i) arg6 fullShare M ∗ (∃ X, ⌜Written N C M k X⌝ ∗ owns (VT d i) arg7 fullShare X)
    ∗ Side EC d i ι arg3 arg2 q3e q2e q2e' C N arg8 arg10 arg12 arg14.sem arg16.sem arg18.sem M (2 * ((k + 1) / 2))
    ∗ Side EC d i ι arg3 arg2 q3o q2o q2o' C N arg9 arg11 arg13 arg15.sem arg17.sem arg19.sem M (2 * (k / 2) + 1)
    ∗ ∃ W', owes (VT d i) O W')

/-- One trip of the main loop, of either parity. -/
theorem trip [Infinite Name] {q3e q2e q2e' q3o q2o q2o' : PosShare TreeShare} (hM : ∀ n < 25, RowOK (mrow M n)) (t : Fin k1_t1_loop.trips) (acc : Unit) :
    (LoopInv EC d i ι arg2 arg3 arg6 arg7 arg8 arg9 arg10 arg11 arg12 arg13 arg14 arg15 arg16 arg17 arg18 arg19 q3e q2e q2e' q3o q2o q2o' M N C O t.val : sProp 𝕄)
      ⊢ wp frame (wpE defs 𝒱 (VT d i) bd) Set.univ (k1_t1_body i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 v47_r0 t acc)
        (fun _ => LoopInv EC d i ι arg2 arg3 arg6 arg7 arg8 arg9 arg10 arg11 arg12 arg13 arg14 arg15 arg16 arg17 arg18 arg19 q3e q2e q2e' q3o q2o q2o' M N C O (t.val + 1)) := by
  have ht : t.val < 25 := lt_of_lt_of_eq t.isLt trips_main
  unfold LoopInv
  iintro ⟨#Hmw, HM, ⟨%X, %hX, HX⟩, He, Ho, ⟨%W0, HO⟩⟩
  rcases Nat.mod_two_eq_zero_or_one t.val with h | h
  · rw [show 2 * ((t.val + 1) / 2) = t.val by omega, show 2 * ((t.val + 1 + 1) / 2) = t.val + 2 by omega, show 2 * (t.val / 2) + 1 = t.val + 1 by omega]
    iapply (even_trip EC 𝒱 d i bd ι (O := O) (N := N) (C := C) (h := h) (hM := hM)) $$ [HM HX He HO]
    · isplitr; · iexact Hmw
      isplitl [HM]; · iexact HM
      isplitl [HX]; · iexact HX
      isplitl [He] <;> iassumption
    iintro HM HX He HO
    isplitr; · iexact Hmw
    isplitl [HM]; · iexact HM
    isplitl [HX]
    · iexists _
      isplitr; · ipureintro; exact written_succ (by omega) hX
      iexact HX
    isplitl [He]; · iexact He
    isplitl [Ho] <;> iassumption
  · rw [show 2 * (t.val / 2) + 1 = t.val by omega, show 2 * ((t.val + 1 + 1) / 2) = 2 * ((t.val + 1) / 2) by omega, show 2 * ((t.val + 1) / 2) + 1 = t.val + 2 by omega]
    iapply (odd_trip EC 𝒱 d i bd ι (O := O) (N := N) (C := C) (h := h) (hM := hM)) $$ [HM HX Ho HO]
    · isplitr; · iexact Hmw
      isplitl [HM]; · iexact HM
      isplitl [HX]; · iexact HX
      isplitl [Ho] <;> iassumption
    iintro HM HX Ho HO
    isplitr; · iexact Hmw
    isplitl [HM]; · iexact HM
    isplitl [HX]
    · iexists _
      isplitr; · ipureintro; exact written_succ (by omega) hX
      iexact HX
    isplitl [He]; · iexact He
    isplitl [Ho] <;> iassumption

/-- The three windows of one parity at rest, whatever their buffers hold. -/
def Rest (s3 : Memref sig .scVector .hbm S20000x128 .f32) (s2 : Memref sig .scVector .hbm S319600x128 .f32) (q3 q2 q2' : PosShare TreeShare)
    (C : S20000x128.Idx → F .f32) (N : S319600x128.Idx → F .f32) (b0 : Memref sig .scVector .vmem S64x128 .f32) (b1 b2 : Memref sig .scVector .vmem S16x128 .f32)
    (c0 c1 c2 : DmaSem sig) : sProp 𝕄 :=
  iprop(∃ Y0 Y1 Y2, Landed d i s3 q3 C b0 c0 Y0 ∗ Landed d i s2 q2 N b1 c1 Y1 ∗ Landed d i s2 q2' N b2 c2 Y2)

theorem Side_done {s3 : Memref sig .scVector .hbm S20000x128 .f32} {s2 : Memref sig .scVector .hbm S319600x128 .f32} {q3 q2 q2' : PosShare TreeShare}
    {C : S20000x128.Idx → F .f32} {N : S319600x128.Idx → F .f32} {b0 : Memref sig .scVector .vmem S64x128 .f32} {b1 b2 : Memref sig .scVector .vmem S16x128 .f32}
    {c0 c1 c2 : DmaSem sig} {M : S25x16.Idx → BitVec 32} {n : ℕ} (h : ¬ n < 25) :
    (Side EC d i ι s3 s2 q3 q2 q2' C N b0 b1 b2 c0 c1 c2 M n : sProp 𝕄) = Rest d i s3 s2 q3 q2 q2' C N b0 b1 b2 c0 c1 c2 := if_neg h

theorem Side_ready {s3 : Memref sig .scVector .hbm S20000x128 .f32} {s2 : Memref sig .scVector .hbm S319600x128 .f32} {q3 q2 q2' : PosShare TreeShare}
    {C : S20000x128.Idx → F .f32} {N : S319600x128.Idx → F .f32} {b0 : Memref sig .scVector .vmem S64x128 .f32} {b1 b2 : Memref sig .scVector .vmem S16x128 .f32}
    {c0 c1 c2 : DmaSem sig} {M : S25x16.Idx → BitVec 32} {n : ℕ} (h : n < 25) :
    (Side EC d i ι s3 s2 q3 q2 q2' C N b0 b1 b2 c0 c1 c2 M n : sProp 𝕄)
      = iprop(Fetch EC d i ι s3 q3 C b0 c0 (mrow M n 0).toNat ∗ Fetch EC d i ι s2 q2 N b1 c1 (mrow M n 3).toNat
        ∗ Fetch EC d i ι s2 q2' N b2 c2 (mrow M n 6).toNat) := if_pos h

include EC in
/-- The whole tile. It holds shares of the node rows and of the chunk sums, its rows of the table, and in full its part of
    the result and its scratch buffers, with its copy cells at zero; it gives all of that back, its part of the result
    written. -/
theorem tile [Infinite Name] {q4 q3e q2e q2e' q3o q2o q2o' : PosShare TreeShare} (hM : ∀ n < 25, RowOK (mrow M n)) {Z : S32x128.Idx → F .f32} {M' : S25x16.Idx → BitVec 32}
    {X : S32x128.Idx → F .f32} {Q : PUnit → sProp 𝕄} :
    iprop(Transfers.MayWaits (VT d i) ι O ∗ owns (VT d i) (metaPart i arg4) q4 M ∗ owns (VT d i) arg6 fullShare M' ∗ semVal (VT d i, .dma v47_r0.sem) 0
        ∗ Rest d i arg3 arg2 q3e q2e q2e' C N arg8 arg10 arg12 arg14.sem arg16.sem arg18.sem
        ∗ Rest d i arg3 arg2 q3o q2o q2o' C N arg9 arg11 arg13 arg15.sem arg17.sem arg19.sem
        ∗ owns (VT d i) arg7 fullShare X ∗ owns (VT d i) (outPart i arg5) fullShare Z ∗ semVal (VT d i, .dma arg20.sem) 0 ∗ owes (VT d i) O W)
      ⊢ iprop((owns (VT d i) (metaPart i arg4) q4 M -∗ owns (VT d i) arg6 fullShare M -∗ semVal (VT d i, .dma v47_r0.sem) 0
          -∗ Rest d i arg3 arg2 q3e q2e q2e' C N arg8 arg10 arg12 arg14.sem arg16.sem arg18.sem
          -∗ Rest d i arg3 arg2 q3o q2o q2o' C N arg9 arg11 arg13 arg15.sem arg17.sem arg19.sem
          -∗ (∃ X, ⌜Written N C M 25 X⌝ ∗ owns (VT d i) arg7 fullShare X ∗ owns (VT d i) (outPart i arg5) fullShare X) -∗ semVal (VT d i, .dma arg20.sem) 0
          -∗ (∃ W', owes (VT d i) O W') -∗ Q ⟨⟩)
        -∗ wp frame (wpE defs 𝒱 (VT d i) bd) Set.univ (cc1_body i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 v47_r0) Q) := by
  rw [cc1_body_eq_skeleton]
  unfold cc1_body_skel
  rw [k1_part5_eq_skeleton]
  unfold k1_part5_skel Rest
  simp only [wp_bind]
  iintro ⟨#Hmw, H4, H6, Hv, ⟨%Y0, %Y1, %Y2, H0, H1, H2⟩, ⟨%U0, %U1, %U2, J0, J1, J2⟩, HX, HZ, Hvo, HO⟩ HQ
  iapply (own_copy EC 𝒱 (VT d i) bd ι (arg6.view.dmaCredit) rfl (View.dmaCredit_pos _ (by decide))) $$ [H4 H6 Hv]
  · isplitl [H4]; · iexact H4
    isplitl [H6] <;> iassumption
  iintro HP
  iapply (own_wait EC 𝒱 (VT d i) bd ι rfl) $$ [HP HO]
  · isplitr; · iexact Hmw
    isplitl [HP] <;> iassumption
  iintro ⟨⟨H4, H6⟩, Hv, ⟨%W1, HO⟩⟩
  iapply (own_load 𝒱 (VT d i) bd) $$ H6; iintro H6
  obtain ⟨v82, hv⟩ : ∃ v, (fun j => M ((Rect.unit (s := S25x16) ![0, 0] S1x16.size inb_S25x16_S1x16_0_0).emb j)) = v := ⟨_, rfl⟩
  rw [hv]
  have hw : ∀ k : Fin 16, v82 (ix2 0 k) = mrow M 0 k := fun k => by rw [← hv]; exact word_mrow M (by omega) inb_S25x16_S1x16_0_0 rfl k
  have w0 : extractAt ![0] (k1_pay155 (F := F) v82) inpos_S1_p0 = mrow M 0 0 := (word_at v82 0 (by omega) shapeCasts_S1x16_S16 slices_S16_o0_S1 inpos_S1_p0).trans (hw 0)
  have w3 : extractAt ![0] (k1_pay156 (F := F) v82) inpos_S1_p0 = mrow M 0 3 := (word_at v82 3 (by omega) shapeCasts_S1x16_S16 slices_S16_o3_S1 inpos_S1_p0).trans (hw 3)
  have w6 : extractAt ![0] (k1_pay157 (F := F) v82) inpos_S1_p0 = mrow M 0 6 := (word_at v82 6 (by omega) shapeCasts_S1x16_S16 slices_S16_o6_S1 inpos_S1_p0).trans (hw 6)
  obtain ⟨d0, b0, d3, b3, d6, b6, _, _, _, _, _, _⟩ := hM 0 (by omega)
  rw [← w0] at d0 b0
  rw [← w3] at d3 b3
  rw [← w6] at d6 b6
  iapply (own_assume 𝒱 d i bd (chk1_of d0 b0))
  iapply (own_assume 𝒱 d i bd (chk2_of d3 b3))
  iapply (own_assume 𝒱 d i bd (chk3_of d6 b6))
  iapply (own_fetch_win EC 𝒱 d i bd ι (by omega) (src := arg3) (q := q3e) (X := C) (dst := arg8) b0 rfl) $$ H0
  iintro H0
  iapply (own_fetch_win EC 𝒱 d i bd ι (by omega) (src := arg2) (q := q2e) (X := N) (dst := arg10) b3 rfl) $$ H1
  iintro H1
  iapply (own_fetch_win EC 𝒱 d i bd ι (by omega) (src := arg2) (q := q2e') (X := N) (dst := arg12) b6 rfl) $$ H2
  iintro H2
  iapply (own_load 𝒱 (VT d i) bd) $$ H6; iintro H6
  rw [wp_pure]
  imodintro
  obtain ⟨u82, hu⟩ : ∃ v, (fun j => M ((Rect.unit (s := S25x16) ![1, 0] S1x16.size inb_S25x16_S1x16_1_0).emb j)) = v := ⟨_, rfl⟩
  rw [hu]
  have hx : ∀ k : Fin 16, u82 (ix2 0 k) = mrow M 1 k := fun k => by rw [← hu]; exact word_mrow M (by omega) inb_S25x16_S1x16_1_0 rfl k
  have x0 : extractAt ![0] (k1_pay1 (k1_pay158 (F := F) u82)) inpos_S1_p0 = mrow M 1 0 := (word_at u82 0 (by omega) shapeCasts_S1x16_S16 slices_S16_o0_S1 inpos_S1_p0).trans (hx 0)
  have x3 : extractAt ![0] (k1_pay2 (k1_pay158 (F := F) u82)) inpos_S1_p0 = mrow M 1 3 := (word_at u82 3 (by omega) shapeCasts_S1x16_S16 slices_S16_o3_S1 inpos_S1_p0).trans (hx 3)
  have x6 : extractAt ![0] (k1_pay3 (k1_pay158 (F := F) u82)) inpos_S1_p0 = mrow M 1 6 := (word_at u82 6 (by omega) shapeCasts_S1x16_S16 slices_S16_o6_S1 inpos_S1_p0).trans (hx 6)
  obtain ⟨e0, c0, e3, c3, e6, c6, _, _, _, _, _, _⟩ := hM 1 (by omega)
  rw [← x0] at e0 c0
  rw [← x3] at e3 c3
  rw [← x6] at e6 c6
  iapply (own_assume 𝒱 d i bd (chk4_of e0 c0))
  iapply (own_assume 𝒱 d i bd (chk5_of e3 c3))
  iapply (own_assume 𝒱 d i bd (chk6_of e6 c6))
  iapply (own_fetch_win EC 𝒱 d i bd ι (by omega) (src := arg3) (q := q3o) (X := C) (dst := arg9) c0 rfl) $$ J0
  iintro J0
  iapply (own_fetch_win EC 𝒱 d i bd ι (by omega) (src := arg2) (q := q2o) (X := N) (dst := arg11) c3 rfl) $$ J1
  iintro J1
  iapply (own_fetch_win EC 𝒱 d i bd ι (by omega) (src := arg2) (q := q2o') (X := N) (dst := arg13) c6 rfl) $$ J2
  iintro J2
  rw [w0, w3, w6, x0, x3, x6]
  iapply (Scf.wp_for frame (wpE defs 𝒱 (VT d i) bd) Set.univ _ _ _ k1_t1_ok ⟨⟩ _
    (fun k _ => LoopInv EC d i ι arg2 arg3 arg6 arg7 arg8 arg9 arg10 arg11 arg12 arg13 arg14 arg15 arg16 arg17 arg18 arg19 q3e q2e q2e' q3o q2o q2o' M N C O k)
    (fun t acc => trip EC 𝒱 d i bd ι arg2 harg2 arg3 harg3 arg4 harg4 arg5 harg5 arg6 harg6 arg7 harg7 arg8 harg8 arg9 harg9 arg10 harg10 arg11 harg11 arg12 harg12 arg13 harg13
      arg14 arg15 arg16 arg17 arg18 arg19 arg20 v47_r0 hM t acc))
  isplitl [H6 H0 H1 H2 J0 J1 J2 HX HO]
  · unfold LoopInv
    rw [Side_ready EC d i ι (n := 2 * ((0 + 1) / 2)) (by omega), Side_ready EC d i ι (n := 2 * (0 / 2) + 1) (by omega)]
    isplitr; · iexact Hmw
    isplitl [H6]; · iexact H6
    isplitl [HX]
    · iexists X
      isplitr; · ipureintro; exact fun s hs => absurd hs (Nat.not_lt_zero s)
      iexact HX
    isplitl [H0 H1 H2]
    · isplitl [H0]; · iexact H0
      isplitl [H1] <;> iassumption
    isplitl [J0 J1 J2]
    · isplitl [J0]; · iexact J0
      isplitl [J1] <;> iassumption
    · iexists _; iexact HO
  iintro %acc HL
  rw [show Scf.trips k1_t1_loop.lb k1_t1_loop.ub k1_t1_loop.st = 25 from trips_main]
  unfold LoopInv
  rw [Side_done EC d i ι (n := 2 * ((25 + 1) / 2)) (by omega), Side_done EC d i ι (n := 2 * (25 / 2) + 1) (by omega)]
  icases HL with ⟨_, H6, ⟨%X', %hX, HX⟩, He, Ho, ⟨%W2, HO⟩⟩
  iapply (own_copy EC 𝒱 (VT d i) bd ι ((outPart i arg5).view.dmaCredit) rfl (View.dmaCredit_pos _ (by decide))) $$ [HX HZ Hvo]
  · isplitl [HX]; · iexact HX
    isplitl [HZ] <;> iassumption
  iintro HP
  iapply (own_wait EC 𝒱 (VT d i) bd ι rfl) $$ [HP HO]
  · isplitr; · iexact Hmw
    isplitl [HP] <;> iassumption
  iintro ⟨⟨HX, HZ⟩, Hvo, ⟨%W3, HO⟩⟩
  rw [wp_pure]
  imodintro
  unfold Rest
  iapply HQ $$ H4 H6 Hv He Ho [HX HZ] Hvo [HO]
  · iexists _
    isplitr; · ipureintro; exact hX
    isplitl [HX] <;> iassumption
  · iexists _; iexact HO

end

end Cert.Proof
-- ==== Proof.Parts.lean ====
/-
  How the table and the tiles' result are cut into the tiles' parts: tile `16 c + s` has row `16 c + s` of each.
-/
module

public import proofs.«01_k».proof.Proof.Tile
public import Idealize.ShloMosaic.Lib.ValueIdx
public import Idealize.ShloMosaic.Lib.ValueLayout

@[expose] public section

noncomputable section

namespace Cert.Proof

open Cert.KernelIdeal Cert.KernelIdeal.Gen
open Idealize.ShloMosaic Idealize.ShloMosaic.ValueIdx
open Idealize.SL Idealize.SL.RA Idealize.SL.BI

/-- The grid's coordinates of subcore `s` of SparseCore `c`. -/
abbrev coordsV (c : Fin (grid1.bound 0)) (s : Fin (grid1.bound 1)) : grid1.Coords :=
  fun | 0 => c | 1 => s | ⟨_ + 2, h⟩ => absurd h (Nat.not_lt.2 (Nat.le_add_left _ _))

/-- The tile's number. -/
def tileNo (i : grid1.Coords) : Fin 32 :=
  ⟨16 * (i 0).val + (i 1).val, by have h0 : (i 0).val < 2 := (i 0).isLt; have h1 : (i 1).val < 16 := (i 1).isLt; omega⟩

theorem tileNo_inj {c c' : Fin (grid1.bound 0)} {s s' : Fin (grid1.bound 1)} (h : tileNo (coordsV c s) = tileNo (coordsV c' s')) : (c, s) = (c', s') := by
  have h' : 16 * c.val + s.val = 16 * c'.val + s'.val := congrArg Fin.val h
  have h0 : c.val < 2 := c.isLt
  have h1 : s.val < 16 := s.isLt
  have h0' : c'.val < 2 := c'.isLt
  have h1' : s'.val < 16 := s'.isLt
  exact Prod.ext (Fin.ext (by show c.val = c'.val; omega)) (Fin.ext (by show s.val = s'.val; omega))

/-- The table, as the buffer that holds it. -/
abbrev table : S32x25x16.Idx → BitVec 32 := fun i => lit0 (S32x25x16.rowMajor i)

abbrev tabM : Memref sig .scVector .hbm S32x25x16 .i32 := Memref.whole main_c_scv
abbrev resM : Memref sig .scVector .hbm S32x32x128 .f32 := Memref.whole main_v1_scv

/-- The elements of the table that a tile holds, and those of the result. -/
abbrev tabSet (i : grid1.Coords) : Finset S32x25x16.Idx := (metaPart i tabM).view.set
abbrev resSet (i : grid1.Coords) : Finset S32x32x128.Idx := (outPart i resM).view.set

theorem mem_tabSet (i : grid1.Coords) (x : S32x25x16.Idx) : x ∈ tabSet i ↔ (x 0).val = (tileNo i).val := by
  have e : tabSet i = (Rect.unit (s := S32x25x16) (k1_off1 i) S1x25x16.size (k1_off1_inb i)).set := by
    show ((tabM.view.slice (Rect.unit (s := S32x25x16) (k1_off1 i) S1x25x16.size (k1_off1_inb i))).reshape S25x16 squeezes_S1x25x16_S25x16.numel_eq).set = _
    rw [View.set_reshape, View.set_slice]; exact Finset.map_refl
  rw [e, Rect.mem_set_unit]
  have hx1 : (x 1).val < 25 := (x 1).isLt
  have hx2 : (x 2).val < 16 := (x 2).isLt
  have h0 : k1_off1 i 0 = 16 * (i 0).val + (i 1).val := by rw [k1_off1_eq]; rfl
  have h1 : k1_off1 i 1 = 0 := by rw [k1_off1_eq]; rfl
  have h2 : k1_off1 i 2 = 0 := by rw [k1_off1_eq]; rfl
  constructor
  · intro h
    have := h 0
    rw [h0] at this
    have hs : S1x25x16.size 0 = 1 := rfl
    rw [hs] at this
    show (x 0).val = 16 * (i 0).val + (i 1).val
    omega
  · intro h a
    have h' : (x 0).val = 16 * (i 0).val + (i 1).val := h
    match a with
    | 0 => rw [h0]; show _ ≤ (x 0).val ∧ (x 0).val < _ + 1; omega
    | 1 => rw [h1]; show _ ≤ (x 1).val ∧ (x 1).val < _ + 25; omega
    | 2 => rw [h2]; show _ ≤ (x 2).val ∧ (x 2).val < _ + 16; omega

theorem mem_resSet (i : grid1.Coords) (x : S32x32x128.Idx) : x ∈ resSet i ↔ (x 0).val = (tileNo i).val := by
  have e : resSet i = (Rect.unit (s := S32x32x128) (k1_off130 i) S1x32x128.size (k1_off130_inb i)).set := by
    show ((resM.view.slice (Rect.unit (s := S32x32x128) (k1_off130 i) S1x32x128.size (k1_off130_inb i))).reshape S32x128 squeezes_S1x32x128_S32x128.numel_eq).set = _
    rw [View.set_reshape, View.set_slice]; exact Finset.map_refl
  rw [e, Rect.mem_set_unit]
  have hx1 : (x 1).val < 32 := (x 1).isLt
  have hx2 : (x 2).val < 128 := (x 2).isLt
  have h0 : k1_off130 i 0 = 16 * (i 0).val + (i 1).val := by rw [k1_off130_eq]; rfl
  have h1 : k1_off130 i 1 = 0 := by rw [k1_off130_eq]; rfl
  have h2 : k1_off130 i 2 = 0 := by rw [k1_off130_eq]; rfl
  constructor
  · intro h
    have := h 0
    rw [h0] at this
    have hs : S1x32x128.size 0 = 1 := rfl
    rw [hs] at this
    show (x 0).val = 16 * (i 0).val + (i 1).val
    omega
  · intro h a
    have h' : (x 0).val = 16 * (i 0).val + (i 1).val := h
    match a with
    | 0 => rw [h0]; show _ ≤ (x 0).val ∧ (x 0).val < _ + 1; omega
    | 1 => rw [h1]; show _ ≤ (x 1).val ∧ (x 1).val < _ + 32; omega
    | 2 => rw [h2]; show _ ≤ (x 2).val ∧ (x 2).val < _ + 128; omega

/-- A tile of the grid, as a pair. -/
abbrev TileIx : Type := Fin (grid1.bound 0) × Fin (grid1.bound 1)

theorem tabSets_disjoint : ∀ p ∈ (Finset.univ : Finset TileIx), ∀ p' ∈ (Finset.univ : Finset TileIx), p ≠ p' →
    Disjoint (tabSet (coordsV p.1 p.2)) (tabSet (coordsV p'.1 p'.2)) := fun p _ p' _ hne =>
  Finset.disjoint_left.mpr fun x hx hx' => hne (tileNo_inj (Fin.ext (((mem_tabSet _ x).mp hx).symm.trans ((mem_tabSet _ x).mp hx'))))
theorem resSets_disjoint : ∀ p ∈ (Finset.univ : Finset TileIx), ∀ p' ∈ (Finset.univ : Finset TileIx), p ≠ p' →
    Disjoint (resSet (coordsV p.1 p.2)) (resSet (coordsV p'.1 p'.2)) := fun p _ p' _ hne =>
  Finset.disjoint_left.mpr fun x hx hx' => hne (tileNo_inj (Fin.ext (((mem_resSet _ x).mp hx).symm.trans ((mem_resSet _ x).mp hx'))))

/-- Every number below 32 is a tile's. -/
theorem tile_of (n : ℕ) (h : n < 32) : ∃ p : TileIx, (tileNo (coordsV p.1 p.2)).val = n :=
  ⟨(⟨n / 16, by show n / 16 < 2; omega⟩, ⟨n % 16, by show n % 16 < 16; omega⟩), by show 16 * (n / 16) + n % 16 = n; omega⟩

theorem tabSets_cover : (Finset.univ : Finset TileIx).biUnion (fun p => tabSet (coordsV p.1 p.2)) = Finset.univ :=
  Finset.eq_univ_of_forall fun x => by
    obtain ⟨p, hp⟩ := tile_of (x 0).val (x 0).isLt
    exact Finset.mem_biUnion.mpr ⟨p, Finset.mem_univ _, (mem_tabSet _ x).mpr hp.symm⟩
theorem resSets_cover : (Finset.univ : Finset TileIx).biUnion (fun p => resSet (coordsV p.1 p.2)) = Finset.univ :=
  Finset.eq_univ_of_forall fun x => by
    obtain ⟨p, hp⟩ := tile_of (x 0).val (x 0).isLt
    exact Finset.mem_biUnion.mpr ⟨p, Finset.mem_univ _, (mem_resSet _ x).mpr hp.symm⟩

/-- What a tile reads of the table through its part: its row. -/
theorem tab_read {Val : EltTy → Type} (i : grid1.Coords) (f : S32x25x16.Idx → Val .i32) (s : Fin 25) (k : Fin 16) :
    (metaPart i tabM).view.read Val f (ix2 s k) = f (ix3 (tileNo i) s k) := by
  have hc : S1x25x16.ShapeCasts S25x16 := squeezes_S1x25x16_S25x16.numel_eq.symm
  have h : (metaPart i tabM).view.read Val f
      = shapeCast S25x16 (s := S1x25x16) (fun j => f ((Rect.unit (s := S32x25x16) (k1_off1 i) S1x25x16.size (k1_off1_inb i)).emb j)) hc := rfl
  rw [h]
  refine (shapeCast_1ab_ab_apply (a := 25) (b := 16) _ hc s k).trans ?_
  show f _ = f _
  congr 1
  funext a
  match a with
  | 0 => exact Fin.ext (by show k1_off1 i 0 + 1 * 0 = 16 * (i 0).val + (i 1).val; rw [k1_off1_eq]; rfl)
  | 1 => exact Fin.ext (by show k1_off1 i 1 + 1 * s.val = s.val; rw [k1_off1_eq]; show 0 + 1 * s.val = _; omega)
  | 2 => exact Fin.ext (by show k1_off1 i 2 + 1 * k.val = k.val; rw [k1_off1_eq]; show 0 + 1 * k.val = _; omega)

/-- What is read of the result through a tile's part: the tile's rows. -/
theorem res_read {Val : EltTy → Type} (i : grid1.Coords) (f : S32x32x128.Idx → Val .f32) (s : Fin 32) (x : Fin 128) :
    (outPart i resM).view.read Val f (ix2 s x) = f (ix3 (tileNo i) s x) := by
  have hc : S1x32x128.ShapeCasts S32x128 := squeezes_S1x32x128_S32x128.numel_eq.symm
  have h : (outPart i resM).view.read Val f
      = shapeCast S32x128 (s := S1x32x128) (fun j => f ((Rect.unit (s := S32x32x128) (k1_off130 i) S1x32x128.size (k1_off130_inb i)).emb j)) hc := rfl
  rw [h]
  refine (shapeCast_1ab_ab_apply (a := 32) (b := 128) _ hc s x).trans ?_
  show f _ = f _
  congr 1
  funext a
  match a with
  | 0 => exact Fin.ext (by show k1_off130 i 0 + 1 * 0 = 16 * (i 0).val + (i 1).val; rw [k1_off130_eq]; rfl)
  | 1 => exact Fin.ext (by show k1_off130 i 1 + 1 * s.val = s.val; rw [k1_off130_eq]; show 0 + 1 * s.val = _; omega)
  | 2 => exact Fin.ext (by show k1_off130 i 2 + 1 * x.val = x.val; rw [k1_off130_eq]; show 0 + 1 * x.val = _; omega)

/-- A slot's row of the tile's part of an array given by its words in row-major order. -/
theorem mrow_words {F : FTy → Type} (L : Fin 12800 → BitVec 32) (i : grid1.Coords) (s : ℕ) (hs : s < 25) :
    mrow ((metaPart i tabM).view.read (Elt F) (fun x => L (S32x25x16.rowMajor x)))  s
      = fun k : Fin 16 => L ⟨((tileNo i).val * 25 + s) * 16 + k.val, by have := (tileNo i).isLt; omega⟩ := by
  funext k
  refine (tab_read (Val := Elt F) i (fun x => L (S32x25x16.rowMajor x)) (Fin.ofNat 25 s) k).trans ?_
  refine congrArg L (Fin.ext ?_)
  refine (Shape.rowMajor_val_three (ix3 (tileNo i) (Fin.ofNat 25 s) k)).trans ?_
  show ((tileNo i).val * 25 + s % 25) * 16 + k.val = _
  rw [Nat.mod_eq_of_lt hs]

/-- A slot's row of the tile's part of the table is the table's. -/
theorem mrow_table {F : FTy → Type} (i : grid1.Coords) (s : ℕ) (hs : s < 25) :
    mrow ((metaPart i tabM).view.read (Elt F) table) s = tableRow (tileNo i) ⟨s, hs⟩ := mrow_words lit0 i s hs

end Cert.Proof

end
-- ==== Proof.Region.lean ====
/-
  The TensorCore's part: 25 blocks of 12800 rows, each row of a block's result the sum of 16 rows in sequence. The last
  block hangs over the end of the array, so what its last rows hold is not named; this module says what the others are.
-/
module

public import proofs.«01_k».proof.Proof.Own
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.ArrRel
public import Idealize.ShloMosaic.Lib.Pipeline.Regions
public import Idealize.ShloMosaic.Lib.ValueIdx

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx)
open Idealize.ShloMosaic.Rounds Idealize.ShloMosaic.Pipeline
open Idealize.SL Idealize.SL.RA Idealize.SL.BI
open scoped Idealize.SL.BI
open Idealize.SL.BI.BIBase Idealize.SL.BI.Laws Idealize.SL.ProofMode Idealize.SL.Sem
open TcCoe

variable {F : FTy → Type} [FloatOps F] [∀ e, Nonempty (Elt F e)]

/-- The handshake's rounds, the pipeline's rounds and the copies' counters. -/
abbrev UH : Type := URounds (GSem nD τ sig) ℕ
abbrev UU : Type := UH × (UR sig nD τ × Counters)

local notation "𝕄" => MT nD τ sig (HIx 1) (Elt F) ℕ UU ℕ

/-- Where the handshake's rounds sit, -/
def EH : Emb UH (MT nD τ sig (HIx 1) (Elt F) ℕ UU ℕ) := embL
/-- the pipeline's, -/
def EP : Emb (UR sig nD τ) (MT nD τ sig (HIx 1) (Elt F) ℕ UU ℕ) :=
  (Emb.inl : Emb (UR sig nD τ) (UR sig nD τ × Counters)).trans embR
/-- and the counters. -/
abbrev EC : UEmb Counters (MT nD τ sig (HIx 1) (Elt F) ℕ UU ℕ) := countersEmb

instance EH_landsIn : (EH (F := F)).LandsIn (upEmb : UEmb _ 𝕄) := by unfold EH; infer_instance
instance EP_landsIn : (EP (F := F)).LandsIn (upEmb : UEmb _ 𝕄) := by unfold EP embR; infer_instance

/-- The labels, the body table and the variants below the SparseCore's. -/
abbrev ΛP : Labels := Pipeline.Sig Λ₀ (Fin 1) fun p => (pcfgs (F := F) p).Adm
abbrev D : Defs nD τ sig (Elt F) (ΛP (F := F)) := Pipeline.defs pcfgs defs₀
abbrev 𝒱₀ : Variants := Variants.none
abbrev 𝒱 : Variants := 𝒱₀.lift

/-- The (only) tables the pipeline runs at: none. -/
abbrev adm (p : Fin 1) : (pcfgs (F := F) p).Adm := (cfgs p).toPCfg_adm

/-- The chunk sums: block `t` of `C` is what the body computes from some block that agrees with `N` inside the array. -/
def Csums (N : S319600x128.Idx → F .f32) (C : S20000x128.Idx → F .f32) : Prop :=
  ∀ t : Fin 25, ∃ Y : S12800x128.Idx → F .f32,
    (∀ (j : S12800x128.Idx) (h : t.val * 12800 + (j 0).val < 319600), Y j = N (ix2 ⟨t.val * 12800 + (j 0).val, h⟩ (j 1)))
      ∧ ∀ y : S800x128.Idx, C (ix2 ⟨t.val * 800 + (y 0).val, by have := t.isLt; have : (y 0).val < 800 := (y 0).isLt; omega⟩ (y 1)) = k0_pay1 Y y

section

variable (N : S319600x128.Idx → F .f32) (V0 : S20000x128.Idx → F .f32)
variable (O : CellTallies nD τ sig (HIx 1)) (B : Set (SemLoc sig × HIx 1))

/-- The proof's data: the input is left as found; the output is the body's value of some block of the input. -/
def rdat (c : Dev nD) : RDat τ (Elt F) (HIx 1) ℕ UU ℕ cfg0 c where
  A w := match w with
    | 0 => N
    | 1 => V0
    | ⟨_ + 2, h⟩ => absurd h (Nat.not_lt.2 (Nat.le_add_left _ _))
  after w t Y X := match w with
    | 0 => X = Y
    | 1 => ∃ d : S12800x128.Idx → F .f32, X = k0_pay1 (win0_0.fill (grid0.coords t) d ((win0_0.blk t).view.read (Elt F) N))
    | ⟨_ + 2, h⟩ => absurd h (Nat.not_lt.2 (Nat.le_add_left _ _))
  Φ _ := iprop(emp)
  q _ := fullShare
  owed _ := O
  recorded _ := B

/-- A rectangle at offset zero of the whole shape's sizes places every index where it is. -/
theorem emb_full {s : Shape} (off : Fin s.rank → ℕ) (h0 : ∀ a, off a = 0) (inb : ∀ a, off a + s.size a ≤ s.size a) (j : s.Idx) :
    (Rect.unit (s := s) off s.size inb).emb j = j := by
  funext a
  apply Fin.ext
  rw [Rect.emb_apply]
  show off a + 1 * (j a).val = (j a).val
  rw [h0 a]; omega

/-- Overlaying such a rectangle replaces everything. -/
theorem overlay_full {s : Shape} {α : Type} (off : Fin s.rank → ℕ) (h0 : ∀ a, off a = 0) (inb : ∀ a, off a + s.size a ≤ s.size a) (X w : s.Idx → α) :
    (Rect.unit (s := s) off s.size inb).overlay X w = w := by
  funext j
  conv_lhs => rw [← emb_full off h0 inb j]
  exact Rect.overlay_emb _ _ _ _

theorem zero2 (n : Fin 2) : (![0, 0] : Fin 2 → ℕ) n = 0 := by
  match n with
  | 0 => rfl
  | 1 => rfl

theorem sound_body (c : Dev nD) (ι : HIx 1) : (rdat N V0 O B c).BodyObligation (defs₀ (F := F)) 𝒱₀ ι Set.univ := by
  intro t Y hY
  obtain ⟨d, hd⟩ := ((rdat N V0 O B c).finds_of_fetch (fetch0_0 t) (Y 0)).mp (hY 0)
  rw [bigSep_W0, bigSep_W0]
  show _ ⊢ wp frame _ _ (bodyAt0 t) _
  unfold bodyAt0
  rw [cc0__chunk_sum_body_eq_skeleton]
  unfold cc0__chunk_sum_body_skel
  simp only [wp_bind]
  iintro ⟨-, HO, H0, H1⟩
  iapply (own_load 𝒱₀ (c : Thread nD τ) none) $$ H0
  iintro H0
  iapply (own_load 𝒱₀ (c : Thread nD τ) none) $$ H1
  iintro H1
  iapply (own_store 𝒱₀ (c : Thread nD τ) none) $$ H1
  iintro H1
  rw [wp_pure]
  imodintro
  isplitr; · iempintro
  isplitl [HO]; · iexact HO
  isplitl [H0]
  · iexists (Y 0); isplitr; · ipureintro; exact rfl
    iexact H0
  iexists (k0_pay1 (Y 0)); isplitr
  · ipureintro; exact ⟨d, congrArg k0_pay1 hd⟩
  have e0 : (fun i => Y 0 ((Rect.unit (s := S12800x128) ![0, 0] S12800x128.size inb_S12800x128_S12800x128_0_0).emb i)) = Y 0 :=
    funext fun i => congrArg (Y 0) (emb_full (s := S12800x128) ![0, 0] zero2 inb_S12800x128_S12800x128_0_0 i)
  have e1 := overlay_full (s := S800x128) ![0, 0] zero2 inb_S800x128_S800x128_0_0 (Y 1) (k0_pay1 (Y 0))
  rw [← e1, ← congrArg k0_pay1 e0]
  iexact H1

/-- The grid's points in order, as block numbers. -/
theorem coord0 : ∀ t : Fin grid0.N, cc0_transform_0 (grid0.coords t) 0 = t.val ∧ cc0_transform_0 (grid0.coords t) 1 = 0
    ∧ cc0_transform_1 (grid0.coords t) 0 = t.val ∧ cc0_transform_1 (grid0.coords t) 1 = 0 := by decide

/-- How much of a block lies inside the input: all of it, but for the last one's last 400 rows. -/
theorem xsize0 : ∀ t : Fin grid0.N, (t.val * 12800 + win0_0.xsize (grid0.coords t) 0 = 319600 ∨ win0_0.xsize (grid0.coords t) 0 = 12800)
    ∧ win0_0.xsize (grid0.coords t) 1 = 128 := by decide +kernel

/-- A filled block agrees with the input wherever it lies inside it. -/
theorem fill_at (t : Fin grid0.N) (d : S12800x128.Idx → F .f32) (j : S12800x128.Idx) (h : t.val * 12800 + (j 0).val < 319600) :
    win0_0.fill (grid0.coords t) d ((win0_0.blk t).view.read (Elt F) N) j = N (ix2 ⟨t.val * 12800 + (j 0).val, h⟩ (j 1)) := by
  have hm : win0_0.moved (grid0.coords t) j = true := by
    rw [Window.moved_iff]
    have hx := xsize0 t
    intro a
    match a with
    | 0 => have : (j 0).val < 12800 := (j 0).isLt
           rcases hx.1 with h1 | h1 <;> omega
    | 1 => have : (j 1).val < 128 := (j 1).isLt
           rw [hx.2]; exact this
  unfold Window.fill
  rw [dif_pos hm]
  show N _ = _
  congr 1
  obtain ⟨c0, c1, -, -⟩ := coord0 t
  funext a
  match a with
  | 0 =>
    apply Fin.ext
    show cc0_transform_0 (grid0.coords t) 0 * 12800 + 1 * (j 0).val = _
    rw [c0, Nat.one_mul]; rfl
  | 1 =>
    apply Fin.ext
    show cc0_transform_0 (grid0.coords t) 1 * 128 + 1 * (j 1).val = _
    rw [c1, Nat.one_mul, Nat.zero_mul, Nat.zero_add]; rfl

/-- What the output's array may hold at the end are chunk sums. -/
theorem csums_of_arrAt (c : Dev nD) (C : S20000x128.Idx → F .f32) (h : (rdat N V0 O B c).ArrAt 1 cfg0.N C) : Csums N C := by
  obtain ⟨X, hX, hA⟩ := RDat.ArrAt.exists_exact h
  have hL : ∀ t : Fin cfg0.N, ∃ d : S12800x128.Idx → F .f32, X t = k0_pay1 (win0_0.fill (grid0.coords t) d ((win0_0.blk t).view.read (Elt F) N)) :=
    fun t => by obtain ⟨_, _, h⟩ := hX t t.isLt (flush0_1 t); exact h
  have e := hA (Function.update (fun _ _ _ => Classical.arbitrary _) 1 X) fun u _ _ => by rw [Function.update_self]
  have hall := Dat.arrAt_forall_of_covers ((rdat N V0 O B c).withAfter (Function.update (fun _ _ _ => Classical.arbitrary _) 1 X)) 1
    (fun i v => ∀ (t : Fin cfg0.N) (y : S800x128.Idx), (i 0).val = t.val * 800 + (y 0).val → (i 1).val = (y 1).val → v = X t y)
    (by decide +kernel)
    (fun t _ y t' y' h0 h1 => by
      rw [RDat.withAfter_after, Function.update_self]
      obtain ⟨-, -, c0, c1⟩ := coord0 t
      replace h0 : cc0_transform_1 (grid0.coords t) 0 * 800 + 1 * (y 0).val = t'.val * 800 + (y' 0).val := h0
      replace h1 : cc0_transform_1 (grid0.coords t) 1 * 128 + 1 * (y 1).val = (y' 1).val := h1
      rw [c0] at h0
      rw [c1] at h1
      have b0 : (y 0).val < 800 := (y 0).isLt
      have b1 : (y' 0).val < 800 := (y' 0).isLt
      have et : t = t' := Fin.ext (by omega)
      subst et
      show X t _ = X t y'
      congr 1
      funext a
      match a with
      | 0 => exact Fin.ext (by show (y 0).val = _; omega)
      | 1 => exact Fin.ext (by show (y 1).val = _; omega))
  rw [← e] at hall
  intro t
  obtain ⟨d, hd⟩ := hL t
  refine ⟨_, fun j hj => fill_at N t d j hj, fun y => ?_⟩
  rw [← hd]
  exact hall _ t y rfl rfl

end

section

/-- The SparseCore calls. -/
abbrev K : SparseCore.Cfg τ sig (ΛP (F := F)) 1 := sc (F := F)

variable (N : Dev nD → S319600x128.Idx → F .f32) (V0 : Dev nD → S20000x128.Idx → F .f32)
variable (O : Dev nD → CellTallies nD τ sig (HIx 1)) (B : Dev nD → Set (SemLoc sig × HIx 1))

/-- The family of the one pipeline's data. -/
abbrev rdats (p : Fin 1) (c : Dev nD) : RDat τ (Elt F) (HIx 1) ℕ UU ℕ (Pipeline.pin (pcfgs (F := F)) adm p) c :=
  match p with
  | 0 => rdat (N c) (V0 c) (O c) (B c) c
  | ⟨_ + 1, h⟩ => absurd h (Nat.not_lt.2 (Nat.le_add_left _ _))

/-- The input's and the output's arrays, one by one. -/
theorem arrays_two (c : Dev nD) (A : (w : Fin cfg0.W) → Buf (Elt F) ((cfg0.win w).arr.view.loc (c.tc : Thread nD τ))) :
    ((rdat (N c) (V0 c) (O c) (B c) c).arrays A : sProp 𝕄)
      = iprop(((c.tc : Thread nD τ).loc main_arg0 ↦{fullShare} A 0) ∗ ((c.tc : Thread nD τ).loc main_v0 ↦{fullShare} A 1)) := by
  have h := RDat.arrays_eq (pcfgs (F := F)) adm (rdats N V0 O B) 0 c arr_whole0 (fun w => by
    show (if (cfg0.win w).isOut then fullShare else fullShare) = fullShare
    split <;> rfl) A
  refine h.trans ?_
  exact bigSep_W0 _

/-- The region: entered from the input and the output's array, left with the input unchanged and chunk sums in the output's
    array, what the core owes to the SparseCores untouched. -/
def region (hO : ∀ c g, O c g none = 0) (hB : ∀ c sm, (sm, none) ∈ B c) :
    RDat.RegionSeg (pcfgs (F := F)) adm (rdats N V0 O B) none defs₀ 𝒱₀ (K (F := F)).L (K (F := F)).lev 0 where
  win := launch0.win.to₀
  block_pos := block_pos0
  stage_whole := stage_whole0
  K := PEmpty
  osem := fun k => k.elim
  ho := OwnSemFacts.none _
  hbody c := sound_body (N c) (V0 c) (O c) (B c) c none
  hwaits c := RDat.cellsWaits_intro _ _ _ _ _ fun w s t => (K (F := F)).mayWait_none _ (hO c)
  pre c := iprop(((c.tc : Thread nD τ).loc main_arg0 ↦{fullShare} N c) ∗ ((c.tc : Thread nD τ).loc main_v0 ↦{fullShare} V0 c)
    ∗ owesWithin c (O c) (B c))
  post c := iprop(((c.tc : Thread nD τ).loc main_arg0 ↦{fullShare} N c)
    ∗ (∃ C : S20000x128.Idx → F .f32, ⌜Csums (N c) C⌝ ∗ ((c.tc : Thread nD τ).loc main_v0 ↦{fullShare} C)) ∗ owesWithin c (O c) (B c))
  X c := iprop(emp)
  Y c := iprop(emp)
  Z c := iprop(emp)
  hentry c := by
    show _ ⊢ |={Set.univ}=> iprop((rdat (N c) (V0 c) (O c) (B c) c).arrays _ ∗ _)
    rw [arrays_two]
    iintro ⟨⟨Ha, Hv, HO⟩, -, -⟩
    imodintro
    isplitl [Ha Hv]
    · isplitl [Ha]; · iexact Ha
      iexact Hv
    isplitr
    · unfold prefHeld
      rw [show (Finset.univ : Finset (Fin (pcfgs (F := F) 0).pre.K)) = ∅ from rfl, bigSep_empty]
      iempintro
    isplitl [HO]
    · iapply (owesWithin_mono c (O c) (show B c ⊆ B c ∪ _ from Set.subset_union_left)); iexact HO
    isplitr <;> iempintro
  hin c := by
    show _ ⊢ (BI.emp : sProp 𝕄)
    iintro -
    iempintro
  hout c := by
    rw [show (scopedRest (Pipeline.pin (pcfgs (F := F)) adm 0).spec c : sProp 𝕄) = BI.emp from scopedRest0_eq c]
    iintro -
    isplitr; · iempintro
    isplitr
    · unfold ownSems0
      rw [show (Finset.univ : Finset PEmpty) = ∅ from rfl, bigSep_empty]
      iempintro
    iempintro
  hexit c := by
    show iprop((rdat (N c) (V0 c) (O c) (B c) c).arraysAt cfg0.N ∗ _) ⊢ _
    unfold RDat.arraysAt
    rw [bigSep_W0]
    iintro ⟨⟨⟨%A0, %hA0, H0⟩, ⟨%C, %hC, H1⟩⟩, HO, -, -⟩
    have hA0' : A0 = N c := by
      have := (rdat (N c) (V0 c) (O c) (B c) c).ArrAt_in 0 rfl cfg0.N
      rw [this] at hA0; exact hA0
    subst hA0'
    imodintro
    isplitl [H0]
    · rw [← (Memref.isWhole_whole (main_arg0 : Ref sig .tc)).set_eq_univ]; iexact H0
    isplitl [H1]
    · iexists C; isplitr; · ipureintro; exact csums_of_arrAt (N c) (V0 c) (O c) (B c) c C hC
      rw [← (Memref.isWhole_whole (main_v0 : Ref sig .tc)).set_eq_univ]; iexact H1
    iapply (owesWithin_mono c (O c) (show B c ∪ cfg0.waitPairs none ⊆ B c from Set.union_subset (fun _ h => h) (by rintro _ ⟨w, s, rfl⟩; exact hB c _))); iexact HO

end

end Cert.Proof

end
-- ==== Proof.Task.lean ====
/-
  The SparseCore call's tasks: what the launch hands each tile, what it gets back, and the tile's body between the two.
-/
module

public import proofs.«01_k».proof.Proof.Parts
public import proofs.«01_k».proof.Proof.Region
public import Idealize.ShloMosaic.Lib.SparseCore.Quiescent
public import Idealize.ShloMosaic.Lib.SparseCore.Ops
public import Idealize.ShloMosaic.Lib.ShareLeaves

@[expose] public section

noncomputable section

namespace Cert.Proof

open Cert.KernelIdeal Cert.KernelIdeal.Gen
open Idealize.ShloMosaic Idealize.ShloMosaic.ValueIdx
open Idealize.ShloMosaic.SparseCore (S V)
open Idealize.ShloMosaic.SparseCore.Cfg (HIx Pay ownBufs ownSems0 ownCells ownRefs mem_ownCells mem_ownRefs)
open Idealize.ShloMosaic.Rounds Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig (HIx 1) (Elt F) ℕ UU ℕ

/-- The launch's side conditions on the handshake's cells. -/
theorem facts_sc : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

abbrev v₀ : 𝒱.V := Sum.inl none

variable (m : (ℓ : Loc nD τ sig) → Buf (Elt F) ℓ)

/-- The node rows, the chunk sums, the table and the result. -/
abbrev aLoc (d : Dev nD) : Loc nD τ sig := (SparseCore.T d).loc main_arg0
abbrev sLoc (d : Dev nD) : Loc nD τ sig := (SparseCore.T d).loc main_v0
abbrev tLoc (d : Dev nD) : Loc nD τ sig := (SparseCore.T d).loc main_c
abbrev rLoc (d : Dev nD) : Loc nD τ sig := (SparseCore.T d).loc main_v1

/-- A tile's share of an array that every tile reads. -/
def shr (i : grid1.Coords) : PosShare TreeShare :=
  ShareLeaves.leaf 4 (ShareLeaves.leaf 1 fullShare (Fin.cast (show grid1.bound 0 = 2 ^ 1 from rfl) (i 0))) (Fin.cast (show grid1.bound 1 = 2 ^ 4 from rfl) (i 1))

/-- A tile's part of the result holds, for some chunk sums of the node rows, what its 25 slots write. -/
def PartOK (N : S319600x128.Idx → F .f32) (i : grid1.Coords) (Z : S32x32x128.Idx → F .f32) : Prop :=
  ∃ C, Csums N C ∧ ∀ (s : Fin 25) (x : Fin 128), Z (ix3 (tileNo i) ⟨s.val, by omega⟩ x) = outRow N C (tableRow (tileNo i) s) x

/-- What a tile is handed: its shares of the node rows and of some chunk sums of them, its row of the table, its part of the
    result at any contents; -/
def goP (d : Dev nD) (i : grid1.Coords) : sProp 𝕄 :=
  iprop((aLoc d ↦{shr i} m (aLoc d)) ∗ (∃ C : S20000x128.Idx → F .f32, ⌜Csums (m (aLoc d)) C⌝ ∗ (sLoc d ↦{shr i} C))
    ∗ (tLoc d ↦[tabSet i]{fullShare} (table : Buf (Elt F) (tLoc d))) ∗ ∃ Z, (rLoc d ↦[resSet i]{fullShare} Z))
/-- and what it gives back: its share of the node rows and its part of the result, written. -/
def tdP (d : Dev nD) (i : grid1.Coords) : sProp 𝕄 :=
  iprop((aLoc d ↦{shr i} m (aLoc d)) ∗ ∃ Z : Buf (Elt F) (rLoc d), ⌜PartOK (m (aLoc d)) i Z⌝ ∗ (rLoc d ↦[resSet i]{fullShare} Z))

instance goP_storable (d : Dev nD) (i : grid1.Coords) : BI.Storable (upEmb : UEmb _ 𝕄) (goP m d i) := by unfold goP; infer_instance
instance tdP_storable (d : Dev nD) (i : grid1.Coords) : BI.Storable (upEmb : UEmb _ 𝕄) (tdP m d i) := by unfold tdP; infer_instance

/-! ## A tile's own buffers and cells -/

/-- The tile's eight scratch buffers, -/
abbrev scr : Fin 8 → Ref sig .scVector := ![cc1_scratch0, cc1_scratch1, cc1_scratch2, cc1_scratch3, cc1_scratch4, cc1_scratch5, cc1_scratch6, cc1_scratch7]
theorem scr_inj : Function.Injective scr := by decide
/-- and its eight copy cells. -/
abbrev dcell (d : Dev nD) (i : grid1.Coords) (k : Fin 8) : GSem nD τ sig := (VT d i, .dma (⟨4 + k.val, by have := k.isLt; show 4 + k.val < 12; omega⟩ : DmaSem sig))

theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem dcell_mem (d : Dev nD) (i : grid1.Coords) (k : Fin 8) : dcell d i k ∈ ownCells (VT d i) :=
  mem_ownCells.mpr ⟨rfl, (show ∀ s : DmaSem sig, (SemLoc.dma s : SemLoc sig).isScoped .scVector = true by decide) _⟩

/-- The cells the body names, at zero. -/
abbrev cells0 (d : Dev nD) (i : grid1.Coords) : sProp 𝕄 :=
  iprop(semVal (VT d i, .dma cc1_scratch8.sem) 0 ∗ semVal (VT d i, .dma cc1_scratch9.sem) 0 ∗ semVal (VT d i, .dma cc1_scratch10.sem) 0
    ∗ semVal (VT d i, .dma cc1_scratch11.sem) 0 ∗ semVal (VT d i, .dma cc1_scratch12.sem) 0 ∗ semVal (VT d i, .dma cc1_scratch13.sem) 0
    ∗ semVal (VT d i, .dma cc1_scratch14.sem) 0 ∗ semVal (VT d i, .dma cc1_scoped0.sem) 0)

/-- The tile's cells at zero: those its body names, and the rest. -/
theorem ownSems0_VT (d : Dev nD) (i : grid1.Coords) :
    (SparseCore.Cfg.ownSems0 (VT d i) : sProp 𝕄)
      = iprop(cells0 d i ∗ bigSep (ownCells (VT d i) \ Finset.univ.image (dcell d i)) fun g => semVal g 0) := by
  unfold SparseCore.Cfg.ownSems0
  rw [SparseCore.bigSep_sdiff_split' (t := Finset.univ.image (dcell d i)) (Finset.image_subset_iff.mpr fun k _ => dcell_mem d i k),
    SparseCore.bigSep_image_of_injOn (fun a _ b _ h => by
      have := congrArg (fun g : GSem nD τ sig => g.2) h
      simp only [SemLoc.dma.injEq, Fin.mk.injEq] at this; exact Fin.ext (by omega)), bigSep_eight]
  rfl

/-- The scratch buffers the body names, at some contents. -/
abbrev scratch (d : Dev nD) (i : grid1.Coords) : sProp 𝕄 :=
  iprop((∃ f, (VT d i).loc cc1_scratch0 ↦{fullShare} f) ∗ (∃ f, (VT d i).loc cc1_scratch1 ↦{fullShare} f) ∗ (∃ f, (VT d i).loc cc1_scratch2 ↦{fullShare} f)
    ∗ (∃ f, (VT d i).loc cc1_scratch3 ↦{fullShare} f) ∗ (∃ f, (VT d i).loc cc1_scratch4 ↦{fullShare} f) ∗ (∃ f, (VT d i).loc cc1_scratch5 ↦{fullShare} f)
    ∗ (∃ f, (VT d i).loc cc1_scratch6 ↦{fullShare} f) ∗ (∃ f, (VT d i).loc cc1_scratch7 ↦{fullShare} f))

/-- The tile's buffers: the scratch buffers and the rest. -/
theorem ownBufs_VT (d : Dev nD) (i : grid1.Coords) :
    (SparseCore.Cfg.ownBufs (VT d i) : sProp 𝕄)
      = iprop(scratch d i ∗ bigSep (ownRefs (τ := τ) (VT d i).2 \ Finset.univ.image (fun k => (VT d i).2.devRef (scr k)))
          fun b => iprop(∃ f, ((d, b) : Loc nD τ sig) ↦{fullShare} f)) := by
  unfold SparseCore.Cfg.ownBufs
  rw [SparseCore.bigSep_sdiff_split' (t := Finset.univ.image (fun k => (VT d i).2.devRef (scr k))) (Finset.image_subset_iff.mpr fun k _ =>
      SparseCore.Cfg.mem_ownRefs_of_owner (p := (VT d i).2) (b := (VT d i).2.devRef (scr k)) (by fin_cases k <;> rfl)),
    SparseCore.bigSep_image_of_injOn (fun a _ b _ h => scr_inj (Proc.devRef_injective _ h)), bigSep_eight]
  rfl

/-! ## The task -/

/-- The four shares a tile's share is cut into, each at once. -/
theorem quarters {ℓ : Loc nD τ sig} {I : Finset (Idx ℓ)} (q : PosShare TreeShare) (f : Buf (Elt F) ℓ) :
    (ℓ ↦[I]{q} f : sProp 𝕄) = iprop(((ℓ ↦[I]{q.left.left} f) ∗ (ℓ ↦[I]{q.left.right} f)) ∗ (ℓ ↦[I]{q.right.left} f) ∗ (ℓ ↦[I]{q.right.right} f)) := by
  have h (q : PosShare TreeShare) : (ℓ ↦[I]{q} f : sProp 𝕄) = iprop((ℓ ↦[I]{q.left} f) ∗ (ℓ ↦[I]{q.right} f)) :=
    BI.Entails.antisymm (pointsTo_share (PosShare.mem_left_op_right q)).1 (pointsTo_share (PosShare.mem_left_op_right q)).2
  rw [h q, h q.left, h q.right]

theorem halves {ℓ : Loc nD τ sig} {I : Finset (Idx ℓ)} (q : PosShare TreeShare) (f : Buf (Elt F) ℓ) :
    (ℓ ↦[I]{q} f : sProp 𝕄) = iprop((ℓ ↦[I]{q.left} f) ∗ (ℓ ↦[I]{q.right} f)) :=
  BI.Entails.antisymm (pointsTo_share (PosShare.mem_left_op_right q)).1 (pointsTo_share (PosShare.mem_left_op_right q)).2

/-- The words of a tile's row of the table are well formed. -/
theorem rows_ok (i : grid1.Coords) : ∀ n < 25, RowOK (mrow ((metaPart i tabM).view.read (Elt F) table) n) := fun n hn => by
  rw [mrow_table i n hn]; exact (table_ok _ _).1

/-- A tile's part of the result, at contents that read what its slots write, is written. -/
theorem partOK_of (N : S319600x128.Idx → F .f32) (C : S20000x128.Idx → F .f32) (hC : Csums N C) (i : grid1.Coords) (Z : S32x32x128.Idx → F .f32)
    (h : Written N C ((metaPart i tabM).view.read (Elt F) table) 25 ((outPart i resM).view.read (Elt F) Z)) : PartOK N i Z := by
  refine ⟨C, hC, fun s x => ?_⟩
  have h' := congrFun (h s.val s.isLt) x
  rw [mrow_table i s.val s.isLt] at h'
  rw [← h']
  have e : Fin.ofNat 32 s.val = (⟨s.val, by omega⟩ : Fin 32) := Fin.ext (Nat.mod_eq_of_lt (by omega))
  show _ = (outPart i resM).view.read (Elt F) Z (ix2 (Fin.ofNat 32 s.val) x)
  rw [e]
  exact (res_read (Val := Elt F) i Z ⟨s.val, by omega⟩ x).symm

/-- A tile's body runs from what the tile is handed to what it gives back. -/
theorem tile_body (d : Dev nD) (i : grid1.Coords) (O : CellTallies nD τ sig (HIx 1)) (W : Waits sig (HIx 1)) (hO : ∀ g, O g none = 0) :
    iprop(levAts (K (F := F)).L (K (F := F)).lev ∗ emp ∗ goP m d i ∗ scopedBufs (VT d i) ∗ scopedSems0 (VT d i) ∗ owes (VT d i) O W)
      ⊢ wp Idealize.ShloMosaic.frame (wpE (defs₀ (F := F)) 𝒱₀ (VT d i) none) Set.univ
          (cc1_body i (Memref.whole main_arg0_scv) (Memref.isWhole_whole _) (Memref.whole main_v0_scv) (Memref.isWhole_whole _) (Memref.whole main_c_scv) (Memref.isWhole_whole _)
            (Memref.whole main_v1_scv) (Memref.isWhole_whole _) (Memref.whole cc1_scratch0) (Memref.isWhole_whole _) (Memref.whole cc1_scratch1) (Memref.isWhole_whole _)
            (Memref.whole cc1_scratch2) (Memref.isWhole_whole _) (Memref.whole cc1_scratch3) (Memref.isWhole_whole _) (Memref.whole cc1_scratch4) (Memref.isWhole_whole _)
            (Memref.whole cc1_scratch5) (Memref.isWhole_whole _) (Memref.whole cc1_scratch6) (Memref.isWhole_whole _) (Memref.whole cc1_scratch7) (Memref.isWhole_whole _)
            cc1_scratch8 cc1_scratch9 cc1_scratch10 cc1_scratch11 cc1_scratch12 cc1_scratch13 cc1_scratch14 cc1_scoped0)
          fun _ => iprop(tdP m d i ∗ scopedBufs (VT d i) ∗ scopedSems0 (VT d i)
            ∗ ∃ W', ⌜∀ p ∈ W', p ∈ W ∨ p.2 = none ∨ p.2 = some (0 : Fin 1)⌝ ∗ owes (VT d i) O W') := by
  rw [(K (F := F)).scopedBufs_V facts_sc d _ _, SparseCore.Cfg.scopedSems0_V (Val := Elt F) d _ _]
  unfold goP tdP
  rw [show (SparseCore.Cfg.ownSems0 (V d ((i 0).castLE hcore1) ((i 1).castLE hsub1)) : sProp 𝕄) = _ from ownSems0_VT d i,
    show (SparseCore.Cfg.ownBufs (V d ((i 0).castLE hcore1) ((i 1).castLE hsub1)) : sProp 𝕄) = _ from ownBufs_VT d i]
  iintro ⟨#Hlv, -, ⟨Ha, ⟨%C, %hC, Hs⟩, Ht, ⟨%Z, Hr⟩⟩, ⟨⟨⟨%f0, B0⟩, ⟨%f1, B1⟩, ⟨%f2, B2⟩, ⟨%f3, B3⟩, ⟨%f4, B4⟩, ⟨%f5, B5⟩, ⟨%f6, B6⟩, ⟨%f7, B7⟩⟩, Hbufs⟩,
    ⟨⟨S0, S1, S2, S3, S4, S5, S6, S7⟩, Hsems⟩, HO⟩
  ihave Hmw := (show levAts (K (F := F)).L (K (F := F)).lev ⊢ Transfers.MayWaits (VT d i) (default : HIx 1) O from
    (K (F := F)).mayWaits_none (thr := VT d i) hO) $$ Hlv
  ihave Ha := (Entails.of_eq (quarters (shr i) (m (aLoc d)))) $$ Ha
  icases Ha with ⟨⟨A0, A1⟩, A2, A3⟩
  ihave Hs := (Entails.of_eq (halves (ℓ := sLoc d) (shr i) C)) $$ Hs
  icases Hs with ⟨C0, C1⟩
  ihave Ht := (owns_intro (VT d i) (metaPart i tabM) fullShare table) $$ Ht
  ihave Hr := (owns_intro (VT d i) (outPart i resM) fullShare Z) $$ Hr
  iapply (tile EC 𝒱₀ d i none (default : HIx 1) (Memref.whole main_arg0_scv) (Memref.isWhole_whole _) (Memref.whole main_v0_scv) (Memref.isWhole_whole _) (Memref.whole main_c_scv) (Memref.isWhole_whole _)
            (Memref.whole main_v1_scv) (Memref.isWhole_whole _) (Memref.whole cc1_scratch0) (Memref.isWhole_whole _) (Memref.whole cc1_scratch1) (Memref.isWhole_whole _)
            (Memref.whole cc1_scratch2) (Memref.isWhole_whole _) (Memref.whole cc1_scratch3) (Memref.isWhole_whole _) (Memref.whole cc1_scratch4) (Memref.isWhole_whole _)
            (Memref.whole cc1_scratch5) (Memref.isWhole_whole _) (Memref.whole cc1_scratch6) (Memref.isWhole_whole _) (Memref.whole cc1_scratch7) (Memref.isWhole_whole _)
            cc1_scratch8 cc1_scratch9 cc1_scratch10 cc1_scratch11 cc1_scratch12 cc1_scratch13 cc1_scratch14 cc1_scoped0
      (N := m (aLoc d)) (C := C) (q4 := fullShare) (q3e := (shr i).left) (q3o := (shr i).right)
      (q2e := (shr i).left.left) (q2e' := (shr i).left.right) (q2o := (shr i).right.left) (q2o' := (shr i).right.right)
      (rows_ok (F := F) i) (M' := f0) (X := f1) (Z := (outPart i resM).view.read (Elt F) Z)) $$ [Hmw A0 A1 A2 A3 C0 C1 Ht Hr B0 B1 B2 B3 B4 B5 B6 B7 S0 S1 S2 S3 S4 S5 S6 S7 HO]
  · unfold Rest Landed
    simp only [owns_whole]
    isplitl [Hmw]; · iexact Hmw
    isplitl [Ht]; · iexact Ht
    isplitl [B0]; · iexact B0
    isplitl [S7]; · iexact S7
    isplitl [A0 A1 C0 B2 B4 B6 S0 S2 S4]
    · iexists f2, f4, f6
      isplitl [C0 B2 S0]; · isplitl [C0]; · iexact C0
                            isplitl [B2] <;> iassumption
      isplitl [A0 B4 S2]; · isplitl [A0]; · iexact A0
                            isplitl [B4] <;> iassumption
      isplitl [A1]; · iexact A1
      isplitl [B6] <;> iassumption
    isplitl [A2 A3 C1 B3 B5 B7 S1 S3 S5]
    · iexists f3, f5, f7
      isplitl [C1 B3 S1]; · isplitl [C1]; · iexact C1
                            isplitl [B3] <;> iassumption
      isplitl [A2 B5 S3]; · isplitl [A2]; · iexact A2
                            isplitl [B5] <;> iassumption
      isplitl [A3]; · iexact A3
      isplitl [B7] <;> iassumption
    isplitl [B1]; · iexact B1
    isplitl [Hr]; · iexact Hr
    isplitl [S6]; · iexact S6
    iexact HO
  unfold Rest Landed
  simp only [owns_whole]
  iintro - B0 S7 ⟨%g2, %g4, %g6, ⟨-, B2, S0⟩, ⟨A0, B4, S2⟩, ⟨A1, B6, S4⟩⟩ ⟨%g3, %g5, %g7, ⟨-, B3, S1⟩, ⟨A2, B5, S3⟩, ⟨A3, B7, S5⟩⟩ ⟨%X, %hX, B1, Hr⟩ S6 ⟨%W', HO⟩
  isplitl [A0 A1 A2 A3 Hr]
  · isplitl [A0 A1 A2 A3]
    · iapply (Entails.of_eq (quarters (shr i) (m (aLoc d))).symm)
      isplitl [A0 A1]
      · isplitl [A0] <;> iassumption
      isplitl [A2] <;> iassumption
    ihave Hr := (show (owns (VT d i) (outPart i resM) fullShare X : sProp 𝕄) ⊢ iprop(∃ f, ⌜(outPart i resM).view.read (Elt F) f = X⌝ ∗ ((outPart i resM).view.loc (VT d i) ↦[(outPart i resM).view.set]{fullShare} f)) from .rfl) $$ Hr
    icases Hr with ⟨%Z', %hZ, Hr⟩
    iexists Z'
    isplitr; · ipureintro; exact partOK_of _ C hC i Z' (hZ.symm ▸ hX)
    iexact Hr
  isplitl [B0 B1 B2 B3 B4 B5 B6 B7 Hbufs]
  · isplitr [Hbufs]
    · isplitl [B0]; · iexists _; iexact B0
      isplitl [B1]; · iexists _; iexact B1
      isplitl [B2]; · iexists _; iexact B2
      isplitl [B3]; · iexists _; iexact B3
      isplitl [B4]; · iexists _; iexact B4
      isplitl [B5]; · iexists _; iexact B5
      isplitl [B6]; · iexists _; iexact B6
      iexists _; iexact B7
    iexact Hbufs
  isplitl [S0 S1 S2 S3 S4 S5 S6 S7 Hsems]
  · isplitr [Hsems]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact Hsems
  iexists W'
  isplitr
  · ipureintro; intro p _
    rcases p.2 with _ | q
    · exact .inr (.inl rfl)
    · exact .inr (.inr (congrArg some (Subsingleton.elim q 0)))
  iexact HO

end Cert.Proof

end
-- ==== Proof.Launch.lean ====
/-
  The launch: @main on the TensorCore, the two SparseCores and their tiles, put together to the program's run. What the
  run leaves in the result is stated through the chunk sums that the TensorCore's kernel computed.
-/
module

public import proofs.«01_k».proof.Proof.Task
public import Idealize.ShloMosaic.Lib.StableHlo.Run
public import Idealize.ShloMosaic.Lib.Tactic
public import proofs.«01_k».proof.Defs

@[expose] public section

noncomputable section

namespace Cert.Proof

open Cert.KernelIdeal Cert.KernelIdeal.Gen
open Idealize.ShloMosaic Idealize.ShloMosaic.ValueIdx
open Idealize.ShloMosaic.SparseCore (S V)
open Idealize.ShloMosaic.SparseCore.Cfg (HIx Pay)
open Idealize.ShloMosaic.Rounds Idealize.ShloMosaic.Pipeline
open Idealize.SL Idealize.SL.RA Idealize.SL.BI
open scoped Idealize.SL.BI
open Idealize.SL.BI.BIBase Idealize.SL.BI.Laws Idealize.SL.ProofMode Idealize.SL.Sem
open TcCoe

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-! ## What the handshakes carry -/

/-- The grid's coordinates of a task, as the call numbers it. -/
abbrev taskIx (c : Fin ((K (F := F)).nCore 0)) (i : Fin ((K (F := F)).nSub 0)) : grid1.Coords := coordsV ⟨c.val, c.isLt⟩ ⟨i.val, i.isLt⟩

/-- A SparseCore is handed its tiles' pieces, and hands back theirs. -/
def P : (K (F := F)).Pay (nD := nD) (Val := Elt F) (Name := ℕ) (U := UU) where
  st := fun q d c => match q with | 0 => bigSep Finset.univ fun i => goP m d (taskIx c i)
  dn := fun q d c => match q with | 0 => bigSep Finset.univ fun i => tdP m d (taskIx c i)
  go := fun q d c i => match q with | 0 => goP m d (taskIx c i)
  td := fun q d c i => match q with | 0 => tdP m d (taskIx c i)
  x := fun _ _ => iprop(emp)

instance P_storable : (P (F := F) m).IsStorable where
  st q d c := match q with
    | 0 => (inferInstance : BI.Storable (upEmb : UEmb _ 𝕄) (bigSep Finset.univ fun i => goP m d (taskIx c i)))
  dn q d c := match q with
    | 0 => (inferInstance : BI.Storable (upEmb : UEmb _ 𝕄) (bigSep Finset.univ fun i => tdP m d (taskIx c i)))
  go q d c i := match q with
    | 0 => (inferInstance : BI.Storable (upEmb : UEmb _ 𝕄) (goP m d (taskIx c i)))
  td q d c i := match q with
    | 0 => (inferInstance : BI.Storable (upEmb : UEmb _ 𝕄) (tdP m d (taskIx c i)))

theorem vecSplit : (K (F := F)).VecSplit' (P m) 0 := by
  intro d c
  show (bigSep Finset.univ fun i => goP m d (taskIx c i)) ⊢ |={Set.univ}=> iprop(
      (bigSep Finset.univ fun i => goP m d (taskIx c i))
      ∗ ((bigSep Finset.univ fun i => tdP m d (taskIx c i)) -∗ bigSep Finset.univ fun i => tdP m d (taskIx c i)))
  iintro H; imodintro
  isplitl [H]; · iexact H
  iintro H; iexact H

theorem defs₀_vector (c : Fin τ.nSC) (s : Fin τ.nSub) :
    defs₀ (F := F) (.scVector c s) 1 ()
      = SparseCore.onTile hcore1 hsub1 (fun c s => cc1_body (coordsV c s)
          (Memref.whole main_arg0_scv) (Memref.isWhole_whole _) (Memref.whole main_v0_scv) (Memref.isWhole_whole _) (Memref.whole main_c_scv) (Memref.isWhole_whole _)
            (Memref.whole main_v1_scv) (Memref.isWhole_whole _) (Memref.whole cc1_scratch0) (Memref.isWhole_whole _) (Memref.whole cc1_scratch1) (Memref.isWhole_whole _)
            (Memref.whole cc1_scratch2) (Memref.isWhole_whole _) (Memref.whole cc1_scratch3) (Memref.isWhole_whole _) (Memref.whole cc1_scratch4) (Memref.isWhole_whole _)
            (Memref.whole cc1_scratch5) (Memref.isWhole_whole _) (Memref.whole cc1_scratch6) (Memref.isWhole_whole _) (Memref.whole cc1_scratch7) (Memref.isWhole_whole _)
            cc1_scratch8 cc1_scratch9 cc1_scratch10 cc1_scratch11 cc1_scratch12 cc1_scratch13 cc1_scratch14 cc1_scoped0) ⟨⟩ c s := rfl

theorem tileObl : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) O W hO

/-! ## The arrays, cut into the tasks' pieces and put together again -/

/-- Something for every task, one SparseCore after the other. -/
theorem tasks_eq (Φ : grid1.Coords → sProp 𝕄) :
    (bigSep Finset.univ fun c : Fin ((K (F := F)).nCore 0) => bigSep Finset.univ fun i : Fin ((K (F := F)).nSub 0) => Φ (taskIx c i))
      = bigSep Finset.univ fun p : TileIx => Φ (coordsV p.1 p.2) :=
  (BI.bigSep_univ_prod (fun p : TileIx => Φ (coordsV p.1 p.2))).symm

/-- An array at the full share is the tiles' shares of it at once. -/
theorem shares_eq {ℓ : Loc nD τ sig} (f : Buf (Elt F) ℓ) :
    (ℓ ↦{fullShare} f : sProp 𝕄) = bigSep Finset.univ fun p : TileIx => ℓ ↦{shr (coordsV p.1 p.2)} f := by
  rw [BI.bigSep_univ_prod, ShareLeaves.pointsTo_leaves Finset.univ f 1 fullShare]
  exact bigSep_congr fun c _ => ShareLeaves.pointsTo_leaves Finset.univ f 4 _

theorem tab_eq (d : Dev nD) (f : Buf (Elt F) (tLoc d)) :
    (tLoc d ↦{fullShare} f : sProp 𝕄) = bigSep Finset.univ fun p : TileIx => tLoc d ↦[tabSet (coordsV p.1 p.2)]{fullShare} f := by
  rw [← pointsTo_biUnion Finset.univ (ℓ := tLoc d) (fun p : TileIx => tabSet (coordsV p.1 p.2)) tabSets_disjoint, tabSets_cover]
theorem res_eq (d : Dev nD) (f : Buf (Elt F) (rLoc d)) :
    (rLoc d ↦{fullShare} f : sProp 𝕄) = bigSep Finset.univ fun p : TileIx => rLoc d ↦[resSet (coordsV p.1 p.2)]{fullShare} f := by
  rw [← pointsTo_biUnion Finset.univ (ℓ := rLoc d) (fun p : TileIx => resSet (coordsV p.1 p.2)) resSets_disjoint, resSets_cover]

/-- The whole result holds what every tile's slots write. -/
def ResOK (N : S319600x128.Idx → F .f32) (Z : S32x32x128.Idx → F .f32) : Prop := ∀ w : Fin 32, ∃ C, Csums N C ∧
  ∀ (s : Fin 25) (x : Fin 128), Z (ix3 w ⟨s.val, by omega⟩ x) = outRow N C (tableRow w s) x

/-- One task's pieces of the call's operands. -/
theorem piece_intro (d : Dev nD) (i : grid1.Coords) (C : S20000x128.Idx → F .f32) (hC : Csums (m (aLoc d)) C) (Z : Buf (Elt F) (rLoc d)) :
    iprop((aLoc d ↦{shr i} m (aLoc d)) ∗ (sLoc d ↦{shr i} (C : Buf (Elt F) (sLoc d))) ∗ (tLoc d ↦[tabSet i]{fullShare} (table : Buf (Elt F) (tLoc d)))
        ∗ (rLoc d ↦[resSet i]{fullShare} Z)) ⊢ (goP m d i : sProp 𝕄) := by
  unfold goP
  iintro ⟨Ha, Hs, Ht, Hr⟩
  isplitl [Ha]; · iexact Ha
  isplitl [Hs]
  · iexists C; isplitr; · ipureintro; exact hC
    iexact Hs
  isplitl [Ht]; · iexact Ht
  iexists Z; iexact Hr

/-- The call's operands, as the SparseCores take them. -/
theorem st_intro (d : Dev nD) (C : S20000x128.Idx → F .f32) (hC : Csums (m (aLoc d)) C) (Z : Buf (Elt F) (rLoc d)) :
    iprop((aLoc d ↦{fullShare} m (aLoc d)) ∗ (sLoc d ↦{fullShare} (C : Buf (Elt F) (sLoc d))) ∗ (tLoc d ↦{fullShare} (table : Buf (Elt F) (tLoc d))) ∗ (rLoc d ↦{fullShare} Z))
      ⊢ (bigSep Finset.univ fun c : Fin ((K (F := F)).nCore 0) => (P m).st 0 d c : sProp 𝕄) := by
  rw [show (bigSep Finset.univ fun c : Fin ((K (F := F)).nCore 0) => (P m).st 0 d c : sProp 𝕄) = _ from tasks_eq (goP m d)]
  rw [shares_eq (m (aLoc d)), shares_eq (ℓ := sLoc d) C, tab_eq, res_eq, ← bigSep_sep', ← bigSep_sep', ← bigSep_sep']
  exact bigSep_mono fun p _ => piece_intro m d (coordsV p.1 p.2) C hC Z

/-- What the SparseCores hand back: the node rows, and the result, written. -/
theorem dn_elim (d : Dev nD) :
    (bigSep Finset.univ fun c : Fin ((K (F := F)).nCore 0) => (P m).dn 0 d c : sProp 𝕄)
      ⊢ iprop((aLoc d ↦{fullShare} m (aLoc d)) ∗ ∃ Z : Buf (Elt F) (rLoc d), ⌜ResOK (m (aLoc d)) Z⌝ ∗ (rLoc d ↦{fullShare} Z)) := by
  rw [show (bigSep Finset.univ fun c : Fin ((K (F := F)).nCore 0) => (P m).dn 0 d c : sProp 𝕄) = _ from tasks_eq (tdP m d)]
  unfold tdP
  rw [bigSep_sep', ← shares_eq]
  have : Nonempty (Buf (Elt F) (rLoc d)) := ⟨fun _ => Classical.arbitrary _⟩
  iintro ⟨Ha, Hr⟩
  isplitl [Ha]; · iexact Ha
  ihave Hr := (bigSep_exists_pi Finset.univ (fun (p : TileIx) (Z : Buf (Elt F) (rLoc d)) =>
    (iprop(⌜PartOK (m (aLoc d)) (coordsV p.1 p.2) Z⌝ ∗ (rLoc d ↦[resSet (coordsV p.1 p.2)]{fullShare} Z)) : sProp 𝕄))) $$ Hr
  icases Hr with ⟨%Zs, Hr⟩
  ihave Hr := (bigSep_pure_sep Finset.univ (fun p : TileIx => PartOK (m (aLoc d)) (coordsV p.1 p.2) (Zs p))
    (fun p : TileIx => (rLoc d ↦[resSet (coordsV p.1 p.2)]{fullShare} Zs p : sProp 𝕄))) $$ Hr
  icases Hr with ⟨%hp, Hr⟩
  ihave H' := (pointsTo_biUnion_join (ℓ := rLoc d) (q := fullShare) (Val := Elt F) Finset.univ (fun p : TileIx => resSet (coordsV p.1 p.2)) Zs (Classical.arbitrary _) resSets_disjoint) $$ Hr
  icases H' with ⟨%g, %hg, Hg⟩
  rw [resSets_cover]
  iexists g
  isplitr
  · ipureintro
    intro w
    obtain ⟨p, hw⟩ := tile_of w.val w.isLt
    have hw : tileNo (coordsV p.1 p.2) = w := Fin.ext hw
    obtain ⟨C, hC, h⟩ := hp p (Finset.mem_univ _)
    refine ⟨C, hC, fun s x => ?_⟩
    rw [← hw, ← h s x]
    exact hg p (Finset.mem_univ _) _ ((mem_resSet _ _).mpr rfl)
  iexact Hg

end Cert.Proof

end
-- ==== Proof.Main.lean ====
/-
  The program: the table, the chunk sums on the TensorCore, the call of the SparseCores, and the three operations that
  put the tiles' slots into the peptides' order.
-/
module

public import proofs.«01_k».proof.Proof.Launch

@[expose] public section

noncomputable section

namespace Cert.Proof

open Cert.KernelIdeal Cert.KernelIdeal.Gen
open Idealize.ShloMosaic Idealize.ShloMosaic.ValueIdx
open Idealize.ShloMosaic.SparseCore (S V)
open Idealize.ShloMosaic.SparseCore.Cfg (HIx Pay)
open Idealize.ShloMosaic.Rounds Idealize.ShloMosaic.Pipeline
open Idealize.SL Idealize.SL.RA Idealize.SL.BI
open scoped Idealize.SL.BI
open Idealize.SL.BI.BIBase Idealize.SL.BI.Laws Idealize.SL.ProofMode Idealize.SL.Sem
open TcCoe

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-! ## One host operation over its buffers -/

section

include m

theorem host_nullary (d : Dev nD) (y : Ref sig .tc) (v : y.ty.Contents (Elt F))
    (hy : y.space ≠ .host ∧ (y : DevRef τ sig).isScoped = false) (Y : Buf (Elt F) ((SparseCore.T d : Thread nD τ).loc y)) (Q : PUnit → sProp 𝕄) :
    iprop(boundary (SparseCore.T d : Thread nD τ) ∗ ((SparseCore.T d : Thread nD τ).loc y ↦{fullShare} Y)
        ∗ (iprop(boundary (SparseCore.T d : Thread nD τ) ∗ ((SparseCore.T d : Thread nD τ).loc y ↦{fullShare} (v : Buf (Elt F) ((SparseCore.T d : Thread nD τ).loc y)))) -∗ Q ⟨⟩))
      ⊢ wp frame (wpE ((K (F := F)).defs (D (F := F))) 𝒱 (SparseCore.T d) none) Set.univ
          (hlo rfl (StableHlo.nullary y v hy) (fun _ => .ret ⟨⟩)) Q := by
  let W : Valuation τ sig (Elt F) := Function.update (fun b => m (d, b)) (y : DevRef τ sig) Y
  have hW : W (y : DevRef τ sig) = Y := Function.update_self _ _ _
  have e : (StableHlo.held (SparseCore.T d) {(y : DevRef τ sig)} ((StableHlo.nullary y v hy : HloOp τ sig (Elt F)).result W) : sProp 𝕄)
      = ((SparseCore.T d : Thread nD τ).loc y ↦{fullShare} (v : Buf (Elt F) ((SparseCore.T d : Thread nD τ).loc y))) := by
    unfold StableHlo.held; rw [bigSep_singleton, StableHlo.nullary_result]
  iintro ⟨Hb, Hy, Hk⟩
  iapply (StableHlo.wp_hlo_within 𝒱 (SparseCore.T d) none Set.univ (op := StableHlo.nullary y v hy) (S := {(y : DevRef τ sig)}) (Finset.Subset.refl _) (V := W)) $$ [Hb Hy]
  · isplitl [Hb]; · iexact Hb
    unfold StableHlo.held; rw [bigSep_singleton, hW]; iexact Hy
  iintro ⟨Hb, Hh⟩
  rw [wp_ret]; imodintro
  iapply Hk
  isplitl [Hb]; · iexact Hb
  ihave Hh := (Entails.of_eq e) $$ Hh
  iexact Hh

theorem host_op (d : Dev nD) (x y : Ref sig .tc) (hxy : (x : DevRef τ sig) ≠ (y : DevRef τ sig)) (op : HloOp τ sig (Elt F))
    (hb : op.bufs = {(x : DevRef τ sig), (y : DevRef τ sig)}) (hw : op.writes = {(y : DevRef τ sig)}) (hfr : op.fresh = ∅)
    (X : Buf (Elt F) ((SparseCore.T d : Thread nD τ).loc x)) (Y : Buf (Elt F) ((SparseCore.T d : Thread nD τ).loc y))
    (Z : Buf (Elt F) ((SparseCore.T d : Thread nD τ).loc y)) (hZ : ∀ W : Valuation τ sig (Elt F), W x = X → op.result W y = Z) (Q : PUnit → sProp 𝕄) :
    iprop(boundary (SparseCore.T d : Thread nD τ) ∗ ((SparseCore.T d : Thread nD τ).loc x ↦{fullShare} X) ∗ ((SparseCore.T d : Thread nD τ).loc y ↦{fullShare} Y)
        ∗ (iprop(boundary (SparseCore.T d : Thread nD τ) ∗ ((SparseCore.T d : Thread nD τ).loc y ↦{fullShare} Z)) -∗ Q ⟨⟩))
      ⊢ wp frame (wpE ((K (F := F)).defs (D (F := F))) 𝒱 (SparseCore.T d) none) Set.univ (hlo rfl op (fun _ => .ret ⟨⟩)) Q := by
  let W : Valuation τ sig (Elt F) := Function.update (Function.update (fun b => m (d, b)) (x : DevRef τ sig) X) (y : DevRef τ sig) Y
  have hWx : W (x : DevRef τ sig) = X := (Function.update_of_ne hxy _ _).trans (Function.update_self _ _ _)
  have hWy : W (y : DevRef τ sig) = Y := Function.update_self _ _ _
  have hS : op.bufs ⊆ ({(x : DevRef τ sig), (y : DevRef τ sig)} : Finset (DevRef τ sig)) := hb.subset
  have hne : (x : DevRef τ sig) ∉ ({(y : DevRef τ sig)} : Finset (DevRef τ sig)) := by rw [Finset.mem_singleton]; exact hxy
  have e : (StableHlo.held (SparseCore.T d) {(x : DevRef τ sig), (y : DevRef τ sig)} (op.result W) : sProp 𝕄)
      = iprop(((SparseCore.T d : Thread nD τ).loc x ↦{fullShare} op.result W x) ∗ ((SparseCore.T d : Thread nD τ).loc y ↦{fullShare} Z)) := by
    unfold StableHlo.held; rw [SparseCore.bigSep_insert' hne, bigSep_singleton, hZ W hWx]
  iintro ⟨Hb, Hx, Hy, Hk⟩
  iapply (StableHlo.wp_hlo_within 𝒱 (SparseCore.T d) none Set.univ (op := op) (S := {(x : DevRef τ sig), (y : DevRef τ sig)}) hS (V := W) (hf := hfr)) $$ [Hb Hx Hy]
  · isplitl [Hb]; · iexact Hb
    unfold StableHlo.held; rw [SparseCore.bigSep_insert' hne, bigSep_singleton, hWx, hWy]
    isplitl [Hx]; · iexact Hx
    iexact Hy
  iintro ⟨Hb, Hh⟩
  rw [wp_ret]; imodintro
  iapply Hk
  isplitl [Hb]; · iexact Hb
  ihave Hh := (Entails.of_eq e) $$ Hh
  icases Hh with ⟨-, Hy⟩
  iexact Hy

end

/-! ## The chunk sums, from @main -/

theorem Otc_none (d : Dev nD) (n : ℕ) (g : GSem nD τ sig) : (K (F := F)).Otc d n g none = 0 := by
  unfold SparseCore.Cfg.Otc
  rw [Finset.sum_apply, Finsupp.finset_sum_apply]
  refine Finset.sum_eq_zero fun q _ => ?_
  split
  · rw [Finset.sum_apply, Finsupp.finset_sum_apply]
    refine Finset.sum_eq_zero fun c _ => ?_
    unfold tallyAt tallyOn
    by_cases h : g = (K (F := F)).startCell d ((K (F := F)).core q c)
    · subst h; simp
    · simp [h]
  · rfl

/-- What the TensorCore owes before the call, and the bound of what it has recorded. -/
abbrev Om (d : Dev nD) : CellTallies nD τ sig (HIx 1) := (K (F := F)).Otc d 0
abbrev Bm (d : Dev nD) : Set (SemLoc sig × HIx 1) := {p | (K (F := F)).lev ((SparseCore.T d : Thread nD τ), p.1) p.2 ≤ 8 * (inferInstance : SparseCore.Cfg.Blocks 1 1).fst 0}

/-- The TensorCore's region at the launch's node rows. -/
abbrev R (V0 : S20000x128.Idx → F .f32) := region (fun c => m (aLoc c)) (fun _ => V0) (Om (F := F)) (Bm (F := F)) (fun c g => Otc_none c 0 g) (fun c sm => Nat.zero_le _)

theorem R_pre (d : Dev nD) (V0 : S20000x128.Idx → F .f32) : (R m V0).pre d
    = iprop((aLoc d ↦{fullShare} m (aLoc d)) ∗ (sLoc d ↦{fullShare} (V0 : Buf (Elt F) (sLoc d))) ∗ owesWithin d (Om (F := F) d) (Bm (F := F) d)) := rfl
theorem R_post (d : Dev nD) (V0 : S20000x128.Idx → F .f32) : (R m V0).post d
    = iprop((aLoc d ↦{fullShare} m (aLoc d)) ∗ (∃ C : S20000x128.Idx → F .f32, ⌜Csums (m (aLoc d)) C⌝ ∗ (sLoc d ↦{fullShare} (C : Buf (Elt F) (sLoc d))))
        ∗ owesWithin d (Om (F := F) d) (Bm (F := F) d)) := rfl

/-- The call of the TensorCore's kernel, as a program below the SparseCores' calls. -/
abbrev entryProg : Prog (TpuEff nD τ sig (Elt F) (ΛP (F := F)) .tc) PUnit := .op (.customCall (Pipeline.entry 0) ()) fun x => .ret x

theorem entry_lift : (Prog.lift (.customCall (SparseCore.inner (Pipeline.entry 0)) ()) : Prog (TpuEff nD τ sig (Elt F) (SparseCore.Sig (ΛP (F := F)) 1) .tc) PUnit)
    = SparseCore.liftProg (entryProg (F := F)) := rfl

/-- The TensorCore's kernel, from @main: the node rows kept, the chunk sums written. -/
theorem tc_call (d : Dev nD) (V0 : Buf (Elt F) (sLoc d)) (Q : PUnit → sProp 𝕄) :
    iprop(boundary (SparseCore.T d : Thread nD τ) ∗ (aLoc d ↦{fullShare} m (aLoc d)) ∗ (sLoc d ↦{fullShare} V0)
        ∗ owesWithin d (Om (F := F) d) (Bm (F := F) d) ∗ levAts (K (F := F)).L (K (F := F)).lev
        ∗ cellsGhost (pin (pcfgs (F := F)) adm) EP 0 d ∗ toksInit (pin (pcfgs (F := F)) adm) EP 0 d
        ∗ (iprop(boundary (SparseCore.T d : Thread nD τ) ∗ (aLoc d ↦{fullShare} m (aLoc d))
            ∗ (∃ C : S20000x128.Idx → F .f32, ⌜Csums (m (aLoc d)) C⌝ ∗ (sLoc d ↦{fullShare} (C : Buf (Elt F) (sLoc d)))) ∗ owesWithin d (Om (F := F) d) (Bm (F := F) d)) -∗ Q ⟨⟩))
      ⊢ wp frame (wpE ((K (F := F)).defs (D (F := F))) 𝒱 (SparseCore.T d) none) Set.univ
          (Prog.lift (.customCall (SparseCore.inner (Pipeline.entry 0)) ())) Q := by
  rw [entry_lift]
  refine BI.Entails.trans ?_ ((K (F := F)).wp_liftProg (D (F := F)) 𝒱 (SparseCore.T d) Set.univ none (entryProg (F := F)) Q)
  refine BI.Entails.trans ?_ (RDat.RegionSeg.wp pcfgs adm (rdats (fun c => m (aLoc c)) (fun _ => V0) (Om (F := F)) (Bm (F := F))) none cellOf_inj EP defs₀ 𝒱₀
    (K (F := F)).L (K (F := F)).lev (R m V0)
    d none (fun u hu => by simp at hu) (fun x => .ret x) Q)
  show (_ : sProp 𝕄) ⊢ _
  iintro ⟨Hb, Ha, Hs, Ho, Hl, Hg, Ht, Hk⟩
  isplitl [Hk]
  · iintro ⟨Hb, Hp⟩
    ihave Hp := (Entails.of_eq (R_post m d V0)) $$ Hp
    icases Hp with ⟨Ha, Hs, Ho⟩
    rw [wp_ret]; imodintro
    iapply Hk
    isplitl [Hb]; · iexact Hb
    isplitl [Ha]; · iexact Ha
    isplitl [Hs]; · iexact Hs
    iexact Ho
  isplitl [Hb]; · iexact Hb
  isplitl [Ha Hs Ho]
  · iapply (Entails.of_eq (R_pre m d V0).symm)
    isplitl [Ha]; · iexact Ha
    isplitl [Hs]; · iexact Hs
    iexact Ho
  isplitl [Hl]; · iexact Hl
  isplitl [Hg]; · iexact Hg
  iexact Ht

/-! ## @main -/

abbrev opTab : HloOp τ sig (Elt F) := StableHlo.nullary main_c (fun i => lit0 (S32x25x16.rowMajor i))
abbrev opSlice : HloOp τ sig (Elt F) :=
  StableHlo.unary main_v1 main_v2 ((extractStridedSlice S32x25x128 ![0, 0, 0] · slices_S32x32x128_S32x25x128_0_0_0) : main_v1.ty.Contents (Elt F) → main_v2.ty.Contents (Elt F))
abbrev opTr : HloOp τ sig (Elt F) :=
  StableHlo.unary main_v2 main_v3 ((transpose S25x32x128 [1, 0, 2] · transposes_S32x25x128_S25x32x128_1_0_2) : main_v2.ty.Contents (Elt F) → main_v3.ty.Contents (Elt F))
abbrev opRe : HloOp τ sig (Elt F) := StableHlo.reshape main_v3 main_v4 (rfl : (.f32 : EltTy) = .f32) shapeCasts_S25x32x128_S800x128

/-- The tiles' slots in the peptides' order. -/
def sliced (Z : S32x32x128.Idx → F .f32) : S32x25x128.Idx → F .f32 := extractStridedSlice S32x25x128 ![0, 0, 0] Z slices_S32x32x128_S32x25x128_0_0_0
def swapped (Y : S32x25x128.Idx → F .f32) : S25x32x128.Idx → F .f32 := transpose S25x32x128 [1, 0, 2] Y transposes_S32x25x128_S25x32x128_1_0_2
def flat (Y : S25x32x128.Idx → F .f32) : S800x128.Idx → F .f32 := shapeCast S800x128 Y shapeCasts_S25x32x128_S800x128

abbrev l1 (d : Dev nD) : Loc nD τ sig := (SparseCore.T d : Thread nD τ).loc main_arg1
abbrev l2 (d : Dev nD) : Loc nD τ sig := (SparseCore.T d : Thread nD τ).loc main_arg2
abbrev l4 (d : Dev nD) : Loc nD τ sig := (SparseCore.T d : Thread nD τ).loc main_v4

/-- What @main leaves: the arguments, and the result in the peptides' order. -/
def FIN (d : Dev nD) : sProp 𝕄 :=
  iprop((aLoc d ↦{fullShare} m (aLoc d)) ∗ (l1 d ↦{fullShare} m (l1 d)) ∗ (l2 d ↦{fullShare} m (l2 d))
    ∗ ∃ Z : S32x32x128.Idx → F .f32, ⌜ResOK (m (aLoc d)) Z⌝ ∗ (l4 d ↦{fullShare} (flat (swapped (sliced Z)) : Buf (Elt F) (l4 d))))

/-- The pipeline's ghost state of a device. -/
abbrev Gm (d : Dev nD) : sProp 𝕄 := iprop(cellsGhost (pin (pcfgs (F := F)) adm) EP 0 d ∗ toksInit (pin (pcfgs (F := F)) adm) EP 0 d)

theorem unscopedBufs_eq (d : Dev nD) (W : (b : Ref sig .tc) → Buf (Elt F) ((SparseCore.T d : Thread nD τ).loc b)) :
    (unscopedBufs d W : sProp 𝕄) = iprop((aLoc d ↦{fullShare} W main_arg0) ∗ (l1 d ↦{fullShare} W main_arg1) ∗ (l2 d ↦{fullShare} W main_arg2)
      ∗ (tLoc d ↦{fullShare} W main_c) ∗ (sLoc d ↦{fullShare} W main_v0) ∗ (rLoc d ↦{fullShare} W main_v1)
      ∗ ((SparseCore.T d : Thread nD τ).loc main_v2 ↦{fullShare} W main_v2) ∗ ((SparseCore.T d : Thread nD τ).loc main_v3 ↦{fullShare} W main_v3)
      ∗ (l4 d ↦{fullShare} W main_v4)) := by
  unfold unscopedBufs
  rw [show (Finset.univ.filter fun b : Ref sig .tc => ¬ b.isScoped) = {main_arg0, main_arg1, main_arg2, main_c, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- The TensorCore's thread state before the call, opened at what it owes. -/
theorem tcSt_open (d : Dev nD) : ((K (F := F)).tcSt EH d 0 : sProp 𝕄) ⊢ iprop(owesWithin d (Om (F := F) d) (Bm (F := F) d)
    ∗ (owesWithin d (Om (F := F) d) (Bm (F := F) d) -∗ (K (F := F)).tcSt EH d 0)) := by
  unfold SparseCore.Cfg.tcSt
  iintro ⟨⟨%W, %hW, Ho⟩, H⟩
  isplitl [Ho]
  · iexists W; isplitr; · ipureintro; exact fun p hp => hW p hp
    iexact Ho
  iintro ⟨%W', %hW', Ho⟩
  isplitl [Ho]
  · iexists W'; isplitr; · ipureintro; exact fun p hp => hW' hp
    iexact Ho
  iexact H

end Cert.Proof

end
-- ==== Proof.Run.lean ====
/-
  The program's run: every weak execution finishes, the arguments stand as they were, and the result holds what the
  tiles' slots write, in the peptides' order.
-/
module

public import proofs.«01_k».proof.Proof.Main

@[expose] public section

noncomputable section

namespace Cert.Proof

open Cert.KernelIdeal Cert.KernelIdeal.Gen
open Idealize.ShloMosaic Idealize.ShloMosaic.ValueIdx
open Idealize.ShloMosaic.SparseCore (S V)
open Idealize.ShloMosaic.SparseCore.Cfg (HIx Pay)
open Idealize.ShloMosaic.Rounds Idealize.ShloMosaic.Pipeline
open Idealize.SL Idealize.SL.RA Idealize.SL.BI
open scoped Idealize.SL.BI
open Idealize.SL.BI.BIBase Idealize.SL.BI.Laws Idealize.SL.ProofMode Idealize.SL.Sem
open TcCoe

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-! ## The launch's ghost state -/

/-- The pipeline's part of it, -/
abbrev uP : UR sig nD τ := initOf (Pipeline.cells (nD := nD) (τ := τ) (pin (pcfgs (F := F)) adm) cellOf_inj) (Pipeline.launchToks (nD := nD) (τ := τ) (pin (pcfgs (F := F)) adm) cellOf_inj)
/-- and the whole. -/
def u₀ : UU := (initOf (K (F := F)).hsCells (K (F := F)).hsToks, (uP (F := F), 1))

theorem ghost_intro : (BI.own (EP (F := F) (uP (F := F))) : sProp 𝕄) ⊢ iprop(|==> bigSep Finset.univ fun d : Dev nD => Gm (F := F) d) := by
  refine BI.Entails.trans (Pipeline.fund_ghost (nD := nD) (τ := τ) (pin (pcfgs (F := F)) adm) EP cellOf_inj) ?_
  rw [← bigSep_sep']
  refine BI.bupd_mono (bigSep_mono fun d _ => ?_)
  rw [bigSep_univ_of_subsingleton (0 : Fin 1), bigSep_univ_of_subsingleton (0 : Fin 1)]
  exact (show (Gm (F := F) d : sProp 𝕄) ⊢ Gm (F := F) d from .rfl)

theorem bigSep_emp {I : Type} (s : Finset I) : (bigSep s fun _ => iprop(emp)) = (iprop(emp) : sProp 𝕄) := bigSep_emp_const s

theorem own_right : (BI.own ((embR : Emb (UR sig nD τ × Counters) 𝕄) (uP (F := F), (1 : Counters))) : sProp 𝕄)
    ⊢ iprop(BI.own (EP (F := F) (uP (F := F))) ∗ BI.own (((Emb.inr : Emb Counters (UR sig nD τ × Counters)).trans (embR : Emb _ 𝕄)) (1 : Counters))) :=
  own_pair_emb embR (uP (F := F)) (1 : Counters)

theorem hu₀ : (ownU (u₀ (F := F)) : sProp 𝕄)
    ⊢ |={Set.univ}=> iprop(BI.own (EH (initOf (K (F := F)).hsCells (K (F := F)).hsToks)) ∗ (bigSep Finset.univ fun d : Dev nD => Gm (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) (uP (F := F), (1 : Counters))) $$ Hu
  icases H with ⟨HH, Hr⟩
  ihave Hr := (own_right (F := F)) $$ Hr
  icases Hr with ⟨HP, -⟩
  imod (ghost_intro (F := F)) $$ HP with HG
  imodintro
  isplitl [HH]; · iexact HH
  isplitl [HG]; · iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp]
  iempintro

/-! ## @main on the TensorCore -/

theorem hmain (κ : GSem nD τ sig → ℕ) (d : Dev nD) :
    iprop((K (F := F)).ctx EH (P m) κ ∗ (K (F := F)).tcSt EH d 0 ∗ (K (F := F)).tcRes m ρ d ∗ Gm (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, H1, H2, Ht, Hs, Hr, Hv2, Hv3, Hv4⟩, Hts, -⟩, Hg, Htk⟩
  -- the table
  iapply (host_nullary m d main_c (fun i => lit0 (S32x25x16.rowMajor i)) _ (m (tLoc d)) _) $$ [-]
  isplitl [Hb]; · iexact Hb
  isplitl [Ht]; · iexact Ht
  iintro ⟨Hb, Ht⟩
  -- the chunk sums
  ihave Ho := (tcSt_open d) $$ Hst
  icases Ho with ⟨Ho, Hst⟩
  iapply (tc_call m d (m (sLoc d)) _) $$ [-]
  isplitl [Hb]; · iexact Hb
  isplitl [Ha]; · iexact Ha
  isplitl [Hs]; · iexact Hs
  isplitl [Ho]; · iexact Ho
  isplitr
  · iapply ((K (F := F)).ctx_levAts κ); iexact Hctx
  isplitl [Hg]; · iexact Hg
  isplitl [Htk]; · iexact Htk
  iintro ⟨Hb, Ha, ⟨%C, %hC, Hs⟩, Ho⟩
  ihave Hst := Hst $$ Ho
  -- the SparseCores
  iapply ((K (F := F)).wp_run (D (F := F)) 𝒱 (EH := EH) (P := P m) κ d 0) $$ [-]
  isplitr; · iexact Hctx
  isplitl [Hst]; · iexact Hst
  isplitl [Ha Hs Ht Hr]
  · iapply (st_intro m d C hC (m (rLoc d)))
    isplitl [Ha]; · iexact Ha
    isplitl [Hs]; · iexact Hs
    isplitl [Ht]; · iexact Ht
    iexact Hr
  iintro ⟨Hst, Hdn⟩
  ihave Hdn := (dn_elim m d) $$ Hdn
  icases Hdn with ⟨Ha, %Z, %hZ, Hr⟩
  -- the result
  iapply (host_op m d main_v1 main_v2 (by decide) opSlice rfl rfl rfl Z (m _) (sliced Z)
    (fun W hW => (StableHlo.unary_result _ _ _ _ _ _).trans (by rw [hW]; rfl)) _) $$ [-]
  isplitl [Hb]; · iexact Hb
  isplitl [Hr]; · iexact Hr
  isplitl [Hv2]; · iexact Hv2
  iintro ⟨Hb, Hv2⟩
  iapply (host_op m d main_v2 main_v3 (by decide) opTr rfl rfl rfl (sliced Z) (m _) (swapped (sliced Z))
    (fun W hW => (StableHlo.unary_result _ _ _ _ _ _).trans (by rw [hW]; rfl)) _) $$ [-]
  isplitl [Hb]; · iexact Hb
  isplitl [Hv2]; · iexact Hv2
  isplitl [Hv3]; · iexact Hv3
  iintro ⟨Hb, Hv3⟩
  iapply (host_op m d main_v3 main_v4 (by decide) opRe rfl rfl rfl (swapped (sliced Z)) (m _) (flat (swapped (sliced Z)))
    (fun W hW => (StableHlo.reshape_result _ _ _ _ _ _ _).trans (by rw [hW]; rfl)) _) $$ [-]
  isplitl [Hb]; · iexact Hb
  isplitl [Hv3]; · iexact Hv3
  isplitl [Hv4]; · iexact Hv4
  iintro ⟨Hb, Hv4⟩
  imodintro
  isplitl [Hst]; · iexact Hst
  isplitr [Hb Hts]
  · unfold FIN
    isplitl [Ha]; · iexact Ha
    isplitl [H1]; · iexact H1
    isplitl [H2]; · iexact H2
    iexists Z
    isplitr; · ipureintro; exact hZ
    iexact Hv4
  isplitl [Hb] <;> iassumption

/-! ## What the final state holds -/

/-- What a device's arrays hold at the end. -/
def fq (d : Dev nD) (s' : Phys nD τ sig (Elt F)) : Prop :=
  (s'.mem.mem (aLoc d) = m (aLoc d) ∧ s'.mem.mem (l1 d) = m (l1 d) ∧ s'.mem.mem (l2 d) = m (l2 d))
    ∧ ∃ Z : S32x32x128.Idx → F .f32, ResOK (m (aLoc d)) Z ∧ s'.mem.mem (l4 d) = (flat (swapped (sliced Z)) : Buf (Elt F) (l4 d))

theorem agree (ℓ : Loc nD τ sig) (f : Buf (Elt F) ℓ) (s' : Phys nD τ sig (Elt F)) :
    iprop(SI s' ∗ (ℓ ↦{fullShare} f)) ⊢ (iprop(⌜s'.mem.mem ℓ = f⌝ ∗ SI s' ∗ (ℓ ↦{fullShare} f)) : sProp 𝕄) := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h, HSI, H⟩
  isplitr; · ipureintro; exact funext fun (i : Idx ℓ) => h i (by simp)
  isplitl [HSI] <;> iassumption

theorem hfin (d : Dev nD) (s' : Phys nD τ sig (Elt F)) : iprop(FIN m d ∗ SI s') ⊢ (⌜fq m d s'⌝ : sProp 𝕄) := by
  unfold FIN
  iintro ⟨⟨Ha, H1, H2, %Z, %hZ, Hv⟩, HSI⟩
  ihave H := (agree (aLoc d) (m (aLoc d)) s') $$ [HSI Ha]
  · isplitl [HSI] <;> iassumption
  icases H with ⟨%h0, HSI, -⟩
  ihave H := (agree (l1 d) (m (l1 d)) s') $$ [HSI H1]
  · isplitl [HSI] <;> iassumption
  icases H with ⟨%h1, HSI, -⟩
  ihave H := (agree (l2 d) (m (l2 d)) s') $$ [HSI H2]
  · isplitl [HSI] <;> iassumption
  icases H with ⟨%h2, HSI, -⟩
  ihave H := (agree (l4 d) (flat (swapped (sliced Z)) : Buf (Elt F) (l4 d)) s') $$ [HSI Hv]
  · isplitl [HSI] <;> iassumption
  icases H with ⟨%h4, -, -⟩
  ipureintro
  exact ⟨⟨h0, h1, h2⟩, Z, hZ, h4⟩

/-! ## The run -/

/-- What a run leaves: the arguments, the result in the peptides' order, the semaphores at zero. -/
def QC : PUnit × MemSt nD τ sig (Elt F) → Prop := fun r =>
  (∀ d : Dev nD, (r.2.mem (aLoc d) = m (aLoc d) ∧ r.2.mem (l1 d) = m (l1 d) ∧ r.2.mem (l2 d) = m (l2 d))
    ∧ ∃ Z : S32x32x128.Idx → F .f32, ResOK (m (aLoc d)) Z ∧ r.2.mem (l4 d) = (flat (swapped (sliced Z)) : Buf (Elt F) (l4 d))) ∧ r.2.sem = fun _ => 0

theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts_sc v₀
    (fun q hq => match q with | 0 => nomatch hq)
    (fun q _ => match q with | 0 => tileObl m)
    (fun q _ => match q with | 0 => SparseCore.Cfg.VecSplit.of_plain (vecSplit m))
    m ρ main (fun d => Gm (F := F) d) (FIN m) (u₀ (F := F)) (sep_elim_left.trans (hu₀ m)) (hmain m ρ) (fq m) (hfin m) (QC m) (fun _ h hz => ⟨h, hz⟩)

/-! ## The frames -/

theorem frame_kernelIdeal : Cert.quiescent_KernelIdeal := fun m ρ _ =>
  (θ_run Cert.KernelIdeal.defs _ _).mono (fun _ h => ⟨fun c => (h.1 c).1, h.2⟩) (run_main (F := Ideal) m ρ)

end Cert.Proof

end
-- ==== Proof.Same.lean ====
/-
  The kernel as printed and the kernel read at the ideal instance are one program, so the run of the one is the run of
  the other; here the frame of the first.
-/
module

public import proofs.«01_k».proof.Proof.Run
public import proofs.«01_k».proof.Proof.Gen.Kernel

@[expose] public section

noncomputable section

namespace Cert.Proof

open Idealize.ShloMosaic

variable {F : FTy → Type} [FloatOps F]

/-- The two tables have the same words, -/
theorem same_lit : Cert.Kernel.lit0 = Cert.KernelIdeal.lit0 := by
  funext i
  revert i
  decide +kernel

/-- the two bodies' tables the same bodies, -/
theorem same_defs₀ : Cert.Kernel.defs₀ (F := F) = Cert.KernelIdeal.defs₀ (F := F) := by
  funext pr l a
  match pr, l, a with
  | .tc, 0, (t, s) => rfl
  | .tc, 1, a => rfl
  | .scVector c s, 0, a => rfl
  | .scVector c s, 1, a => rfl
  | .scScalar c, 0, a => rfl
  | .scScalar c, 1, a => rfl

/-- and the two programs are one. -/
theorem same_main : Cert.Kernel.main (F := F) = Cert.KernelIdeal.main (F := F) := by
  unfold Cert.Kernel.main
  rw [same_lit]
  rfl

theorem same_defs : Cert.Kernel.defs (F := F) = Cert.KernelIdeal.defs (F := F) := by
  unfold Cert.Kernel.defs
  rw [same_defs₀]
  rfl

theorem same_threads : Cert.Kernel.threads (F := F) = Cert.KernelIdeal.threads (F := F) := by
  unfold Cert.Kernel.threads
  rw [same_main]
  rfl

/-- The kernel as printed runs to its end and leaves its arguments alone. -/
theorem frame_kernel : Cert.quiescent_Kernel := by
  intro m ρ _
  rw [same_defs, same_threads]
  exact (θ_run Cert.KernelIdeal.defs _ _).mono (fun _ h => ⟨fun c => (h.1 c).1, h.2⟩) (run_main (F := Bits) m ρ)

end Cert.Proof

end
-- ==== Proof.RefFrame.lean ====
/-
  The reference's frame: its run leaves the arguments, and it has no semaphore.
-/
module

public import proofs.«01_k».proof.Defs
public import proofs.«01_k».proof.Proof.Gen.ReferenceIdeal.Run
public import Idealize.ShloMosaic.Lib.Quiescent

@[expose] public section

noncomputable section

namespace Cert.Proof

open Idealize.ShloMosaic

/-- The reference runs, leaves its arguments and ends with every counter at zero. -/
theorem frame_reference :
    Cert.quiescent_ReferenceIdeal (hReferenceIdeal := Cert.ReferenceIdeal.Gen.facts) := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof

end
-- ==== Proof.Algebra.lean ====
/-
  The kernel's result over the extended reals. A slot's three ranges put end to end are its peptide's rows, and a chunk
  sum is the sum of its sixteen rows; so the row that a slot writes is the sum of its peptide's rows, and the result's
  row `p` is the sum of the rows `first p`, …, `first (p + 1) - 1`.
-/
module

public import proofs.«01_k».proof.Proof.Launch
public import proofs.«01_k».proof.Proof.Main
public import Idealize.ShloMosaic.PureOps.Ideal.Laws
public import Idealize.ShloMosaic.Lib.Pointwise.Reduce

@[expose] public section

noncomputable section

namespace Cert.Proof

open Cert.KernelIdeal Cert.KernelIdeal.Gen
open Idealize.ShloMosaic

/-! ## Sums of rows -/

/-- Adding `n` rows in order adds their sum. -/
theorem accRows_ideal {R : ℕ} [NeZero R] (X : (⟨2, ![R, 128]⟩ : Shape).Idx → Ideal .f32) (lo : ℕ) (a : Fin 128 → Ideal .f32) (d : Fin 128) :
    ∀ n, accRows (F := Ideal) X lo a n d = (a d + ∑ r ∈ Finset.Ico lo (lo + n), row X r d : EReal)
  | 0 => by simp [accRows]
  | n + 1 => by
    show (accRows (F := Ideal) X lo a n d + row X (lo + n) d : EReal) = _
    rw [accRows_ideal X lo a d n, ← Nat.add_assoc, Finset.sum_Ico_succ_top (by omega), add_assoc]

/-- A row of a window is a row of the array. -/
theorem row_win {α : Type} {R n : ℕ} [NeZero R] [NeZero n] (X : (⟨2, ![R, 128]⟩ : Shape).Idx → α) (b r : ℕ) (hr : r < n) :
    row (win n X b) r = row X (b + r) := by
  funext d
  show X (ix2 (Fin.ofNat R (b + r % n)) _) = X (ix2 (Fin.ofNat R (b + r)) d)
  rw [Nat.mod_eq_of_lt hr]
  rfl

/-- So a range of a window's rows adds that range of the array's. -/
theorem accRows_win {R n : ℕ} [NeZero R] [NeZero n] (X : (⟨2, ![R, 128]⟩ : Shape).Idx → Ideal .f32) (b lo hi : ℕ) (h : lo ≤ hi) (hn : hi ≤ n)
    (a : Fin 128 → Ideal .f32) (d : Fin 128) :
    accRows (F := Ideal) (win n X b) lo a (hi - lo) d = (a d + ∑ r ∈ Finset.Ico (b + lo) (b + hi), row X r d : EReal) := by
  rw [accRows_ideal, show lo + (hi - lo) = hi by omega, Nat.add_comm b lo, Nat.add_comm b hi, ← Finset.sum_Ico_add (fun r => (row X r d : EReal))]
  congr 1
  refine Finset.sum_congr rfl fun r hr => ?_
  rw [row_win X b r (by have := (Finset.mem_Ico.1 hr).2; omega)]

/-! ## Chunk sums -/

/-- One block's chunk sums: row `y` is the sum of rows `16 y`, …, `16 y + 15` of the block. -/
theorem pay_ideal (Y : S12800x128.Idx → Ideal .f32) (y : Fin 800) (x : Fin 128) :
    k0_pay1 (F := Ideal) Y (ix2 y x) = (∑ k : Fin 16, Y (ix2 ⟨16 * y.val + k.val, by omega⟩ x) : EReal) := by
  unfold k0_pay1
  refine (Ideal.reduceAdd_r3_a1 (n0 := 800) (n1 := 16) (n2 := 128) _ _ _).trans ?_
  refine Finset.sum_congr rfl fun k _ => ?_
  refine shapeCast_apply (s := S12800x128) (t := S800x16x128) Y _ _ _ ?_
  rw [Shape.rowMajor_val_two, Shape.rowMajor_val_three]
  show (16 * y.val + k.val) * 128 + x.val = (y.val * 16 + k.val) * 128 + x.val
  omega

/-- A chunk sum that lies inside the array is the sum of its sixteen rows. -/
theorem chunk_ideal (N : S319600x128.Idx → Ideal .f32) (C : S20000x128.Idx → Ideal .f32) (h : Csums N C) (r : ℕ) (hr : r < 19975) (x : Fin 128) :
    row C r x = (∑ k ∈ Finset.Ico (16 * r) (16 * r + 16), row N k x : EReal) := by
  obtain ⟨Y, hY, hC⟩ := h ⟨r / 800, by omega⟩
  have e := hC (ix2 (⟨r % 800, Nat.mod_lt _ (by omega)⟩ : Fin 800) x)
  have e1 : row C r x = k0_pay1 (F := Ideal) Y (ix2 (⟨r % 800, Nat.mod_lt _ (by omega)⟩ : Fin 800) x) := by
    rw [← e]
    unfold row
    congr 1
    refine congrArg (fun q => ix2 q x) (Fin.ext ?_)
    show r % 20000 = r / 800 * 800 + r % 800
    omega
  rw [e1, pay_ideal, Finset.sum_Ico_eq_sum_range, show 16 * r + 16 - 16 * r = 16 by omega, ← Fin.sum_univ_eq_sum_range (fun k => (row N (16 * r + k) x : EReal)) 16]
  refine Finset.sum_congr rfl fun k _ => ?_
  have hk := k.isLt
  have hlt : r / 800 * 12800 + (16 * (r % 800) + k.val) < 319600 := by omega
  refine (hY (ix2 (⟨16 * (r % 800) + k.val, by omega⟩ : Fin 12800) x) hlt).trans ?_
  unfold row
  refine congrArg (fun q => N (ix2 q x)) (Fin.ext ?_)
  show r / 800 * 12800 + (16 * (r % 800) + k.val) = (16 * r + k.val) % 319600
  omega

/-- A range of chunk sums is a range of rows. -/
theorem chunks_ideal (N : S319600x128.Idx → Ideal .f32) (C : S20000x128.Idx → Ideal .f32) (h : Csums N C) (a : ℕ) (x : Fin 128) :
    ∀ n, a + n ≤ 19975 → (∑ r ∈ Finset.Ico a (a + n), row C r x : EReal) = ∑ k ∈ Finset.Ico (16 * a) (16 * (a + n)), row N k x
  | 0, _ => by simp
  | n + 1, hn => by
    rw [← Nat.add_assoc, Finset.sum_Ico_succ_top (by omega), chunks_ideal N C h a x n (by omega), chunk_ideal N C h (a + n) (by omega),
      show 16 * (a + n + 1) = 16 * (a + n) + 16 by omega]
    exact Finset.sum_Ico_consecutive (fun k => (row N k x : EReal)) (by omega) (by omega)

/-! ## A slot's row -/

/-- The row that a slot writes is the sum of the rows its words cover. -/
theorem outRow_ideal (N : S319600x128.Idx → Ideal .f32) (C : S20000x128.Idx → Ideal .f32) (h : Csums N C) (w : Fin 16 → BitVec 32) (s e : ℕ)
    (hok : RowOK w) (hc : RowCovers w s e) (x : Fin 128) :
    outRow (F := Ideal) N C w x = (∑ r ∈ Finset.Ico s e, row N r x : EReal) := by
  obtain ⟨-, h0, -, h3, -, h6, h12, h2, h45, h5, h78, h8⟩ := hok
  obtain ⟨hs, hcase⟩ := hc
  have hz : (zeroLanes (F := Ideal) x : EReal) = 0 := Ideal.ofBits_zero_f32
  have e1 : outRow (F := Ideal) N C w x
      = (((0 + ∑ r ∈ Finset.Ico ((w 0).toNat + (w 1).toNat) ((w 0).toNat + (w 2).toNat), row C r x)
          + ∑ r ∈ Finset.Ico ((w 3).toNat + (w 4).toNat) ((w 3).toNat + (w 5).toNat), row N r x)
          + ∑ r ∈ Finset.Ico ((w 6).toNat + (w 7).toNat) ((w 6).toNat + (w 8).toNat), row N r x : EReal) := by
    unfold outRow acc3
    rw [accRows_win N _ _ _ h78 h8]
    unfold acc2
    rw [accRows_win N _ _ _ h45 h5]
    unfold acc1
    rw [accRows_win C _ _ _ h12 h2, hz]
  rw [e1, zero_add]
  rcases hcase with ⟨ha, hb, he⟩ | ⟨ha, hb, he⟩
  · rw [ha, hb, hs, he, Finset.Ico_self, Finset.Ico_self, Finset.sum_empty, Finset.sum_empty, zero_add, add_zero]
  · obtain ⟨n, hn⟩ := Nat.exists_eq_add_of_le h12
    rw [hn] at hb ⊢
    rw [← Nat.add_assoc] at hb ⊢
    rw [chunks_ideal N C h _ x n (by omega), hs, ha, hb, he, add_comm (∑ k ∈ Finset.Ico (16 * _) _, _ : EReal)]
    rw [Finset.sum_Ico_consecutive (fun k => (row N k x : EReal)) (by omega) (by omega),
      Finset.sum_Ico_consecutive (fun k => (row N k x : EReal)) (by omega) (by omega)]

/-! ## The result -/

/-- The sum of peptide `p`'s rows. -/
def readout (N : S319600x128.Idx → Ideal .f32) : S800x128.Idx → Ideal .f32 :=
  fun i => (∑ r ∈ Finset.Ico (first (i 0).val) (first ((i 0).val + 1)), row N r ⟨(i 1).val, (i 1).isLt⟩ : EReal)

/-- What the kernel's @main makes of the tiles' rows is the readout. -/
theorem result_ideal (N : S319600x128.Idx → Ideal .f32) (Z : S32x32x128.Idx → Ideal .f32) (h : ResOK (F := Ideal) N Z) :
    flat (swapped (sliced Z)) = readout N := by
  funext i
  obtain ⟨p, x, rfl⟩ : ∃ (p : Fin 800) (x : Fin 128), i = ix2 p x := ⟨⟨(i 0).val, (i 0).isLt⟩, ⟨(i 1).val, (i 1).isLt⟩, by
    funext a
    match a with
    | ⟨0, _⟩ => rfl
    | ⟨1, _⟩ => rfl⟩
  have hp := p.isLt
  obtain ⟨C, hC, hZ⟩ := h ⟨p.val % 32, Nat.mod_lt _ (by omega)⟩
  have e : flat (swapped (sliced Z)) (ix2 p x) = Z (ix3 (⟨p.val % 32, Nat.mod_lt _ (by omega)⟩ : Fin 32) (⟨p.val / 32, by omega⟩ : Fin 32) x) := by
    unfold flat
    refine (shapeCast_apply (s := S25x32x128) (t := S800x128) _ _ (ix2 p x)
      (ix3 (⟨p.val / 32, by omega⟩ : Fin 25) (⟨p.val % 32, Nat.mod_lt _ (by omega)⟩ : Fin 32) x) ?_).trans ?_
    · rw [Shape.rowMajor_val_two, Shape.rowMajor_val_three]
      show (p.val / 32 * 32 + p.val % 32) * 128 + x.val = p.val * 128 + x.val
      omega
    · unfold swapped sliced transpose extractStridedSlice
      refine congrArg Z (funext fun a => Fin.ext ?_)
      match a with
      | ⟨0, _⟩ => exact Nat.zero_add _
      | ⟨1, _⟩ => exact Nat.zero_add _
      | ⟨2, _⟩ => exact Nat.zero_add _
  rw [e]
  refine (hZ ⟨p.val / 32, by omega⟩ x).trans ?_
  have ht := table_ok ⟨p.val % 32, Nat.mod_lt _ (by omega)⟩ ⟨p.val / 32, by omega⟩
  refine (outRow_ideal N C hC _ _ _ ht.1 ht.2 x).trans ?_
  show _ = (∑ r ∈ Finset.Ico (first p.val) (first (p.val + 1)), row N r x : EReal)
  rw [show 32 * (p.val / 32) + p.val % 32 = p.val from Nat.div_add_mod _ _]

end Cert.Proof

end
-- ==== Proof.Segments.lean ====
/-
  The segments as numbers. Peptide `p` has `p` rows, so its rows are `first p`, …, `first (p + 1) - 1`; `seg j` is the
  peptide that row `j` belongs to. Three counts that a repetition of peptide numbers goes through give `first` and `seg`.
-/
module

public import proofs.«01_k».proof.Proof.Meta

@[expose] public section

noncomputable section

namespace Cert.Proof

/-- One more peptide, `p` more rows. -/
theorem first_succ (p : ℕ) : first (p + 1) = first p + p := by
  unfold first
  rcases p with _ | p
  · rfl
  · have e : (p + 1 + 1) * (p + 1 + 1 - 1) = (p + 1) * (p + 1 - 1) + 2 * (p + 1) := by
      simp only [Nat.add_sub_cancel]
      rw [Nat.mul_comm (p + 1 + 1), show p + 1 + 1 = p + 2 from rfl, Nat.mul_add, Nat.mul_comm 2]
    omega

/-- Later peptides begin no earlier. -/
theorem first_mono : Monotone first := monotone_nat_of_le_succ fun p => by rw [first_succ]; omega

/-- There are 319600 rows. -/
theorem first_800 : first 800 = 319600 := by decide

/-- The sizes shifted by one and summed are the first rows. -/
theorem sum_sizes : ∀ p, ∑ k ∈ Finset.range (p + 1), (if k = 0 then 0 else k - 1) = first p
  | 0 => rfl
  | p + 1 => by rw [Finset.sum_range_succ, sum_sizes p, if_neg (by omega), first_succ]; omega

/-- The peptide of row `j`. -/
def seg (j : ℕ) : ℕ := Nat.findGreatest (fun p => first p ≤ j) 799

theorem seg_lt (j : ℕ) : seg j < 800 := Nat.lt_succ_of_le (Nat.findGreatest_le 799)

/-- Row `j` is at or past the first row of peptide `p` exactly when `p` is at most the peptide of `j`. -/
theorem first_le_iff {j p : ℕ} (hp : p < 800) : first p ≤ j ↔ p ≤ seg j := by
  constructor
  · intro h
    exact Nat.le_findGreatest (by omega) h
  · intro h
    refine (first_mono h).trans ?_
    exact Nat.findGreatest_spec (P := fun p => first p ≤ j) (Nat.zero_le 799) (Nat.zero_le j)

/-- The rows of peptide `p`. -/
theorem seg_eq_iff {j p : ℕ} (hj : j < 319600) (hp : p < 800) : seg j = p ↔ first p ≤ j ∧ j < first (p + 1) := by
  have hs := seg_lt j
  rw [first_le_iff hp]
  rcases Nat.lt_or_ge (p + 1) 800 with h | h
  · have := first_le_iff (j := j) h
    omega
  · have e : p = 799 := by omega
    subst e
    rw [first_800]
    omega

/-- As many peptides begin by row `j` as the peptide of `j` and those before it. -/
theorem count_first (j : ℕ) : ((Finset.range 800).filter fun p => first p ≤ j).card = seg j + 1 := by
  have e : ((Finset.range 800).filter fun p => first p ≤ j) = Finset.range (seg j + 1) := by
    ext p
    have hs := seg_lt j
    rw [Finset.mem_filter, Finset.mem_range, Finset.mem_range]
    constructor
    · rintro ⟨hp, h⟩
      have := (first_le_iff hp).1 h
      omega
    · intro h
      exact ⟨by omega, (first_le_iff (by omega)).2 (by omega)⟩
  rw [e, Finset.card_range]

/-- Summed up to row `j`, the numbers of peptides that begin at a row. -/
theorem sum_starts (j : ℕ) : ∑ k ∈ Finset.range (j + 1), ((Finset.range 800).filter fun p => first p = k).card = seg j + 1 := by
  rw [← count_first j, Finset.card_eq_sum_card_fiberwise (f := first) (t := Finset.range (j + 1))
    (fun p hp => Finset.mem_coe.2 (Finset.mem_range.2 (by have := (Finset.mem_filter.1 hp).2; omega)))]
  refine Finset.sum_congr rfl fun k hk => congrArg Finset.card ?_
  ext p
  have := Finset.mem_range.1 hk
  simp only [Finset.mem_filter, Finset.mem_range]
  constructor
  · rintro ⟨h1, h2⟩; exact ⟨⟨h1, by omega⟩, h2⟩
  · rintro ⟨⟨h1, _⟩, h2⟩; exact ⟨h1, h2⟩

/-- The rows that belong to peptide `p`. -/
theorem rows_of (p : ℕ) (hp : p < 800) : ((Finset.range 319600).filter fun j => seg j = p) = Finset.Ico (first p) (first (p + 1)) := by
  ext j
  have hm : first (p + 1) ≤ 319600 := by rw [← first_800]; exact first_mono (by omega)
  rw [Finset.mem_filter, Finset.mem_range, Finset.mem_Ico]
  constructor
  · rintro ⟨hj, h⟩
    exact (seg_eq_iff hj hp).1 h
  · intro h
    exact ⟨by omega, (seg_eq_iff (by omega) hp).2 h⟩

/-- Peptide `p` has `p` rows. -/
theorem count_rows (p : ℕ) (hp : p < 800) : ((Finset.range 319600).filter fun j => seg j = p).card = p := by
  rw [rows_of p hp, Nat.card_Ico, first_succ]
  omega

end Cert.Proof

end
-- ==== Proof.Scatter.lean ====
/-
  Two scatters read at an index, at any extents: `M` ones added into a vector of `N`, and `M` rows added into a matrix of
  `N` rows, one index word each.
-/
module

public import Idealize.ShloMosaic.Lib.Routing.Ops
public import Idealize.ShloMosaic.Lib.Routing.OpsPair
public import Idealize.ShloMosaic.PureOps.Ideal.Laws

@[expose] public section

noncomputable section

namespace Cert.Proof

open Idealize.ShloMosaic Idealize.ShloMosaic.Routing Idealize.ShloMosaic.ValueIdx

/-- One of `M` scalars lands at the entry its index word, read signed, names. -/
theorem scalar_lands {N M : ℕ} (wf : ScatterDims.WF (shape1 N) (shape2 M 1) (shape1 M) [] [0] [0] 1) (idx : IVec (shape2 M 1) 32) (i : Fin M) (x : Fin N) :
    (⟨[], [0], [0], 1, wf⟩ : ScatterDims (shape1 N) (shape2 M 1) (shape1 M)).resultIdx? (ix1 i) idx = some (ix1 x)
      ↔ (idx (ix2 i (0 : Fin 1))).toInt = (x.val : Int) := by
  rw [resultIdx?_ix1]
  have hw : (⟨[], [0], [0], 1, wf⟩ : ScatterDims (shape1 N) (shape2 M 1) (shape1 M)).window (ix1 i) 0 = 0 := rfl
  have hs : (⟨[], [0], [0], 1, wf⟩ : ScatterDims (shape1 N) (shape2 M 1) (shape1 M)).start (ix1 i) idx 0 = (idx (ix2 i (0 : Fin 1))).toInt := by
    unfold ScatterDims.start
    rw [dif_pos (List.mem_singleton.2 rfl)]
    refine congrArg (fun q => (idx q).toInt) (funext fun b => Fin.ext ?_)
    match b with
    | ⟨0, _⟩ => rfl
    | ⟨1, _⟩ => rfl
  rw [hw, hs]
  omega

/-- Lane `y` of one of `M` rows lands at lane `y` of the row its index word, read signed, names. -/
theorem row_lands {N M D : ℕ} (wf : ScatterDims.WF (shape2 N D) (shape2 M 1) (shape2 M D) [1] [0] [0] 1) (idx : IVec (shape2 M 1) 32) (i : Fin M) (y : Fin D)
    (x : Fin N) (z : Fin D) :
    (⟨[1], [0], [0], 1, wf⟩ : ScatterDims (shape2 N D) (shape2 M 1) (shape2 M D)).resultIdx? (ix2 i y) idx = some (ix2 x z)
      ↔ (idx (ix2 i (0 : Fin 1))).toInt = (x.val : Int) ∧ y = z := by
  rw [resultIdx?_ix2]
  have hw0 : (⟨[1], [0], [0], 1, wf⟩ : ScatterDims (shape2 N D) (shape2 M 1) (shape2 M D)).window (ix2 i y) 0 = 0 := rfl
  have hw1 : (⟨[1], [0], [0], 1, wf⟩ : ScatterDims (shape2 N D) (shape2 M 1) (shape2 M D)).window (ix2 i y) 1 = y.val := rfl
  have hs0 : (⟨[1], [0], [0], 1, wf⟩ : ScatterDims (shape2 N D) (shape2 M 1) (shape2 M D)).start (ix2 i y) idx 0 = (idx (ix2 i (0 : Fin 1))).toInt := by
    unfold ScatterDims.start
    rw [dif_pos (List.mem_singleton.2 rfl)]
    refine congrArg (fun q => (idx q).toInt) (funext fun b => Fin.ext ?_)
    match b with
    | ⟨0, _⟩ => rfl
    | ⟨1, _⟩ => rfl
  have hs1 : (⟨[1], [0], [0], 1, wf⟩ : ScatterDims (shape2 N D) (shape2 M 1) (shape2 M D)).start (ix2 i y) idx 1 = 0 := rfl
  rw [hw0, hw1, hs0, hs1, Fin.ext_iff]
  omega

/-- A left fold that adds one at each hit counts the hits. -/
theorem foldl_ones {ι : Type} (P : ι → Prop) [DecidablePred P] (u : ι → BitVec 32) (hu : ∀ n, u n = 1#32) (l : List ι) (z : ℕ) :
    l.foldl (fun a n => if P n then IntOp.addi a (u n) else a) (BitVec.ofNat 32 z) = BitVec.ofNat 32 (z + l.countP fun n => decide (P n)) := by
  induction l generalizing z with
  | nil => rfl
  | cons n l ih =>
    rw [List.foldl_cons, List.countP_cons]
    by_cases h : P n
    · rw [if_pos h, hu, show IntOp.addi (BitVec.ofNat 32 z) 1#32 = BitVec.ofNat 32 (z + 1) from (BitVec.ofNat_add z 1).symm, ih,
        if_pos (decide_eq_true h)]
      congr 1
      omega
    · rw [if_neg h, ih, if_neg (by simpa using h)]
      rfl

/-- `M` ones added into zeros: entry `x` is the number of positions whose index is `x`. -/
theorem scatter_ones {N M : ℕ} (wf : ScatterDims.WF (shape1 N) (shape2 M 1) (shape1 M) [] [0] [0] 1) (x0 : IVec (shape1 N) 32) (hx0 : ∀ i, x0 i = 0#32)
    (idx : IVec (shape2 M 1) 32) (upd : IVec (shape1 M) 32) (hupd : ∀ i, upd i = 1#32) (g : ℕ → ℕ)
    (hg : ∀ i : Fin M, idx (ix2 i (0 : Fin 1)) = BitVec.ofNat 32 (g i.val)) (hg31 : ∀ i : Fin M, g i.val < 2 ^ 31) (x : Fin N) :
    Host.scatter (⟨[], [0], [0], 1, wf⟩ : ScatterDims (shape1 N) (shape2 M 1) (shape1 M)) IntOp.addi x0 idx upd (ix1 x)
      = BitVec.ofNat 32 ((Finset.range M).filter fun i => g i = x.val).card := by
  rw [scatter_at, hx0]
  refine (foldl_ones _ (fun n => upd ((shape1 M).rowMajor.symm n)) (fun n => hupd _) _ 0).trans ?_
  rw [Nat.zero_add]
  congr 1
  have e : ∀ n : Fin (shape1 M).numel, (⟨[], [0], [0], 1, wf⟩ : ScatterDims (shape1 N) (shape2 M 1) (shape1 M)).resultIdx? ((shape1 M).rowMajor.symm n) idx = some (ix1 x)
      ↔ g n.val = x.val := fun n => by
    rw [symm1, scalar_lands wf, hg, StableHlo.Predicate.toInt_ofNat_small _ (hg31 _)]
    show ((g n.val : ℕ) : Int) = _ ↔ _
    omega
  rw [List.countP_congr (q := fun n => decide (g n.val = x.val)) (fun n _ => by rw [decide_eq_true_iff, decide_eq_true_iff]; exact e n),
    countP_finRange (shape1 M).numel (fun i => g i = x.val), numel1, Nat.count_eq_card_filter_range]

/-- `M` rows added into a matrix, over the extended reals: lane `z` of row `x` gains the sum of lane `z` of the rows whose index is `x`. -/
theorem scatter_rows {N M D : ℕ} (wf : ScatterDims.WF (shape2 N D) (shape2 M 1) (shape2 M D) [1] [0] [0] 1) (x0 : FVec Ideal (shape2 N D) .f32)
    (idx : IVec (shape2 M 1) 32) (upd : FVec Ideal (shape2 M D) .f32) (g : ℕ → ℕ)
    (hg : ∀ i : Fin M, idx (ix2 i (0 : Fin 1)) = BitVec.ofNat 32 (g i.val)) (hg31 : ∀ i : Fin M, g i.val < 2 ^ 31) (x : Fin N) (z : Fin D) :
    Host.scatterAdd (F := Ideal) (⟨[1], [0], [0], 1, wf⟩ : ScatterDims (shape2 N D) (shape2 M 1) (shape2 M D)) x0 idx upd (ix2 x z)
      = (x0 (ix2 x z) + ∑ i ∈ Finset.univ.filter (fun i : Fin M => g i.val = x.val), upd (ix2 i z) : EReal) := by
  show (x0 (ix2 x z) + ∑ j ∈ Finset.univ.filter (fun j => ScatterDims.resultIdx? _ j idx = some (ix2 x z)), upd j : EReal) = _
  congr 1
  have e : ∀ (i : Fin M) (y : Fin D), (⟨[1], [0], [0], 1, wf⟩ : ScatterDims (shape2 N D) (shape2 M 1) (shape2 M D)).resultIdx? (ix2 i y) idx = some (ix2 x z)
      ↔ g i.val = x.val ∧ y = z := fun i y => by
    rw [row_lands wf, hg, StableHlo.Predicate.toInt_ofNat_small _ (hg31 _)]
    omega
  refine (Finset.sum_bij (fun (i : Fin M) _ => (ix2 i z : (shape2 M D).Idx)) ?_ ?_ ?_ ?_).symm
  · intro i hi
    exact Finset.mem_filter.2 ⟨Finset.mem_univ _, (e i z).2 ⟨(Finset.mem_filter.1 hi).2, rfl⟩⟩
  · intro i _ i' _ h
    exact congrFun h 0
  · intro j hj
    have hj' := (Finset.mem_filter.1 hj).2
    have ej : j = ix2 (⟨(j 0).val, (j 0).isLt⟩ : Fin M) (⟨(j 1).val, (j 1).isLt⟩ : Fin D) := by
      funext a
      match a with
      | ⟨0, _⟩ => rfl
      | ⟨1, _⟩ => rfl
    rw [ej] at hj'
    obtain ⟨h1, h2⟩ := (e _ _).1 hj'
    exact ⟨⟨(j 0).val, (j 0).isLt⟩, Finset.mem_filter.2 ⟨Finset.mem_univ _, h1⟩, by rw [← h2]; exact ej.symm⟩
  · intro i _
    rfl

end Cert.Proof

end
-- ==== Proof.Repeat.lean ====
/-
  The reference's integer part, read at an index. It repeats the peptide numbers by their sizes: the sizes shifted by one
  and summed are the first rows; ones added at the first rows, summed, less one, are the peptide numbers of the rows. From
  sizes 0, 1, 2, … this gives `first` and `seg`, and the sizes that it then counts are the sizes it began with.
-/
module

public import proofs.«01_k».proof.Proof.Gen.ReferenceIdeal
public import proofs.«01_k».proof.Proof.Segments
public import proofs.«01_k».proof.Proof.Scatter
public import Idealize.ShloMosaic.Lib.Routing.OpsSet
public import Idealize.ShloMosaic.Lib.Routing.OpsSearch
public import Idealize.ShloMosaic.Lib.ReduceAll
public import Idealize.ShloMosaic.Lib.Pipeline.Value

@[expose] public section

noncomputable section

namespace Cert.Proof.Ref

open Cert.ReferenceIdeal Cert.ReferenceIdeal.Gen
open Idealize.ShloMosaic Idealize.ShloMosaic.Routing Idealize.ShloMosaic.ValueIdx Idealize.ShloMosaic.WordCmp

/-! ## The terms -/

/-- The sizes turned by one place. -/
def turned (v : IVec S800 32) : IVec S800 32 :=
  concatenate S800 0 [⟨S1, extractStridedSlice S1 ![799] v slices_S800_S1_799⟩, ⟨S799, extractStridedSlice S799 ![0] v slices_S800_S799_0⟩]
    concatenates_S1_S799_S800_d0

/-- The first of them set to zero. -/
def shifted (v : IVec S800 32) : IVec S800 32 :=
  Host.scatter scatter_S800_S1_S__n_0_0_0 (fun _ b => b) (turned v) (broadcastInDim S1 ![] bcast_S_S1 (constantI S_ 32 0#32)) (constantI S_ 32 0#32)

/-- Their running sums: the first rows. -/
def offs (v : IVec S800 32) : IVec S800 32 :=
  Host.reduceWindow IntOp.addi ![800] ![1] ![799] ![0] (shifted v) (broadcastInDim S_ ![] bcast_S_S_ (constantI S_ 32 0#32))
    reduceWindows_S800_S800_w800s1p799_0 h_S_

/-- The first rows as a column of indices. -/
def offsCol (o : IVec S800 32) : IVec S800x1 32 :=
  broadcastInDim S800x1 ![0] bcast_S800_S800x1_0
    (select (cmpi .slt o (broadcastInDim S800 ![] bcast_S_S800 (constantI S_ 32 0#32)))
      (addi o (broadcastInDim S800 ![] bcast_S_S800 (constantI S_ 32 319600#32))) o)

/-- How many peptides begin at each row. -/
def starts (o : IVec S800 32) : IVec S319600 32 :=
  Host.scatter scatter_S319600_S800x1_S800_n_0_0_1 IntOp.addi (broadcastInDim S319600 ![] bcast_S_S319600 (constantI S_ 32 0#32)) (offsCol o)
    (broadcastInDim S800 ![] bcast_S_S800 (constantI S_ 32 1#32))

/-- Their running sums, less one: the rows' peptides. -/
def ids (o : IVec S800 32) : IVec S319600 32 :=
  subi (Host.reduceWindow IntOp.addi ![319600] ![1] ![319599] ![0] (starts o) (broadcastInDim S_ ![] bcast_S_S_ (constantI S_ 32 0#32))
    reduceWindows_S319600_S319600_w319600s1p319599_0 h_S_) (broadcastInDim S319600 ![] bcast_S_S319600 (constantI S_ 32 1#32))

/-- The same as a column of indices. -/
def idsCol (i : IVec S319600 32) : IVec S319600x1 32 :=
  broadcastInDim S319600x1 ![0] bcast_S319600_S319600x1_0
    (select (cmpi .slt i (broadcastInDim S319600 ![] bcast_S_S319600 (constantI S_ 32 0#32)))
      (addi i (broadcastInDim S319600 ![] bcast_S_S319600 (constantI S_ 32 800#32))) i)

/-- Which of them are peptides. -/
def inRange (c : IVec S319600x1 32) : IVec S319600 1 :=
  Host.reduce IntOp.andi
    (andi (cmpi .sge c (broadcastInDim S319600x1 ![] bcast_S_S319600x1 (constantI S_ 32 0#32)))
      (cmpi .sle c (broadcastInDim S319600x1 ![0, 1] bcast_S1x1_S319600x1_0_1 (broadcastInDim S1x1 ![1] bcast_S1_S1x1_1 (constantI S1 32 799#32)))))
    (constantI S_ 1 1#1) reducesTo_S319600x1_S319600_d1 h_S_

/-- The peptide numbers taken at them, as a column. -/
def taken (c : IVec S319600x1 32) : IVec S319600x1 32 :=
  broadcastInDim S319600x1 ![0] bcast_S319600_S319600x1_0
    (select (inRange c) (Host.gather gather_S800_S319600x1_S319600_n_0_n_n_0_1_1 (iotaInDim S800 32 0) c)
      (broadcastInDim S319600 ![] bcast_S_S319600 (constantI S_ 32 2147483648#32)))

/-- The peptides' numbers of nodes. -/
def counted (t : IVec S319600x1 32) (r : IVec S319600 32) : IVec S800 32 :=
  Host.scatter scatter_S800_S319600x1_S319600_n_0_0_1 IntOp.addi (broadcastInDim S800 ![] bcast_S_S800 (constantI S_ 32 0#32)) t r

/-! ## Their values -/

/-- An index wrapped as jnp wraps it is itself when it is no negative word. -/
theorem wrap_ofNat (a : BitVec 32) (n : ℕ) (h : n < 2 ^ 31) : Scalar.select (IntOp.cmpi .slt (BitVec.ofNat 32 n) 0#32) a (BitVec.ofNat 32 n) = BitVec.ofNat 32 n :=
  wrap_of_lt _ _ (by rw [BitVec.toNat_ofNat]; omega)

section
variable (v : IVec S800 32) (hv : ∀ i : Fin 800, v (ix1 i) = BitVec.ofNat 32 i.val)
include hv

theorem turned_ap (i : Fin 800) (h : i.val ≠ 0) : turned v (ix1 i) = BitVec.ofNat 32 (i.val - 1) := by
  have hi := i.isLt
  unfold turned
  rw [concatenate_pair_apply_right (t := S800) (s₁ := S1) (s₂ := S799) 0 _ _ concatenates_S1_S799_S800_d0 (ix1 i) rfl rfl
    (ix1 (⟨i.val - 1, by omega⟩ : Fin 799)) (fun b hb => absurd (Subsingleton.elim _ _) hb) (by show i.val - 1 + 1 = i.val; omega)]
  refine (slice1 (m := 800) (n := 799) 0 v slices_S800_S799_0 ⟨i.val - 1, by omega⟩ (by show 0 + (i.val - 1) < 800; omega)).trans ?_
  rw [hv]
  show BitVec.ofNat 32 (0 + (i.val - 1)) = _
  rw [Nat.zero_add]

theorem shifted_ap (i : Fin 800) : shifted v (ix1 i) = BitVec.ofNat 32 (if i.val = 0 then 0 else i.val - 1) := by
  have key : ∀ k : S_.Idx, scatter_S800_S1_S__n_0_0_0.resultIdx? k (broadcastInDim S1 ![] bcast_S_S1 (constantI S_ 32 0#32)) = some (ix1 i) ↔ i.val = 0 := fun k => by
    refine (resultIdx?_ix1 (N := 800) _ _ _ _).trans ?_
    have hw : scatter_S800_S1_S__n_0_0_0.window k 0 = 0 := rfl
    have hs : scatter_S800_S1_S__n_0_0_0.start k (broadcastInDim S1 ![] bcast_S_S1 (constantI S_ 32 0#32)) 0 = 0 := by
      unfold ScatterDims.start
      split
      · rfl
      · rfl
    rw [hw, hs]
    omega
  unfold shifted
  by_cases h : i.val = 0
  · rw [if_pos h]
    exact scatter_set_hit _ _ _ (constantI S_ 32 0#32) (ix1 i) 0#32 (fun _ _ => rfl) ix0 ((key _).2 h)
  · rw [if_neg h, scatter_set_miss _ _ _ _ (ix1 i) (fun k hk => h ((key k).1 hk)), turned_ap v hv i h]

/-- The first rows. -/
theorem offs_ap (i : Fin 800) : offs v (ix1 i) = BitVec.ofNat 32 (first i.val) := by
  unfold offs
  refine (cumsum1 (N := 800) (Nm1 := 799) rfl (shifted v) (fun k => if k = 0 then 0 else k - 1) (shifted_ap v hv) _ rfl
    reduceWindows_S800_S800_w800s1p799_0 h_S_ i).trans ?_
  exact congrArg (BitVec.ofNat 32) (sum_sizes i.val)

end

theorem first_lt {i : ℕ} (h : i < 800) : first i < 2 ^ 31 := by
  have := first_mono (show i ≤ 800 by omega)
  rw [first_800] at this
  omega

section
variable (o : IVec S800 32) (ho : ∀ i : Fin 800, o (ix1 i) = BitVec.ofNat 32 (first i.val))
include ho

theorem offsCol_ap (i : Fin 800) : offsCol o (ix2 i (0 : Fin 1)) = BitVec.ofNat 32 (first i.val) := by
  unfold offsCol
  refine (bcCol (n := 800) bcast_S800_S800x1_0 _ i).trans ?_
  show Scalar.select (IntOp.cmpi .slt (o (ix1 i)) 0#32) _ (o (ix1 i)) = _
  rw [ho]
  exact wrap_ofNat _ _ (first_lt i.isLt)

theorem starts_ap (j : Fin 319600) : starts o (ix1 j) = BitVec.ofNat 32 ((Finset.range 800).filter fun p => first p = j.val).card := by
  unfold starts
  exact scatter_ones (N := 319600) (M := 800) _ _ (fun _ => rfl) (offsCol o) _ (fun _ => rfl) first (offsCol_ap o ho) (fun i => first_lt i.isLt) j

/-- The rows' peptides. -/
theorem ids_ap (j : Fin 319600) : ids o (ix1 j) = BitVec.ofNat 32 (seg j.val) := by
  have e := (cumsum1 (N := 319600) (Nm1 := 319599) rfl (starts o) (fun k => ((Finset.range 800).filter fun p => first p = k).card) (starts_ap o ho)
    (broadcastInDim S_ ![] bcast_S_S_ (constantI S_ 32 0#32)) rfl reduceWindows_S319600_S319600_w319600s1p319599_0 h_S_ j).trans
    (congrArg (BitVec.ofNat 32) (sum_starts j.val))
  unfold ids
  show _ - 1#32 = _
  rw [e]
  have := seg_lt j.val
  rw [StableHlo.Predicate.sub_one_ofNat _ (by omega) (by omega)]
  rfl

end

theorem seg_small (j : ℕ) : seg j < 2 ^ 31 := by have := seg_lt j; omega

section
variable (i : IVec S319600 32) (hi : ∀ j : Fin 319600, i (ix1 j) = BitVec.ofNat 32 (seg j.val))
include hi

theorem idsCol_ap (j : Fin 319600) : idsCol i (ix2 j (0 : Fin 1)) = BitVec.ofNat 32 (seg j.val) := by
  unfold idsCol
  refine (bcCol (n := 319600) bcast_S319600_S319600x1_0 _ j).trans ?_
  show Scalar.select (IntOp.cmpi .slt (i (ix1 j)) 0#32) _ (i (ix1 j)) = _
  rw [hi]
  exact wrap_ofNat _ _ (seg_small _)

end

section
variable (c : IVec S319600x1 32) (hc : ∀ j : Fin 319600, c (ix2 j (0 : Fin 1)) = BitVec.ofNat 32 (seg j.val))
include hc

theorem inRange_ap (j : S319600.Idx) : inRange c j = 1#1 := by
  unfold inRange
  refine Host.reduce_andi_one _ _ _ _ _ rfl fun q => ?_
  obtain ⟨p, rfl⟩ : ∃ p : Fin 319600, q = ix2 p (0 : Fin 1) := ⟨⟨(q 0).val, (q 0).isLt⟩, by
    funext a
    match a with
    | ⟨0, _⟩ => rfl
    | ⟨1, _⟩ => exact Fin.ext (Nat.lt_one_iff.1 (q 1).isLt)⟩
  have hs := seg_lt p.val
  show IntOp.andi (IntOp.cmpi .sge (c (ix2 p (0 : Fin 1))) (BitVec.ofNat 32 0)) (IntOp.cmpi .sle (c (ix2 p (0 : Fin 1))) (BitVec.ofNat 32 799)) = 1#1
  rw [hc, cmpi_sge_ofNat (w := 32) (by have := seg_small p.val; omega) (by omega), cmpi_sle_ofNat (w := 32) (by have := seg_small p.val; omega) (by omega),
    decide_eq_true (Nat.zero_le _), decide_eq_true (by omega : seg p.val ≤ 799)]
  rfl

/-- The peptide numbers taken are the rows' peptides. -/
theorem taken_ap (j : Fin 319600) : taken c (ix2 j (0 : Fin 1)) = BitVec.ofNat 32 (seg j.val) := by
  unfold taken
  refine (bcCol (n := 319600) bcast_S319600_S319600x1_0 _ j).trans ?_
  show Scalar.select (inRange c (ix1 j)) (Host.gather gather_S800_S319600x1_S319600_n_0_n_n_0_1_1 (iotaInDim S800 32 0) c (ix1 j)) _ = _
  rw [inRange_ap c hc]
  refine (take_ap (N := 800) (n := 319600) gather_S800_S319600x1_S319600_n_0_n_n_0_1_1 rfl rfl rfl rfl (iotaInDim S800 32 0) c j (seg_lt j.val) (seg_small _) (hc j)).trans ?_
  rfl

end

/-- Counted again, the sizes are what they were. -/
theorem counted_ap (t : IVec S319600x1 32) (ht : ∀ j : Fin 319600, t (ix2 j (0 : Fin 1)) = BitVec.ofNat 32 (seg j.val)) (r : IVec S319600 32)
    (hr : ∀ j, r j = 1#32) (p : Fin 800) : counted t r (ix1 p) = BitVec.ofNat 32 p.val := by
  unfold counted
  refine (scatter_ones (N := 800) (M := 319600) _ _ (fun _ => rfl) t r hr seg ht (fun j => seg_small _) p).trans ?_
  rw [count_rows p.val p.isLt]

/-- From sizes 0, 1, 2, … the column of indices is the rows' peptides. -/
theorem column_ap (v : IVec S800 32) (hv : ∀ i : Fin 800, v (ix1 i) = BitVec.ofNat 32 i.val) (j : Fin 319600) :
    taken (idsCol (ids (offs v))) (ix2 j (0 : Fin 1)) = BitVec.ofNat 32 (seg j.val) :=
  taken_ap _ (idsCol_ap _ (ids_ap _ (offs_ap v hv))) j

end Cert.Proof.Ref

end
-- ==== Proof.RefValue.lean ====
/-
  The reference's result over the extended reals when the sizes are 0, 1, 2, … and every node counts one: row `p` is the
  sum of the rows `first p`, …, `first (p + 1) - 1` of the array. And the precondition read as those two facts.
-/
module

public import proofs.«01_k».proof.Defs
public import proofs.«01_k».proof.Proof.Gen.Pre_sizes
public import proofs.«01_k».proof.Proof.Gen.ReferenceIdeal.Run
public import proofs.«01_k».proof.Proof.Repeat

@[expose] public section

noncomputable section

namespace Cert.Proof.Ref

open Cert.ReferenceIdeal Cert.ReferenceIdeal.Gen
open Idealize.ShloMosaic Idealize.ShloMosaic.Routing Idealize.ShloMosaic.ValueIdx Idealize.ShloMosaic.StableHlo

/-! ## The result -/

/-- Row `p` of the sum by peptide. -/
def perPeptide (N : S319600x128.Idx → Ideal .f32) : S800x128.Idx → Ideal .f32 := fun i =>
  (∑ r ∈ Finset.Ico (first (i 0).val) (first ((i 0).val + 1)), N (ix2 (Fin.ofNat 319600 r) (⟨(i 1).val, (i 1).isLt⟩ : Fin 128)) : EReal)

/-- Rows added at their peptides, from zero. -/
def summed (t : IVec S319600x1 32) (N : S319600x128.Idx → Ideal .f32) : S800x128.Idx → Ideal .f32 :=
  Host.scatterAdd scatter_S800x128_S319600x1_S319600x128_1_0_0_1 (broadcastInDim S800x128 ![] bcast_S_S800x128 (constant (F := Ideal) S_ .f32 0x00000000#32)) t N

theorem summed_ap (t : IVec S319600x1 32) (ht : ∀ j : Fin 319600, t (ix2 j (0 : Fin 1)) = BitVec.ofNat 32 (seg j.val)) (N : S319600x128.Idx → Ideal .f32) :
    summed t N = perPeptide N := by
  funext i
  obtain ⟨p, z, rfl⟩ : ∃ (p : Fin 800) (z : Fin 128), i = ix2 p z := ⟨⟨(i 0).val, (i 0).isLt⟩, ⟨(i 1).val, (i 1).isLt⟩, by
    funext a
    match a with
    | ⟨0, _⟩ => rfl
    | ⟨1, _⟩ => rfl⟩
  unfold summed
  refine (scatter_rows (N := 800) (M := 319600) (D := 128) _ _ t N seg ht (fun j => seg_small _) p z).trans ?_
  have h0 : (broadcastInDim S800x128 ![] bcast_S_S800x128 (constant (F := Ideal) S_ .f32 0x00000000#32)) (ix2 p z) = (0 : EReal) := Ideal.ofBits_zero_f32
  rw [h0, zero_add]
  show _ = (∑ r ∈ Finset.Ico (first p.val) (first (p.val + 1)), N (ix2 (Fin.ofNat 319600 r) z) : EReal)
  rw [← rows_of p.val p.isLt, Finset.sum_filter, Finset.sum_filter,
    ← Fin.sum_univ_eq_sum_range (fun r => (if seg r = p.val then N (ix2 (Fin.ofNat 319600 r) z) else 0 : EReal)) 319600]
  refine Finset.sum_congr rfl fun r _ => ?_
  rw [show Fin.ofNat 319600 r.val = r from Fin.ext (Nat.mod_eq_of_lt r.isLt)]

/-! ## The run -/

/-- The sizes counted from the first round. -/
theorem counted_eq (V : Valuation τ sig (Elt Ideal)) :
    Value.res_main_v20 (F := Ideal) V = counted (taken (idsCol (ids (offs (V (Proc.devRef .tc main_arg1)))))) (V (Proc.devRef .tc main_arg2)) := rfl

/-- The column of indices from the second round. -/
theorem column_eq (V : Valuation τ sig (Elt Ideal)) :
    Value.res_main_call7_v5 (F := Ideal) V = idsCol (ids (offs (Value.res_main_v20 (F := Ideal) V))) := rfl

/-- When the sizes are 0, 1, 2, … and every node counts one, the reference leaves the sum by peptide. -/
theorem run_value (m : (ℓ : Loc nD τ sig) → Buf (Elt Ideal) ℓ) (ρ : Dev nD → PrngReg)
    (h1 : ∀ (c : Dev nD) (i : Fin 800), (m ((c.tc : Thread nD τ).loc main_arg1) : IVec S800 32) (ix1 i) = BitVec.ofNat 32 i.val)
    (h2 : ∀ (c : Dev nD) (i : S319600.Idx), (m ((c.tc : Thread nD τ).loc main_arg2) : IVec S319600 32) i = 1#32) :
    θ_run (defs (F := Ideal)) (onTc (τ := τ) (main (F := Ideal))) ⟨m, fun _ => 0, ρ⟩ fun r => ∀ c : Dev nD,
      r.2.mem ((c.tc : Thread nD τ).loc main_v41) = perPeptide (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run (F := Ideal) m ρ)
  have hs : ∀ i : Fin 800, (Value.res_main_v20 (F := Ideal) (launchContents m c) : IVec S800 32) (ix1 i) = BitVec.ofNat 32 i.val := fun i => by
    rw [counted_eq]
    exact counted_ap _ (column_ap _ (h1 c)) _ (h2 c) i
  have ht := column_ap _ hs
  rw [← column_eq] at ht
  exact summed_ap _ ht _

/-! ## The precondition -/

instance : Subsingleton Cert.Pre_sizes.S_.Idx := ⟨fun a b => funext fun d => d.elim0⟩

/-- The precondition says that the sizes are 0, 1, 2, … -/
theorem sizes_of_pre (N : FVec Ideal Cert.Pre_sizes.S319600x128 .f32) (v : IVec Cert.Pre_sizes.S800 32) (r : IVec Cert.Pre_sizes.S319600 32)
    (h : Cert.Pre_sizes.fn (F := Ideal) N v r = fun _ => 1#1) : (∀ i : Fin 800, v (ix1 i) = BitVec.ofNat 32 i.val) ∧ ∀ i, r i = 1#32 := by
  have h' := IntOp.andi_eq_one.1 (congrFun h ix0)
  exact ⟨fun i => Predicate.cmpi_eq_iff.1 (Host.reduce_andi_all _ _ _ _ ix0 h'.1 (ix1 i)),
    fun i => Predicate.cmpi_eq_iff.1 (Host.reduce_andi_all _ _ _ _ ix0 h'.2 i)⟩

end Cert.Proof.Ref

end
-- ==== Proof.Algebraic.lean ====
/-
  The value claim: over the extended reals, when the sizes are 0, 1, 2, … and every node counts one, the kernel and the
  reference both leave the sum of each peptide's rows.
-/
module

public import proofs.«01_k».proof.Proof.Algebra
public import proofs.«01_k».proof.Proof.Run
public import proofs.«01_k».proof.Proof.RefValue

@[expose] public section

noncomputable section

namespace Cert.Proof

open Idealize.ShloMosaic

/-- The two sums by peptide are one. -/
theorem readout_eq (N : Cert.KernelIdeal.S319600x128.Idx → Ideal .f32) : readout N = Ref.perPeptide N := rfl

/-- The value claim. -/
theorem algebraic :
    Cert.algebraic_KernelIdeal_ReferenceIdeal_pre_sizes (hKernelIdeal := Cert.KernelIdeal.Gen.facts) (hReferenceIdeal := Cert.ReferenceIdeal.Gen.facts)
      (hPre_sizes := Cert.Pre_sizes.Gen.facts) := by
  intro m g m' g' hpre hargs
  refine ⟨fun c => readout (m (aLoc c)), ?_, ?_⟩
  · refine (θ_run Cert.KernelIdeal.defs _ _).mono (fun r h c => ?_) (run_main (F := Ideal) m g)
    obtain ⟨h0, Z, hZ, h4⟩ := h.1 c
    exact ⟨h4.trans (result_ideal _ Z hZ), h0⟩
  · have hp := fun c => Ref.sizes_of_pre _ _ _ (hpre c)
    refine (θ_run Cert.ReferenceIdeal.defs _ _).mono (fun r h c => ⟨(h c).1.trans ?_, (h c).2⟩)
      (Ref.run_value m' g' (fun c i => ?_) (fun c i => ?_))
    · rw [(hargs c).2.1]
      exact (hp c).1 i
    · rw [(hargs c).2.2]
      exact (hp c).2 i
    · rw [(hargs c).1]
      exact (readout_eq _).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_sizes
public import proofs.«01_k».proof.Proof.Same
public import proofs.«01_k».proof.Proof.RefFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Pre_sizes.Gen.facts,
  frame_kernel, frame_kernelIdeal, fun m g _ => frame_kernelIdeal m g trivial, frame_reference, fun m g _ => frame_reference m g trivial, trivial, algebraic⟩

end Cert.Proof

end
